-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_apart_from_zero [hPre_labels_apart_from_zero : Cert.Pre_labels_apart_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_labels_apart_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_apart_from_zero [hPre_labels_apart_from_zero : Cert.Pre_labels_apart_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_apart_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_apart_from_zero [hKernelIdeal : Cert.KernelIdeal.Facts] [hPre_labels_apart_from_zero : Cert.Pre_labels_apart_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_apart_from_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_apart_from_zero [hReferenceIdeal : Cert.ReferenceIdeal.Facts] [hPre_labels_apart_from_zero : Cert.Pre_labels_apart_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_apart_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_l" .f32 0x3CA3D70A#32 ((1 / 50 : ℝ) : EReal)

def algebraic_KernelIdeal_ReferenceIdeal_pre_labels_apart_from_zero [hKernelIdeal : Cert.KernelIdeal.Facts] [hReferenceIdeal : Cert.ReferenceIdeal.Facts] [hPre_labels_apart_from_zero : Cert.Pre_labels_apart_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_apart_from_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_apart_from_zero : Cert.Pre_labels_apart_from_zero.Facts),
    quiescent_Kernel (hKernel := hKernel)
    ∧ quiescent_KernelIdeal (hKernelIdeal := hKernelIdeal)
    ∧ quiescent_KernelIdeal_pre_labels_apart_from_zero (hKernelIdeal := hKernelIdeal) (hPre_labels_apart_from_zero := hPre_labels_apart_from_zero)
    ∧ quiescent_ReferenceIdeal (hReferenceIdeal := hReferenceIdeal)
    ∧ quiescent_ReferenceIdeal_pre_labels_apart_from_zero (hReferenceIdeal := hReferenceIdeal) (hPre_labels_apart_from_zero := hPre_labels_apart_from_zero)
    ∧ preserves_Kernel_KernelIdeal
    ∧ algebraic_KernelIdeal_ReferenceIdeal_pre_labels_apart_from_zero (hKernelIdeal := hKernelIdeal) (hReferenceIdeal := hReferenceIdeal) (hPre_labels_apart_from_zero := hPre_labels_apart_from_zero)
-- ==== Pre_labels_apart_from_zero.lean ====
abbrev S128x128 : Shape := ⟨2, ![128, 128]⟩
abbrev S128x50x2 : Shape := ⟨3, ![128, 50, 2]⟩
abbrev S65536x256 : Shape := ⟨2, ![65536, 256]⟩
abbrev S256x128 : Shape := ⟨2, ![256, 128]⟩
abbrev S65536x50x2 : Shape := ⟨3, ![65536, 50, 2]⟩
abbrev S6554x50x2 : Shape := ⟨3, ![6554, 50, 2]⟩
abbrev S128x50x1 : Shape := ⟨3, ![128, 50, 1]⟩
abbrev S128x50 : Shape := ⟨2, ![128, 50]⟩
abbrev S6554x50x1 : Shape := ⟨3, ![6554, 50, 1]⟩
abbrev S6554x50 : Shape := ⟨2, ![6554, 50]⟩
abbrev S_ : Shape := ⟨0, ![]⟩

class Facts : Prop where
  slicesBy_S65536x50x2_S6554x50x2_0s10_0s1_0s1 : S65536x50x2.SlicesBy (![0, 0, 0] : Fin 3 → Nat) ![10, 1, 1] S6554x50x2
  slices_S128x50x2_S128x50x1_0_0_0 : S128x50x2.Slices ![0, 0, 0] S128x50x1
  shapeCasts_S128x50x1_S128x50 : S128x50x1.ShapeCasts S128x50
  slices_S128x50x2_S128x50x1_0_0_1 : S128x50x2.Slices ![0, 0, 1] S128x50x1
  slices_S6554x50x2_S6554x50x1_0_0_0 : S6554x50x2.Slices ![0, 0, 0] S6554x50x1
  shapeCasts_S6554x50x1_S6554x50 : S6554x50x1.ShapeCasts S6554x50
  slices_S6554x50x2_S6554x50x1_0_0_1 : S6554x50x2.Slices ![0, 0, 1] S6554x50x1
  bcast_S_S6554x50x2 : S_.BroadcastsInDim S6554x50x2 (![] : Fin 0 → Fin S6554x50x2.rank)
  reducesTo_S6554x50x2_S_d0_1_2 : S6554x50x2.ReducesTo [0, 1, 2] S_
  h_S_ : 0 < S_.numel
  bcast_S_S128x50 : S_.BroadcastsInDim S128x50 (![] : Fin 0 → Fin S128x50.rank)
  reducesTo_S128x50_S_d0_1 : S128x50.ReducesTo [0, 1] S_
  bcast_S_S6554x50 : S_.BroadcastsInDim S6554x50 (![] : Fin 0 → Fin S6554x50.rank)
  reducesTo_S6554x50_S_d0_1 : S6554x50.ReducesTo [0, 1] S_

variable [Facts]

def fn_part2 {F : FTy → Type} [FloatOps F] (main_v33 : IVec S_ 1) (main_v39 : IVec S_ 1) : IVec S_ 1 :=
  let main_v40 : IVec S_ 1 := andi main_v33 main_v39
  main_v40

def fn_part1 {F : FTy → Type} [FloatOps F] (main_v11 : FVec F S128x50 .f32) (main_v22 : FVec F S6554x50 .f32) (main_v23 : FVec F S6554x50x2 .f32) : IVec S_ 1 :=
  let main_cst : FVec F S_ .f32 := constant S_ .f32 0x7F800000#32
  let main_v24 : FVec F S6554x50x2 .f32 := broadcastInDim S6554x50x2 ![] bcast_S_S6554x50x2 main_cst
  let main_v25 : IVec S6554x50x2 1 := cmpf .olt main_v23 main_v24
  let main_c : IVec S_ 1 := constantI S_ 1 1#1
  let main_v26 : IVec S_ 1 := (fun x v => Host.reduce IntOp.andi x v reducesTo_S6554x50x2_S_d0_1_2 h_S_) main_v25 main_c
  let main_cst_0 : FVec F S_ .f32 := constant S_ .f32 0x00000000#32
  let main_v27 : FVec F S128x50 .f32 := broadcastInDim S128x50 ![] bcast_S_S128x50 main_cst_0
  let main_v28 : IVec S128x50 1 := cmpf .oeq main_v11 main_v27
  let main_cst_1 : FVec F S_ .f32 := constant S_ .f32 0x322BCC77#32
  let main_v29 : FVec F S128x50 .f32 := broadcastInDim S128x50 ![] bcast_S_S128x50 main_cst_1
  let main_v30 : IVec S128x50 1 := cmpf .oge main_v11 main_v29
  let main_v31 : IVec S128x50 1 := ori main_v28 main_v30
  let main_c_2 : IVec S_ 1 := constantI S_ 1 1#1
  let main_v32 : IVec S_ 1 := (fun x v => Host.reduce IntOp.andi x v reducesTo_S128x50_S_d0_1 h_S_) main_v31 main_c_2
  let main_v33 : IVec S_ 1 := andi main_v26 main_v32
  let main_cst_3 : FVec F S_ .f32 := constant S_ .f32 0x00000000#32
  let main_v34 : FVec F S6554x50 .f32 := broadcastInDim S6554x50 ![] bcast_S_S6554x50 main_cst_3
  let main_v35 : IVec S6554x50 1 := cmpf .oeq main_v22 main_v34
  let main_cst_4 : FVec F S_ .f32 := constant S_ .f32 0x322BCC77#32
  let main_v36 : FVec F S6554x50 .f32 := broadcastInDim S6554x50 ![] bcast_S_S6554x50 main_cst_4
  let main_v37 : IVec S6554x50 1 := cmpf .oge main_v22 main_v36
  let main_v38 : IVec S6554x50 1 := ori main_v35 main_v37
  let main_c_5 : IVec S_ 1 := constantI S_ 1 1#1
  let main_v39 : IVec S_ 1 := (fun x v => Host.reduce IntOp.andi x v reducesTo_S6554x50_S_d0_1 h_S_) main_v38 main_c_5
  fn_part2 (F := F) main_v33 main_v39

def fn {F : FTy → Type} [FloatOps F] (main_arg0 : FVec F S128x128 .f32) (main_arg1 : FVec F S128x50x2 .f32) (main_arg2 : FVec F S65536x256 .f32) (main_arg3 : FVec F S256x128 .f32) (main_arg4 : FVec F S256x128 .f32) (main_arg5 : FVec F S65536x50x2 .f32) : IVec S_ 1 :=
  let main_v0 : FVec F S6554x50x2 .f32 := (Host.slice S6554x50x2 ![0, 0, 0] ![10, 1, 1] · slicesBy_S65536x50x2_S6554x50x2_0s10_0s1_0s1) main_arg5
  let main_v1 : FVec F S128x50x1 .f32 := (extractStridedSlice S128x50x1 ![0, 0, 0] · slices_S128x50x2_S128x50x1_0_0_0) main_arg1
  let main_v2 : FVec F S128x50 .f32 := shapeCast S128x50 main_v1 shapeCasts_S128x50x1_S128x50
  let main_v3 : FVec F S128x50x1 .f32 := (extractStridedSlice S128x50x1 ![0, 0, 0] · slices_S128x50x2_S128x50x1_0_0_0) main_arg1
  let main_v4 : FVec F S128x50 .f32 := shapeCast S128x50 main_v3 shapeCasts_S128x50x1_S128x50
  let main_v5 : FVec F S128x50 .f32 := mulf main_v2 main_v4
  let main_v6 : FVec F S128x50x1 .f32 := (extractStridedSlice S128x50x1 ![0, 0, 1] · slices_S128x50x2_S128x50x1_0_0_1) main_arg1
  let main_v7 : FVec F S128x50 .f32 := shapeCast S128x50 main_v6 shapeCasts_S128x50x1_S128x50
  let main_v8 : FVec F S128x50x1 .f32 := (extractStridedSlice S128x50x1 ![0, 0, 1] · slices_S128x50x2_S128x50x1_0_0_1) main_arg1
  let main_v9 : FVec F S128x50 .f32 := shapeCast S128x50 main_v8 shapeCasts_S128x50x1_S128x50
  let main_v10 : FVec F S128x50 .f32 := mulf main_v7 main_v9
  let main_v11 : FVec F S128x50 .f32 := addf main_v5 main_v10
  let main_v12 : FVec F S6554x50x1 .f32 := (extractStridedSlice S6554x50x1 ![0, 0, 0] · slices_S6554x50x2_S6554x50x1_0_0_0) main_v0
  let main_v13 : FVec F S6554x50 .f32 := shapeCast S6554x50 main_v12 shapeCasts_S6554x50x1_S6554x50
  let main_v14 : FVec F S6554x50x1 .f32 := (extractStridedSlice S6554x50x1 ![0, 0, 0] · slices_S6554x50x2_S6554x50x1_0_0_0) main_v0
  let main_v15 : FVec F S6554x50 .f32 := shapeCast S6554x50 main_v14 shapeCasts_S6554x50x1_S6554x50
  let main_v16 : FVec F S6554x50 .f32 := mulf main_v13 main_v15
  let main_v17 : FVec F S6554x50x1 .f32 := (extractStridedSlice S6554x50x1 ![0, 0, 1] · slices_S6554x50x2_S6554x50x1_0_0_1) main_v0
  let main_v18 : FVec F S6554x50 .f32 := shapeCast S6554x50 main_v17 shapeCasts_S6554x50x1_S6554x50
  let main_v19 : FVec F S6554x50x1 .f32 := (extractStridedSlice S6554x50x1 ![0, 0, 1] · slices_S6554x50x2_S6554x50x1_0_0_1) main_v0
  let main_v20 : FVec F S6554x50 .f32 := shapeCast S6554x50 main_v19 shapeCasts_S6554x50x1_S6554x50
  let main_v21 : FVec F S6554x50 .f32 := mulf main_v18 main_v20
  let main_v22 : FVec F S6554x50 .f32 := addf main_v16 main_v21
  let main_v23 : FVec F S6554x50x2 .f32 := Host.absf main_v0
  fn_part1 (F := F) main_v11 main_v22 main_v23
-- ==== Kernel.lean ====
abbrev S128x128 : Shape := ⟨2, ![128, 128]⟩
abbrev S128x50x2 : Shape := ⟨3, ![128, 50, 2]⟩
abbrev S65536x256 : Shape := ⟨2, ![65536, 256]⟩
abbrev S256x128 : Shape := ⟨2, ![256, 128]⟩
abbrev S65536x50x2 : Shape := ⟨3, ![65536, 50, 2]⟩
abbrev S6656 : Shape := ⟨1, ![6656]⟩
abbrev S_ : Shape := ⟨0, ![]⟩
abbrev S65536x2x128 : Shape := ⟨3, ![65536, 2, 128]⟩
abbrev S1x6656 : Shape := ⟨2, ![1, 6656]⟩
abbrev S6656x2x128 : Shape := ⟨3, ![6656, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩
abbrev S6656x256 : Shape := ⟨2, ![6656, 256]⟩
abbrev S128x100 : Shape := ⟨2, ![128, 100]⟩
abbrev S65536x100 : Shape := ⟨2, ![65536, 100]⟩
abbrev S1x1 : Shape := ⟨2, ![1, 1]⟩
abbrev S256x256 : Shape := ⟨2, ![256, 256]⟩
abbrev S2560x100 : Shape := ⟨2, ![2560, 100]⟩
abbrev S128x1 : Shape := ⟨2, ![128, 1]⟩
abbrev S128x50x256 : Shape := ⟨3, ![128, 50, 256]⟩
abbrev S256x2560 : Shape := ⟨2, ![256, 2560]⟩
abbrev S50x100 : Shape := ⟨2, ![50, 100]⟩
abbrev S128x50 : Shape := ⟨2, ![128, 50]⟩
abbrev S128x50x1 : Shape := ⟨3, ![128, 50, 1]⟩
abbrev S1x128x1 : Shape := ⟨3, ![1, 128, 1]⟩
abbrev S1x1x1 : Shape := ⟨3, ![1, 1, 1]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S256x100 : Shape := ⟨2, ![256, 100]⟩
abbrev S50x256 : Shape := ⟨2, ![50, 256]⟩
abbrev S1x50x256 : Shape := ⟨3, ![1, 50, 256]⟩

abbrev nBuf : Table → Nat
  | .hbm => 21
  | .local .tc .vmem => 20
  | .local .scVector .vmem => 2
  | _ => 0

abbrev bufTy : (tb : Table) → Fin (nBuf tb) → BufTy
  | .hbm, ⟨0, _⟩ => ⟨S128x128, .f32⟩
  | .hbm, ⟨1, _⟩ => ⟨S128x50x2, .f32⟩
  | .hbm, ⟨2, _⟩ => ⟨S65536x256, .f32⟩
  | .hbm, ⟨3, _⟩ => ⟨S256x128, .f32⟩
  | .hbm, ⟨4, _⟩ => ⟨S256x128, .f32⟩
  | .hbm, ⟨5, _⟩ => ⟨S65536x50x2, .f32⟩
  | .hbm, ⟨6, _⟩ => ⟨S6656, .i32⟩
  | .hbm, ⟨7, _⟩ => ⟨S_, .i32⟩
  | .hbm, ⟨8, _⟩ => ⟨S6656, .i32⟩
  | .hbm, ⟨9, _⟩ => ⟨S6656, .i32⟩
  | .hbm, ⟨10, _⟩ => ⟨S_, .i32⟩
  | .hbm, ⟨11, _⟩ => ⟨S6656, .i32⟩
  | .hbm, ⟨12, _⟩ => ⟨S6656, .i32⟩
  | .hbm, ⟨13, _⟩ => ⟨S65536x2x128, .f32⟩
  | .hbm, ⟨14, _⟩ => ⟨S1x6656, .i32⟩
  | .hbm, ⟨15, _⟩ => ⟨S6656x2x128, .f32⟩
  | .hbm, ⟨16, _⟩ => ⟨S6656x256, .f32⟩
  | .hbm, ⟨17, _⟩ => ⟨S128x100, .f32⟩
  | .hbm, ⟨18, _⟩ => ⟨S65536x100, .f32⟩
  | .hbm, ⟨19, _⟩ => ⟨S1x1, .f32⟩
  | .hbm, ⟨20, _⟩ => ⟨S_, .f32⟩
  | .local .tc .vmem, ⟨0, _⟩ => ⟨S128x100, .f32⟩
  | .local .tc .vmem, ⟨1, _⟩ => ⟨S128x128, .f32⟩
  | .local .tc .vmem, ⟨2, _⟩ => ⟨S256x128, .f32⟩
  | .local .tc .vmem, ⟨3, _⟩ => ⟨S256x128, .f32⟩
  | .local .tc .vmem, ⟨4, _⟩ => ⟨S256x256, .f32⟩
  | .local .tc .vmem, ⟨5, _⟩ => ⟨S256x256, .f32⟩
  | .local .tc .vmem, ⟨6, _⟩ => ⟨S2560x100, .f32⟩
  | .local .tc .vmem, ⟨7, _⟩ => ⟨S2560x100, .f32⟩
  | .local .tc .vmem, ⟨8, _⟩ => ⟨S1x1, .f32⟩
  | .local .tc .vmem, ⟨9, _⟩ => ⟨S256x128, .f32⟩
  | .local .tc .vmem, ⟨10, _⟩ => ⟨S128x128, .f32⟩
  | .local .tc .vmem, ⟨11, _⟩ => ⟨S128x1, .f32⟩
  | .local .tc .vmem, ⟨12, _⟩ => ⟨S128x50x256, .f32⟩
  | .local .tc .vmem, ⟨13, _⟩ => ⟨S128x50x256, .f32⟩
  | .local .tc .vmem, ⟨14, _⟩ => ⟨S256x2560, .f32⟩
  | .local .tc .vmem, ⟨15, _⟩ => ⟨S256x256, .f32⟩
  | .local .tc .vmem, ⟨16, _⟩ => ⟨S50x100, .f32⟩
  | .local .tc .vmem, ⟨17, _⟩ => ⟨S50x100, .f32⟩
  | .local .tc .vmem, ⟨18, _⟩ => ⟨S128x1, .f32⟩
  | .local .tc .vmem, ⟨19, _⟩ => ⟨S128x1, .f32⟩
  | .local .scVector .vmem, ⟨0, _⟩ => ⟨S2x1x128, .i32⟩
  | .local .scVector .vmem, ⟨1, _⟩ => ⟨S2x128x2x128, .f32⟩
  | _, _ => ⟨S128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v5_scv : Ref sig .scVector := ⟨.hbm, 13, rfl⟩
abbrev main_v6_scv : Ref sig .scVector := ⟨.hbm, 14, rfl⟩
abbrev main_v7_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_stg5_1 : Ref sig .tc := ⟨.vmem, 7, rfl⟩
abbrev cc1_stg6_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc1_scratch5 : Ref sig .tc := ⟨.vmem, 14, rfl⟩
abbrev cc1_scratch6 : Ref sig .tc := ⟨.vmem, 15, rfl⟩
abbrev cc1_scratch7 : Ref sig .tc := ⟨.vmem, 16, rfl⟩
abbrev cc1_scratch8 : Ref sig .tc := ⟨.vmem, 17, rfl⟩
abbrev cc1_scratch9 : Ref sig .tc := ⟨.vmem, 18, rfl⟩
abbrev cc1_scratch10 : Ref sig .tc := ⟨.vmem, 19, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_58_r0 : BitVec 32 := 2#32
  let v80_r0 : BitVec 32 := Scalar.remui c0_i32_25_r0 c2_i32_58_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k0_off3 : Fin 1 → Nat :=
  let c0_i32_25_r0 : BitVec 32 := 0#32
  let c2_i32_58_r0 : BitVec 32 := 2#32
  let v80_r0 : BitVec 32 := Scalar.remui c0_i32_25_r0 c2_i32_58_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c2_i32_71_r0 : BitVec 32 := 2#32
  let v102_r0 : BitVec 32 := Scalar.subi v80_r0 c2_i32_71_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg10_r0 : BitVec 32) : Fin 2 → Nat :=
  let c0_i32_106_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_103_r0 : BitVec 32 := 2#32
  let v168_r0 : BitVec 32 := Scalar.remui arg7_r0 c2_i32_103_r0
  ![v168_r0.toNat]
def k0_off10 (arg8_r0 : BitVec 32) : Fin 4 → Nat :=
  let c2_i32_86_r0 : BitVec 32 := 2#32
  let v132_r0 : BitVec 32 := Scalar.remui arg8_r0 c2_i32_86_r0
  let c0_i32_103_r1 : BitVec 32 := 0#32
  let c0_i32_104_r1 : BitVec 32 := 0#32
  let c0_i32_105_r1 : BitVec 32 := 0#32
  ![v132_r0.toNat, 0, 0, 0]

def k0_chk2 (i : grid0.Coords) (arg8_r0 : BitVec 32) : Prop :=
  (∀ (k0_h1 : k0_cond1 i = 1#1), ∀ a, (k0_off10 arg8_r0) a + S1x128x2x128.size a ≤ S2x128x2x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x2x128.size a ≤ S2x128x2x128.size a := fun i arg8_r0 k0_hw2 k0_h1 => k0_hw2 k0_h1

def k0_off11 (arg7_r0 : BitVec 32) : Fin 3 → Nat :=
  let c2_i32_85_r0 : BitVec 32 := 2#32
  let v131_r0 : BitVec 32 := Scalar.remui arg7_r0 c2_i32_85_r0
  let c0_i32_106_r1 : BitVec 32 := 0#32
  let c0_i32_107_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 4 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  let c0_i32_106_r0 : BitVec 32 := 0#32
  ![v167_r0.toNat, 0, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 3 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_107_r0 : BitVec 32 := 0#32
  let c0_i32_108_r0 : BitVec 32 := 0#32
  ![v168_r0.toNat, 0, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 4 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  let c0_i32_106_r0 : BitVec 32 := 0#32
  ![v167_r0.toNat, 0, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 3 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_107_r0 : BitVec 32 := 0#32
  let c0_i32_108_r0 : BitVec 32 := 0#32
  ![v168_r0.toNat, 0, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x6656.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x6656.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x2x128.size a ≤ S2x128x2x128.size a) ∧
  (∀ (k0_h1 : k0_cond1 i = 1#1), ∀ (k0_h7 : k0_cond7 i k0_t1 arg10_r0 = 1#1), ∀ a, (k0_off13 i arg10_r0) a + S128x2x128.size a ≤ S6656x2x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x2x128.size a ≤ S2x128x2x128.size a) ∧
  (∀ (k0_h1 : k0_cond1 i = 1#1), ∀ (k0_h9 : k0_cond9 i k0_t1 arg10_r0 = 1#1), ∀ a, (k0_off16 i arg10_r0) a + S128x2x128.size a ≤ S6656x2x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x6656.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x6656.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x2x128.size a ≤ S6656x2x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x2x128.size a ≤ S6656x2x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off18 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c2_i32_71_r0 : BitVec 32 := 2#32
  let v102_r0 : BitVec 32 := Scalar.subi v80_r0 c2_i32_71_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off19 (i : grid0.Coords) (arg10_r0 : BitVec 32) : Fin 2 → Nat :=
  let c0_i32_106_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off22 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_103_r0 : BitVec 32 := 2#32
  let v168_r0 : BitVec 32 := Scalar.remui arg7_r0 c2_i32_103_r0
  ![v168_r0.toNat]
def k0_off24 (arg8_r0 : BitVec 32) : Fin 4 → Nat :=
  let c2_i32_86_r0 : BitVec 32 := 2#32
  let v132_r0 : BitVec 32 := Scalar.remui arg8_r0 c2_i32_86_r0
  let c0_i32_103_r2 : BitVec 32 := 0#32
  let c0_i32_104_r2 : BitVec 32 := 0#32
  let c0_i32_105_r2 : BitVec 32 := 0#32
  ![v132_r0.toNat, 0, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x2x128.size a ≤ S2x128x2x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x2x128.size a ≤ S2x128x2x128.size a := fun i k0_t2 arg8_r0 k0_hw5 k0_h1 => k0_hw5 k0_h1

def k0_off25 (arg7_r0 : BitVec 32) : Fin 3 → Nat :=
  let c2_i32_85_r0 : BitVec 32 := 2#32
  let v131_r0 : BitVec 32 := Scalar.remui arg7_r0 c2_i32_85_r0
  let c0_i32_106_r2 : BitVec 32 := 0#32
  let c0_i32_107_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 4 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  let c0_i32_106_r0 : BitVec 32 := 0#32
  ![v167_r0.toNat, 0, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 3 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v168_r0 : BitVec 32 := Scalar.muli c128_i32_r0 v84_r0
  let c0_i32_107_r0 : BitVec 32 := 0#32
  let c0_i32_108_r0 : BitVec 32 := 0#32
  ![v168_r0.toNat, 0, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 4 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  let c0_i32_106_r0 : BitVec 32 := 0#32
  ![v167_r0.toNat, 0, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 3 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v168_r0 : BitVec 32 := Scalar.muli c128_i32_r0 v90_r0
  let c0_i32_107_r0 : BitVec 32 := 0#32
  let c0_i32_108_r0 : BitVec 32 := 0#32
  ![v168_r0.toNat, 0, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x6656.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x6656.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x2x128.size a ≤ S2x128x2x128.size a) ∧
  (∀ (k0_h1 : k0_cond1 i = 1#1), ∀ (k0_h14 : k0_cond14 i k0_t2 arg10_r0 = 1#1), ∀ a, (k0_off27 i arg10_r0) a + S128x2x128.size a ≤ S6656x2x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x2x128.size a ≤ S2x128x2x128.size a) ∧
  (∀ (k0_h1 : k0_cond1 i = 1#1), ∀ (k0_h16 : k0_cond16 i k0_t2 arg10_r0 = 1#1), ∀ a, (k0_off30 i arg10_r0) a + S128x2x128.size a ≤ S6656x2x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x6656.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x6656.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x2x128.size a ≤ S2x128x2x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x2x128.size a ≤ S6656x2x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x2x128.size a ≤ S2x128x2x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x2x128.size a ≤ S6656x2x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off32 (v48_3_r0 : BitVec 32) : Fin 4 → Nat :=
  let c2_i32_58_r0 : BitVec 32 := 2#32
  let v80_r0 : BitVec 32 := Scalar.remui v48_3_r0 c2_i32_58_r0
  let c0_i32_59_r0 : BitVec 32 := 0#32
  let c0_i32_60_r0 : BitVec 32 := 0#32
  let c0_i32_61_r0 : BitVec 32 := 0#32
  ![v80_r0.toNat, 0, 0, 0]

def k0_off33 (i : grid0.Coords) (v48_4_r0 : BitVec 32) : Fin 3 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c2_i32 : BitVec 32 := 2#32
  let c1_i32_0 : BitVec 32 := 1#32
  let v5 : BitVec 32 := Scalar.select v4 c2_i32 c1_i32_0
  let c1_i32_41_r0 : BitVec 32 := 1#32
  let v52_r0 : BitVec 32 := Scalar.subi v5 c1_i32_41_r0
  let v53_r0 : BitVec 32 := Scalar.select v51_r0 v52_r0 v50_r0
  let c20_i32_1 : BitVec 32 := 20#32
  let v6 : BitVec 1 := Scalar.cmpi .slt v3 c20_i32_1
  let v7 : BitVec 32 := Scalar.muli v3 v5
  let c1_i32_2 : BitVec 32 := 1#32
  let v8 : BitVec 32 := Scalar.muli v3 c1_i32_2
  let c20_i32_3 : BitVec 32 := 20#32
  let v9 : BitVec 32 := Scalar.addi v8 c20_i32_3
  let v10 : BitVec 32 := Scalar.select v6 v7 v9
  let v59_r0 : BitVec 32 := Scalar.addi v53_r0 v10
  let v81_r0 : BitVec 32 := Scalar.muli c128_i32_r0 v59_r0
  let c0_i32_62_r0 : BitVec 32 := 0#32
  let c0_i32_63_r0 : BitVec 32 := 0#32
  ![v81_r0.toNat, 0, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x2x128.size a ≤ S6656x2x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x2x128.size a ≤ S6656x2x128.size a := fun i v48_4_r0 k0_hw8 k0_h1 k0_h18 => k0_hw8 k0_h1 k0_h18

def k0_off34 (v48_3_r0 : BitVec 32) : Fin 1 → Nat :=
  let c2_i32_58_r0 : BitVec 32 := 2#32
  let v80_r0 : BitVec 32 := Scalar.remui v48_3_r0 c2_i32_58_r0
  ![v80_r0.toNat]
def k0_off35 (v48_3_r0 : BitVec 32) : Fin 4 → Nat :=
  let c2_i32_58_r0 : BitVec 32 := 2#32
  let v80_r0 : BitVec 32 := Scalar.remui v48_3_r0 c2_i32_58_r0
  let c0_i32_66_r0 : BitVec 32 := 0#32
  let c0_i32_67_r0 : BitVec 32 := 0#32
  let c0_i32_68_r0 : BitVec 32 := 0#32
  ![v80_r0.toNat, 0, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x2x128.size a ≤ S2x128x2x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x2x128.size a ≤ S2x128x2x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x2x128.size a ≤ S2x128x2x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x2x128.size a ≤ S2x128x2x128.size a := fun i v48_3_r0 k0_hw7 k0_h1 k0_h18 => k0_hw7.2.2 k0_h1 k0_h18

abbrev grid1 : Pipeline.Grid := ⟨1, ![26], ![false]⟩

def k1_cond3 (i : grid1.Coords) : BitVec 1 :=
  let arg0 : BitVec 32 := BitVec.ofNat 32 (i 0).val
  let c25_i32 : BitVec 32 := 25#32
  let v11 : BitVec 1 := Scalar.cmpi .eq arg0 c25_i32
  let v12 : BitVec 32 := Scalar.extui v11
  let c0_i32_4 : BitVec 32 := 0#32
  let v13 : BitVec 1 := Scalar.cmpi .ne v12 c0_i32_4
  v13

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x100 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2560x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((1 / 50 : ℝ) : EReal)
  | _ => none
-- ==== ReferenceIdeal.lean ====
abbrev S128x128 : Shape := ⟨2, ![128, 128]⟩
abbrev S128x50x2 : Shape := ⟨3, ![128, 50, 2]⟩
abbrev S65536x256 : Shape := ⟨2, ![65536, 256]⟩
abbrev S256x128 : Shape := ⟨2, ![256, 128]⟩
abbrev S65536x50x2 : Shape := ⟨3, ![65536, 50, 2]⟩
abbrev S_ : Shape := ⟨0, ![]⟩
abbrev S65536x128 : Shape := ⟨2, ![65536, 128]⟩
abbrev S65536 : Shape := ⟨1, ![65536]⟩
abbrev S65536x1 : Shape := ⟨2, ![65536, 1]⟩
abbrev S128 : Shape := ⟨1, ![128]⟩
abbrev S128x1 : Shape := ⟨2, ![128, 1]⟩
abbrev S6554 : Shape := ⟨1, ![6554]⟩
abbrev S6554x1 : Shape := ⟨2, ![6554, 1]⟩
abbrev S1 : Shape := ⟨1, ![1]⟩
abbrev S1x1 : Shape := ⟨2, ![1, 1]⟩
abbrev S6554x50x2 : Shape := ⟨3, ![6554, 50, 2]⟩
abbrev S6554x128 : Shape := ⟨2, ![6554, 128]⟩
abbrev S50x6554x128 : Shape := ⟨3, ![50, 6554, 128]⟩
abbrev S128x6554x50 : Shape := ⟨3, ![128, 6554, 50]⟩
abbrev S128x50 : Shape := ⟨2, ![128, 50]⟩
abbrev S6554x50 : Shape := ⟨2, ![6554, 50]⟩
abbrev S128x1x50 : Shape := ⟨3, ![128, 1, 50]⟩
abbrev S1x6554x50 : Shape := ⟨3, ![1, 6554, 50]⟩
abbrev S128x6554 : Shape := ⟨2, ![128, 6554]⟩
abbrev S1x6554 : Shape := ⟨2, ![1, 6554]⟩
abbrev S128x16 : Shape := ⟨2, ![128, 16]⟩
abbrev S128x16x1 : Shape := ⟨3, ![128, 16, 1]⟩
abbrev S1x1x1 : Shape := ⟨3, ![1, 1, 1]⟩
abbrev S2048 : Shape := ⟨1, ![2048]⟩
abbrev S2048x1 : Shape := ⟨2, ![2048, 1]⟩
abbrev S2048x128 : Shape := ⟨2, ![2048, 128]⟩
abbrev S128x16x128 : Shape := ⟨3, ![128, 16, 128]⟩
abbrev S128x1x128 : Shape := ⟨3, ![128, 1, 128]⟩

abbrev nBuf : Space → Nat
  | .hbm => 225
  | .vmem => 0
  | .smem => 0
  | _ => 0

abbrev hbmTy0_0 (i : Nat) : BufTy := match i % 128 with
  | 0 => ⟨S128x128, .f32⟩
  | 1 => ⟨S128x50x2, .f32⟩
  | 2 => ⟨S65536x256, .f32⟩
  | 3 => ⟨S256x128, .f32⟩
  | 4 => ⟨S256x128, .f32⟩
  | 5 => ⟨S65536x50x2, .f32⟩
  | 6 => ⟨S_, .f32⟩
  | 7 => ⟨S256x128, .f32⟩
  | 8 => ⟨S256x128, .f32⟩
  | 9 => ⟨S_, .f32⟩
  | 10 => ⟨S256x128, .f32⟩
  | 11 => ⟨S256x128, .f32⟩
  | 12 => ⟨S256x128, .f32⟩
  | 13 => ⟨S65536x128, .f32⟩
  | 14 => ⟨S65536x128, .f32⟩
  | 15 => ⟨S_, .f32⟩
  | 16 => ⟨S65536, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x128, .f32⟩
  | 23 => ⟨S65536x128, .f32⟩
  | 24 => ⟨S128x128, .f32⟩
  | 25 => ⟨S_, .f32⟩
  | 26 => ⟨S128, .f32⟩
  | 27 => ⟨S128x1, .f32⟩
  | 28 => ⟨S128x1, .f32⟩
  | 29 => ⟨S_, .f32⟩
  | 30 => ⟨S128x1, .f32⟩
  | 31 => ⟨S128x1, .f32⟩
  | 32 => ⟨S128x128, .f32⟩
  | 33 => ⟨S128x128, .f32⟩
  | 34 => ⟨S6554, .i32⟩
  | 35 => ⟨S_, .i32⟩
  | 36 => ⟨S6554, .i32⟩
  | 37 => ⟨S6554, .i32⟩
  | 38 => ⟨S_, .i32⟩
  | 39 => ⟨S6554, .i32⟩
  | 40 => ⟨S6554, .i32⟩
  | 41 => ⟨S_, .i32⟩
  | 42 => ⟨S6554, .i32⟩
  | 43 => ⟨S6554, .i1⟩
  | 44 => ⟨S_, .i32⟩
  | 45 => ⟨S6554, .i32⟩
  | 46 => ⟨S6554, .i32⟩
  | 47 => ⟨S6554, .i32⟩
  | 48 => ⟨S6554x1, .i32⟩
  | 49 => ⟨S1, .i32⟩
  | 50 => ⟨S_, .i32⟩
  | 51 => ⟨S6554x1, .i32⟩
  | 52 => ⟨S6554x1, .i1⟩
  | 53 => ⟨S1x1, .i32⟩
  | 54 => ⟨S6554x1, .i32⟩
  | 55 => ⟨S6554x1, .i1⟩
  | 56 => ⟨S6554x1, .i1⟩
  | 57 => ⟨S_, .i1⟩
  | 58 => ⟨S6554, .i1⟩
  | 59 => ⟨S6554x50x2, .f32⟩
  | 60 => ⟨S6554x50x2, .i1⟩
  | 61 => ⟨S_, .f32⟩
  | 62 => ⟨S6554x50x2, .f32⟩
  | 63 => ⟨S6554x50x2, .f32⟩
  | 64 => ⟨S_, .i32⟩
  | 65 => ⟨S6554, .i32⟩
  | 66 => ⟨S6554, .i1⟩
  | 67 => ⟨S_, .i32⟩
  | 68 => ⟨S6554, .i32⟩
  | 69 => ⟨S6554, .i32⟩
  | 70 => ⟨S6554, .i32⟩
  | 71 => ⟨S6554x1, .i32⟩
  | 72 => ⟨S1, .i32⟩
  | 73 => ⟨S_, .i32⟩
  | 74 => ⟨S6554x1, .i32⟩
  | 75 => ⟨S6554x1, .i1⟩
  | 76 => ⟨S1x1, .i32⟩
  | 77 => ⟨S6554x1, .i32⟩
  | 78 => ⟨S6554x1, .i1⟩
  | 79 => ⟨S6554x1, .i1⟩
  | 80 => ⟨S_, .i1⟩
  | 81 => ⟨S6554, .i1⟩
  | 82 => ⟨S6554x128, .f32⟩
  | 83 => ⟨S6554x128, .i1⟩
  | 84 => ⟨S_, .f32⟩
  | 85 => ⟨S6554x128, .f32⟩
  | 86 => ⟨S6554x128, .f32⟩
  | 87 => ⟨S50x6554x128, .f32⟩
  | 88 => ⟨S128x6554x50, .f32⟩
  | 89 => ⟨S128x50x2, .f32⟩
  | 90 => ⟨S_, .f32⟩
  | 91 => ⟨S128x50, .f32⟩
  | 92 => ⟨S128x50, .f32⟩
  | 93 => ⟨S6554x50x2, .f32⟩
  | 94 => ⟨S_, .f32⟩
  | 95 => ⟨S6554x50, .f32⟩
  | 96 => ⟨S6554x50, .f32⟩
  | 97 => ⟨S128x1x50, .f32⟩
  | 98 => ⟨S1x6554x50, .f32⟩
  | 99 => ⟨S128x6554x50, .f32⟩
  | 100 => ⟨S128x6554x50, .f32⟩
  | 101 => ⟨S128x6554x50, .f32⟩
  | 102 => ⟨S_, .f32⟩
  | 103 => ⟨S128x6554x50, .f32⟩
  | 104 => ⟨S128x6554x50, .f32⟩
  | 105 => ⟨S128x6554x50, .f32⟩
  | 106 => ⟨S128x6554x50, .f32⟩
  | 107 => ⟨S_, .f32⟩
  | 108 => ⟨S128x6554, .f32⟩
  | 109 => ⟨S_, .f32⟩
  | 110 => ⟨S128x6554, .f32⟩
  | 111 => ⟨S128x6554, .f32⟩
  | 112 => ⟨S_, .f32⟩
  | 113 => ⟨S128x6554, .f32⟩
  | 114 => ⟨S128x6554, .i1⟩
  | 115 => ⟨S6554, .i32⟩
  | 116 => ⟨S1x6554, .i32⟩
  | 117 => ⟨S1x6554, .i32⟩
  | 118 => ⟨S_, .i32⟩
  | 119 => ⟨S1x6554, .i32⟩
  | 120 => ⟨S1x6554, .i32⟩
  | 121 => ⟨S128x6554, .i32⟩
  | 122 => ⟨S128x6554, .i32⟩
  | 123 => ⟨S128x6554, .i32⟩
  | 124 => ⟨S128x6554, .i32⟩
  | 125 => ⟨S128x6554, .i32⟩
  | 126 => ⟨S128x6554, .i32⟩
  | 127 => ⟨S128x16, .i32⟩
  | _ => ⟨S128x128, .f32⟩

abbrev hbmTy0_1 (i : Nat) : BufTy := match i % 128 with
  | 0 => ⟨S_, .i32⟩
  | 1 => ⟨S128x16, .i32⟩
  | 2 => ⟨S128x16, .i1⟩
  | 3 => ⟨S_, .i32⟩
  | 4 => ⟨S128x16, .i32⟩
  | 5 => ⟨S128x16, .i32⟩
  | 6 => ⟨S128x16, .i32⟩
  | 7 => ⟨S128x16x1, .i32⟩
  | 8 => ⟨S1, .i32⟩
  | 9 => ⟨S_, .i32⟩
  | 10 => ⟨S128x16x1, .i32⟩
  | 11 => ⟨S128x16x1, .i1⟩
  | 12 => ⟨S1x1x1, .i32⟩
  | 13 => ⟨S128x16x1, .i32⟩
  | 14 => ⟨S128x16x1, .i1⟩
  | 15 => ⟨S128x16x1, .i1⟩
  | 16 => ⟨S_, .i1⟩
  | 17 => ⟨S128x16, .i1⟩
  | 18 => ⟨S128x16, .i1⟩
  | 19 => ⟨S_, .i1⟩
  | 20 => ⟨S128x16, .i1⟩
  | 21 => ⟨S128x16, .i1⟩
  | 22 => ⟨S128x16, .f32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S1, .i32⟩
  | 33 => ⟨S_, .i32⟩
  | 34 => ⟨S2048x1, .i32⟩
  | 35 => ⟨S2048x1, .i1⟩
  | 36 => ⟨S1x1, .i32⟩
  | 37 => ⟨S2048x1, .i32⟩
  | 38 => ⟨S2048x1, .i1⟩
  | 39 => ⟨S2048x1, .i1⟩
  | 40 => ⟨S_, .i1⟩
  | 41 => ⟨S2048, .i1⟩
  | 42 => ⟨S2048x128, .f32⟩
  | 43 => ⟨S2048x128, .i1⟩
  | 44 => ⟨S_, .f32⟩
  | 45 => ⟨S2048x128, .f32⟩
  | 46 => ⟨S2048x128, .f32⟩
  | 47 => ⟨S128x16x128, .f32⟩
  | 48 => ⟨S128x1x128, .f32⟩
  | 49 => ⟨S128x16x128, .f32⟩
  | 50 => ⟨S128x16x128, .f32⟩
  | 51 => ⟨S_, .f32⟩
  | 52 => ⟨S128x16, .f32⟩
  | 53 => ⟨S128x16x128, .f32⟩
  | 54 => ⟨S_, .f32⟩
  | 55 => ⟨S128x16, .f32⟩
  | 56 => ⟨S128x16, .f32⟩
  | 57 => ⟨S128x128, .f32⟩
  | 58 => ⟨S_, .f32⟩
  | 59 => ⟨S128, .f32⟩
  | 60 => ⟨S128, .f32⟩
  | 61 => ⟨S128x1, .f32⟩
  | 62 => ⟨S128x16, .f32⟩
  | 63 => ⟨S128x16, .f32⟩
  | 64 => ⟨S_, .f32⟩
  | 65 => ⟨S128x16, .f32⟩
  | 66 => ⟨S128x16, .f32⟩
  | 67 => ⟨S128x16, .f32⟩
  | 68 => ⟨S_, .f32⟩
  | 69 => ⟨S128x16, .f32⟩
  | 70 => ⟨S128x16, .f32⟩
  | 71 => ⟨S128x16, .f32⟩
  | 72 => ⟨S128x16, .f32⟩
  | 73 => ⟨S_, .f32⟩
  | 74 => ⟨S128x16, .f32⟩
  | 75 => ⟨S128x16, .f32⟩
  | 76 => ⟨S_, .f32⟩
  | 77 => ⟨S128x16, .f32⟩
  | 78 => ⟨S128x16, .f32⟩
  | 79 => ⟨S_, .f32⟩
  | 80 => ⟨S128x16, .f32⟩
  | 81 => ⟨S128x16, .f32⟩
  | 82 => ⟨S128x16, .f32⟩
  | 83 => ⟨S128x16, .f32⟩
  | 84 => ⟨S_, .f32⟩
  | 85 => ⟨S128, .f32⟩
  | 86 => ⟨S128x16, .f32⟩
  | 87 => ⟨S_, .f32⟩
  | 88 => ⟨S128, .f32⟩
  | 89 => ⟨S_, .f32⟩
  | 90 => ⟨S128, .f32⟩
  | 91 => ⟨S128, .f32⟩
  | 92 => ⟨S128, .f32⟩
  | 93 => ⟨S_, .f32⟩
  | 94 => ⟨S_, .f32⟩
  | 95 => ⟨S_, .f32⟩
  | 96 => ⟨S_, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v21 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_call4_v0 : Ref sig .tc := ⟨.hbm, 89, rfl⟩
abbrev main_call4_cst : Ref sig .tc := ⟨.hbm, 90, rfl⟩
abbrev main_call4_v1 : Ref sig .tc := ⟨.hbm, 91, rfl⟩
abbrev main_v25 : Ref sig .tc := ⟨.hbm, 92, rfl⟩
abbrev main_call5_v0 : Ref sig .tc := ⟨.hbm, 93, rfl⟩
abbrev main_call5_cst : Ref sig .tc := ⟨.hbm, 94, rfl⟩
abbrev main_call5_v1 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_cst_4 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_cst_5 : Ref sig .tc := ⟨.hbm, 107, rfl⟩
abbrev main_v36 : Ref sig .tc := ⟨.hbm, 108, rfl⟩
abbrev main_cst_6 : Ref sig .tc := ⟨.hbm, 109, rfl⟩
abbrev main_v37 : Ref sig .tc := ⟨.hbm, 110, rfl⟩
abbrev main_v38 : Ref sig .tc := ⟨.hbm, 111, rfl⟩
abbrev main_cst_7 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_c_8 : Ref sig .tc := ⟨.hbm, 118, rfl⟩
abbrev main_v44 : Ref sig .tc := ⟨.hbm, 119, rfl⟩
abbrev main_v45 : Ref sig .tc := ⟨.hbm, 120, rfl⟩
abbrev main_call6_v0 : Ref sig .tc := ⟨.hbm, 121, rfl⟩
abbrev main_call6_v1 : Ref sig .tc := ⟨.hbm, 122, rfl⟩
abbrev main_v46 : Ref sig .tc := ⟨.hbm, 123, rfl⟩
abbrev main_call7_v0 : Ref sig .tc := ⟨.hbm, 124, rfl⟩
abbrev main_call7_v1_0 : Ref sig .tc := ⟨.hbm, 125, rfl⟩
abbrev main_v47 : Ref sig .tc := ⟨.hbm, 126, rfl⟩
abbrev main_v48 : Ref sig .tc := ⟨.hbm, 127, rfl⟩
abbrev main_call8_c : Ref sig .tc := ⟨.hbm, 128, rfl⟩
abbrev main_call8_v0 : Ref sig .tc := ⟨.hbm, 129, rfl⟩
abbrev main_call8_v1 : Ref sig .tc := ⟨.hbm, 130, rfl⟩
abbrev main_call8_c_0 : Ref sig .tc := ⟨.hbm, 131, rfl⟩
abbrev main_call8_v2 : Ref sig .tc := ⟨.hbm, 132, rfl⟩
abbrev main_call8_v3 : Ref sig .tc := ⟨.hbm, 133, rfl⟩
abbrev main_call8_v4 : Ref sig .tc := ⟨.hbm, 134, rfl⟩
abbrev main_call8_v5 : Ref sig .tc := ⟨.hbm, 135, rfl⟩
abbrev main_call8_c_1 : Ref sig .tc := ⟨.hbm, 136, rfl⟩
abbrev main_call8_c_2 : Ref sig .tc := ⟨.hbm, 137, rfl⟩
abbrev main_call8_v6 : Ref sig .tc := ⟨.hbm, 138, rfl⟩
abbrev main_call8_v7 : Ref sig .tc := ⟨.hbm, 139, rfl⟩
abbrev main_call8_v8 : Ref sig .tc := ⟨.hbm, 140, rfl⟩
abbrev main_call8_v9 : Ref sig .tc := ⟨.hbm, 141, rfl⟩
abbrev main_call8_v10 : Ref sig .tc := ⟨.hbm, 142, rfl⟩
abbrev main_call8_v11 : Ref sig .tc := ⟨.hbm, 143, rfl⟩
abbrev main_call8_c_3 : Ref sig .tc := ⟨.hbm, 144, rfl⟩
abbrev main_call8_v12 : Ref sig .tc := ⟨.hbm, 145, rfl⟩
abbrev main_call8_v13 : Ref sig .tc := ⟨.hbm, 146, rfl⟩
abbrev main_call8_c_4 : Ref sig .tc := ⟨.hbm, 147, rfl⟩
abbrev main_call8_v14 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_call9_c : Ref sig .tc := ⟨.hbm, 152, rfl⟩
abbrev main_call9_v0 : Ref sig .tc := ⟨.hbm, 153, rfl⟩
abbrev main_call9_v1 : Ref sig .tc := ⟨.hbm, 154, rfl⟩
abbrev main_call9_c_0 : Ref sig .tc := ⟨.hbm, 155, rfl⟩
abbrev main_call9_v2 : Ref sig .tc := ⟨.hbm, 156, rfl⟩
abbrev main_call9_v3 : Ref sig .tc := ⟨.hbm, 157, rfl⟩
abbrev main_call9_v4 : Ref sig .tc := ⟨.hbm, 158, rfl⟩
abbrev main_call9_v5 : Ref sig .tc := ⟨.hbm, 159, rfl⟩
abbrev main_call9_c_1 : Ref sig .tc := ⟨.hbm, 160, rfl⟩
abbrev main_call9_c_2 : Ref sig .tc := ⟨.hbm, 161, rfl⟩
abbrev main_call9_v6 : Ref sig .tc := ⟨.hbm, 162, rfl⟩
abbrev main_call9_v7 : Ref sig .tc := ⟨.hbm, 163, rfl⟩
abbrev main_call9_v8 : Ref sig .tc := ⟨.hbm, 164, rfl⟩
abbrev main_call9_v9 : Ref sig .tc := ⟨.hbm, 165, rfl⟩
abbrev main_call9_v10 : Ref sig .tc := ⟨.hbm, 166, rfl⟩
abbrev main_call9_v11 : Ref sig .tc := ⟨.hbm, 167, rfl⟩
abbrev main_call9_c_3 : Ref sig .tc := ⟨.hbm, 168, rfl⟩
abbrev main_call9_v12 : Ref sig .tc := ⟨.hbm, 169, rfl⟩
abbrev main_call9_v13 : Ref sig .tc := ⟨.hbm, 170, rfl⟩
abbrev main_call9_v14 : Ref sig .tc := ⟨.hbm, 171, rfl⟩
abbrev main_call9_cst : Ref sig .tc := ⟨.hbm, 172, rfl⟩
abbrev main_call9_v15 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_cst_9 : Ref sig .tc := ⟨.hbm, 179, rfl⟩
abbrev main_v57 : Ref sig .tc := ⟨.hbm, 180, rfl⟩
abbrev main_call10_v0 : Ref sig .tc := ⟨.hbm, 181, rfl⟩
abbrev main_call10_cst : Ref sig .tc := ⟨.hbm, 182, rfl⟩
abbrev main_call10_v1 : Ref sig .tc := ⟨.hbm, 183, rfl⟩
abbrev main_v58 : Ref sig .tc := ⟨.hbm, 184, rfl⟩
abbrev main_call11_v0 : Ref sig .tc := ⟨.hbm, 185, rfl⟩
abbrev main_call11_cst : Ref sig .tc := ⟨.hbm, 186, rfl⟩
abbrev main_call11_v1 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_cst_10 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_cst_11 : Ref sig .tc := ⟨.hbm, 196, rfl⟩
abbrev main_v66 : Ref sig .tc := ⟨.hbm, 197, rfl⟩
abbrev main_v67 : Ref sig .tc := ⟨.hbm, 198, rfl⟩
abbrev main_v68 : Ref sig .tc := ⟨.hbm, 199, rfl⟩
abbrev main_v69 : Ref sig .tc := ⟨.hbm, 200, rfl⟩
abbrev main_cst_12 : Ref sig .tc := ⟨.hbm, 201, rfl⟩
abbrev main_v70 : Ref sig .tc := ⟨.hbm, 202, rfl⟩
abbrev main_v71 : Ref sig .tc := ⟨.hbm, 203, rfl⟩
abbrev main_cst_13 : Ref sig .tc := ⟨.hbm, 204, rfl⟩
abbrev main_v72 : Ref sig .tc := ⟨.hbm, 205, rfl⟩
abbrev main_v73 : Ref sig .tc := ⟨.hbm, 206, rfl⟩
abbrev main_cst_14 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_v77 : Ref sig .tc := ⟨.hbm, 211, rfl⟩
abbrev main_cst_15 : Ref sig .tc := ⟨.hbm, 212, rfl⟩
abbrev main_v78 : Ref sig .tc := ⟨.hbm, 213, rfl⟩
abbrev main_v79 : Ref sig .tc := ⟨.hbm, 214, rfl⟩
abbrev main_cst_16 : Ref sig .tc := ⟨.hbm, 215, rfl⟩
abbrev main_v80 : Ref sig .tc := ⟨.hbm, 216, rfl⟩
abbrev main_cst_17 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_cst_18 : Ref sig .tc := ⟨.hbm, 221, rfl⟩
abbrev main_v84 : Ref sig .tc := ⟨.hbm, 222, rfl⟩
abbrev main_cst_19 : Ref sig .tc := ⟨.hbm, 223, rfl⟩
abbrev main_v85 : Ref sig .tc := ⟨.hbm, 224, rfl⟩

abbrev nD : Nat := 1
abbrev τ : Topo := Topo.v7x

variable {F : FTy → Type} [FloatOps F]
-- ==== Proof.Words.lean ====
/-
  The index arithmetic of the gather's pipeline, decided over the 32 vector subcores.

  The 52 index blocks of 128 are dealt to the 32 subcores: the first twenty take two blocks each, the other twelve one.
  Subcore `w` starts at block `blk w`. The pipeline's loop makes as many trips as the subcore has blocks and carries five
  words; each trip's words are literals, so every condition and every offset of a trip is decided here, once and for all.
-/
module

public import proofs.«01_k».proof.Proof.Gen.KernelIdeal
public import proofs.«01_k».proof.Proof.Gen.KernelIdeal.Skeleton

@[expose] public section

set_option synthInstance.maxSize 4096
set_option Elab.async false

namespace Cert.Proof.Gather

open Idealize.ShloMosaic Idealize.SL.Sem
open Cert.KernelIdeal Cert.KernelIdeal.Gen

/-- The subcore's number: sixteen to a SparseCore. -/
def wid (L : grid0.Coords) : ℕ := (L 1).val + 16 * (L 0).val

/-- The first index block of a subcore. -/
def blk (L : grid0.Coords) : ℕ := if wid L < 20 then 2 * wid L else wid L + 20

theorem wid_lt : ∀ L : grid0.Coords, wid L < 32 := by decide +kernel
theorem blk_lt : ∀ L : grid0.Coords, blk L < 52 := by decide +kernel
theorem blk_succ_lt : ∀ L : grid0.Coords, wid L < 20 → blk L + 1 < 52 := by decide +kernel

theorem c1 : ∀ L : grid0.Coords, k0_cond1 L = 1#1 := by decide +kernel
theorem c2 : ∀ L : grid0.Coords, k0_cond2 L = 1#1 := by decide +kernel
theorem c18 : ∀ L : grid0.Coords, k0_cond18 L = 1#1 := by decide +kernel

theorem trips_two : ∀ L : grid0.Coords, wid L < 20 → (k0_t1_loop L).trips = 2 := by decide +kernel
theorem trips_one : ∀ L : grid0.Coords, ¬ wid L < 20 → (k0_t1_loop L).trips = 1 := by decide +kernel
theorem trips_tail : ∀ L : grid0.Coords, (k0_t2_loop L).trips = 0 := by decide +kernel

theorem off2 : ∀ L : grid0.Coords, k0_off2 L = ![0, 128 * blk L] := by decide +kernel

/-! ## The only trip of a subcore with one block -/

theorem c3A : ∀ L : grid0.Coords, ¬ wid L < 20 → ∀ t : Fin (k0_t1_loop L).trips, t.val = 0 → ¬ k0_cond3 L t 0#32 = 1#1 := by decide +kernel
theorem c4A : ∀ L : grid0.Coords, ¬ wid L < 20 → ∀ t : Fin (k0_t1_loop L).trips, t.val = 0 → k0_cond4 L t 0#32 = 1#1 := by decide +kernel
theorem c7A : ∀ L : grid0.Coords, ¬ wid L < 20 → ∀ t : Fin (k0_t1_loop L).trips, t.val = 0 → k0_cond7 L t 0#32 = 1#1 := by decide +kernel
theorem c9A : ∀ L : grid0.Coords, ¬ wid L < 20 → ∀ t : Fin (k0_t1_loop L).trips, t.val = 0 → ¬ k0_cond9 L t 0#32 = 1#1 := by decide +kernel
theorem chkA : ∀ L : grid0.Coords, ¬ wid L < 20 → ∀ t : Fin (k0_t1_loop L).trips, t.val = 0 → k0_chk1 L t 1#32 0#32 0#32 0#32 0#32 := by decide +kernel

/-! ## The first trip of a subcore with two -/

theorem c3B : ∀ L : grid0.Coords, wid L < 20 → ∀ t : Fin (k0_t1_loop L).trips, t.val = 0 → k0_cond3 L t 0#32 = 1#1 := by decide +kernel
theorem c4B : ∀ L : grid0.Coords, wid L < 20 → ∀ t : Fin (k0_t1_loop L).trips, t.val = 0 → k0_cond4 L t 0#32 = 1#1 := by decide +kernel
theorem c7B : ∀ L : grid0.Coords, wid L < 20 → ∀ t : Fin (k0_t1_loop L).trips, t.val = 0 → k0_cond7 L t 0#32 = 1#1 := by decide +kernel
theorem c9B : ∀ L : grid0.Coords, wid L < 20 → ∀ t : Fin (k0_t1_loop L).trips, t.val = 0 → ¬ k0_cond9 L t 0#32 = 1#1 := by decide +kernel
theorem chkB : ∀ L : grid0.Coords, wid L < 20 → ∀ t : Fin (k0_t1_loop L).trips, t.val = 0 → k0_chk1 L t 1#32 0#32 0#32 0#32 0#32 := by decide +kernel

/-! ## The second trip of a subcore with two -/

theorem c3C : ∀ L : grid0.Coords, wid L < 20 → ∀ t : Fin (k0_t1_loop L).trips, t.val = 1 → ¬ k0_cond3 L t 1#32 = 1#1 := by decide +kernel
theorem c4C : ∀ L : grid0.Coords, wid L < 20 → ∀ t : Fin (k0_t1_loop L).trips, t.val = 1 → k0_cond4 L t 1#32 = 1#1 := by decide +kernel
theorem c7C : ∀ L : grid0.Coords, wid L < 20 → ∀ t : Fin (k0_t1_loop L).trips, t.val = 1 → k0_cond7 L t 1#32 = 1#1 := by decide +kernel
theorem c9C : ∀ L : grid0.Coords, wid L < 20 → ∀ t : Fin (k0_t1_loop L).trips, t.val = 1 → k0_cond9 L t 1#32 = 1#1 := by decide +kernel
theorem chkC : ∀ L : grid0.Coords, wid L < 20 → ∀ t : Fin (k0_t1_loop L).trips, t.val = 1 → k0_chk1 L t 2#32 1#32 1#32 0#32 1#32 := by decide +kernel

/-! ## The checks of the slots and of the last wait -/

theorem chk2_0 : ∀ L : grid0.Coords, k0_chk2 L 0#32 := by decide +kernel
theorem chk2_1 : ∀ L : grid0.Coords, k0_chk2 L 1#32 := by decide +kernel
theorem chk3_0 : ∀ L : grid0.Coords, k0_chk3 L 0#32 := by decide +kernel
theorem chk3_1 : ∀ L : grid0.Coords, k0_chk3 L 1#32 := by decide +kernel
theorem chk7_0 : ∀ L : grid0.Coords, k0_chk7 L 0#32 := by decide +kernel
theorem chk7_1 : ∀ L : grid0.Coords, k0_chk7 L 1#32 := by decide +kernel
theorem chk8_0 : ∀ L : grid0.Coords, k0_chk8 L 0#32 := by decide +kernel

/-! ## The offsets -/

theorem off3 : k0_off3 = ![0] := by decide
theorem off4_1 : k0_off4 1#32 = ![1, 0, 0] := by decide
theorem off6_1 : k0_off6 1#32 = ![1] := by decide
theorem off7_0 : k0_off7 0#32 = ![0, 0, 0] := by decide
theorem off7_1 : k0_off7 1#32 = ![1, 0, 0] := by decide
theorem off9_0 : k0_off9 0#32 = ![0] := by decide
theorem off9_1 : k0_off9 1#32 = ![1] := by decide
theorem off10_0 : k0_off10 0#32 = ![0, 0, 0, 0] := by decide
theorem off10_1 : k0_off10 1#32 = ![1, 0, 0, 0] := by decide
theorem off11_0 : k0_off11 0#32 = ![0, 0, 0] := by decide
theorem off11_1 : k0_off11 1#32 = ![1, 0, 0] := by decide
theorem off12_0 : k0_off12 0#32 = ![0, 0, 0, 0] := by decide
theorem off12_1 : k0_off12 1#32 = ![1, 0, 0, 0] := by decide
theorem off14_0 : k0_off14 0#32 = ![0] := by decide
theorem off14_1 : k0_off14 1#32 = ![1] := by decide
theorem off15_0 : k0_off15 0#32 = ![0, 0, 0, 0] := by decide
theorem off17_0 : k0_off17 0#32 = ![0] := by decide
theorem off34_0 : k0_off34 0#32 = ![0] := by decide
theorem off34_1 : k0_off34 1#32 = ![1] := by decide
theorem off35_0 : k0_off35 0#32 = ![0, 0, 0, 0] := by decide
theorem off35_1 : k0_off35 1#32 = ![1, 0, 0, 0] := by decide

theorem off5_0 : ∀ L : grid0.Coords, wid L < 20 → k0_off5 L 0#32 = ![0, 128 * (blk L + 1)] := by decide +kernel
theorem off8_0 : ∀ L : grid0.Coords, k0_off8 L 0#32 = ![0, 128 * blk L] := by decide +kernel
theorem off8_1 : ∀ L : grid0.Coords, wid L < 20 → k0_off8 L 1#32 = ![0, 128 * (blk L + 1)] := by decide +kernel
theorem off13_0 : ∀ L : grid0.Coords, k0_off13 L 0#32 = ![128 * blk L, 0, 0] := by decide +kernel
theorem off13_1 : ∀ L : grid0.Coords, wid L < 20 → k0_off13 L 1#32 = ![128 * (blk L + 1), 0, 0] := by decide +kernel
theorem off16_1 : ∀ L : grid0.Coords, wid L < 20 → k0_off16 L 1#32 = ![128 * blk L, 0, 0] := by decide +kernel
theorem off33_one : ∀ L : grid0.Coords, ¬ wid L < 20 → k0_off33 L 0#32 = ![128 * blk L, 0, 0] := by decide +kernel
theorem off33_two : ∀ L : grid0.Coords, wid L < 20 → k0_off33 L 0#32 = ![128 * (blk L + 1), 0, 0] := by decide +kernel

end Cert.Proof.Gather

end
-- ==== Proof.Steps.lean ====
/-
  The five steps a trip of the gather's pipeline is made of, each once, at a symbolic slot and a symbolic block:
  the fetch of a block of row numbers into a slot and its wait, the indirect gather of a block of rows and its wait,
  and the copy of a block of rows out and its wait. The values are carried: a fetched slot holds the block of row
  numbers, and a block copied out holds the rows of the table that its row numbers name.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev 𝒱₀ : Variants := Variants.none

/-- The resource algebra: the handshakes of the launch, the TensorCore pipeline's rounds and the transfers' counters. -/
abbrev UH : Type := URounds (GSem nD τ sig) ℕ
abbrev UU : Type := UH × (UR sig nD τ × Counters)

local notation "𝕄" => MT nD τ sig (HIx 1) (Elt F) ℕ UU ℕ

/-! ## The buffers -/

local notation "xV" => (Memref.whole Cert.KernelIdeal.main_v5_scv : Memref Cert.KernelIdeal.sig Kind.scVector Space.hbm Cert.KernelIdeal.S65536x2x128 EltTy.f32)
local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

abbrev cV (L : grid0.Coords) : Fin τ.nSC := (L 0).castLE hcore0
abbrev jV (L : grid0.Coords) : Fin τ.nSub := (L 1).castLE hsub0

theorem inbI {b : ℕ} (h : b < 52) : ∀ a, (![0, 128 * b] : Fin 2 → ℕ) a + S1x128.size a ≤ S1x6656.size a
  | 0 => Nat.le_refl 1
  | 1 => by show 128 * b + 128 ≤ 6656; omega
theorem inbO {b : ℕ} (h : b < 52) : ∀ a, (![128 * b, 0, 0] : Fin 3 → ℕ) a + S128x2x128.size a ≤ S6656x2x128.size a
  | 0 => by show 128 * b + 128 ≤ 6656; omega
  | 1 => Nat.le_refl 2
  | 2 => Nat.le_refl 128
theorem inbS {p : ℕ} (h : p < 2) : ∀ a, (![p, 0, 0] : Fin 3 → ℕ) a + S1x1x128.size a ≤ S2x1x128.size a
  | 0 => by show p + 1 ≤ 2; omega
  | 1 => Nat.le_refl 1
  | 2 => Nat.le_refl 128
theorem inbR {p : ℕ} (h : p < 2) : ∀ a, (![p, 0, 0, 0] : Fin 4 → ℕ) a + S1x128x2x128.size a ≤ S2x128x2x128.size a
  | 0 => by show p + 1 ≤ 2; omega
  | 1 => Nat.le_refl 128
  | 2 => Nat.le_refl 2
  | 3 => Nat.le_refl 128
theorem inbC {p : ℕ} (h : p < 2) : ∀ a, (![p] : Fin 1 → ℕ) a + S1.size a ≤ S2.size a
  | 0 => by show p + 1 ≤ 2; omega

/-- A block of the row numbers and of the rows, a slot of each scratch, and the slots' cells, at any offset. -/
abbrev memI (o : Fin 2 → ℕ) (h : ∀ a, o a + S1x128.size a ≤ S1x6656.size a) : Memref sig .scVector .hbm S1x128 .i32 :=
  (iV).slice (Rect.unit (s := S1x6656) o S1x128.size h) (fun _ => rfl)
abbrev memO (o : Fin 3 → ℕ) (h : ∀ a, o a + S128x2x128.size a ≤ S6656x2x128.size a) : Memref sig .scVector .hbm S128x2x128 .f32 :=
  (oV).slice (Rect.unit (s := S6656x2x128) o S128x2x128.size h) (fun _ => rfl)
abbrev memS (o : Fin 3 → ℕ) (h : ∀ a, o a + S1x1x128.size a ≤ S2x1x128.size a) : Memref sig .scVector .vmem S1x128 .i32 :=
  ((sV).slice (Rect.unit (s := S2x1x128) o S1x1x128.size h) (fun _ => rfl)).squeeze S1x128 squeezes_S1x1x128_S1x128
abbrev memR (o : Fin 4 → ℕ) (h : ∀ a, o a + S1x128x2x128.size a ≤ S2x128x2x128.size a) : Memref sig .scVector .vmem S128x2x128 .f32 :=
  ((rV).slice (Rect.unit (s := S2x128x2x128) o S1x128x2x128.size h) (fun _ => rfl)).squeeze S128x2x128 squeezes_S1x128x2x128_S128x2x128
abbrev cellI (o : Fin 1 → ℕ) (h : ∀ a, o a + S1.size a ≤ S2.size a) : DmaSem sig :=
  ((cc0_scoped1.slice (Rect.unit (s := S2) o S1.size h)).squeeze S_ squeezes_S1_S_).sem
abbrev cellO (o : Fin 1 → ℕ) (h : ∀ a, o a + S1.size a ≤ S2.size a) : DmaSem sig :=
  ((cc0_scoped3.slice (Rect.unit (s := S2) o S1.size h)).squeeze S_ squeezes_S1_S_).sem

/-- Block `b` of the row numbers, and of the rows. -/
abbrev blkI (b : ℕ) (h : b < 52) : Memref sig .scVector .hbm S1x128 .i32 := memI ![0, 128 * b] (inbI h)
abbrev blkO (b : ℕ) (h : b < 52) : Memref sig .scVector .hbm S128x2x128 .f32 := memO ![128 * b, 0, 0] (inbO h)
/-- Slot `p` of the scratch of row numbers, of the scratch of rows, and the cells the slots' transfers complete on. -/
abbrev slotI (p : ℕ) (h : p < 2) : Memref sig .scVector .vmem S1x128 .i32 := memS ![p, 0, 0] (inbS h)
abbrev slotR (p : ℕ) (h : p < 2) : Memref sig .scVector .vmem S128x2x128 .f32 := memR ![p, 0, 0, 0] (inbR h)
abbrev semI (p : ℕ) (h : p < 2) : DmaSem sig := cellI ![p] (inbC h)
abbrev semO (p : ℕ) (h : p < 2) : DmaSem sig := cellO ![p] (inbC h)
/-- The slot of row numbers as the stream's list, and the whole table as the stream's source. -/
abbrev lst (p : ℕ) (h : p < 2) : Memref sig .scVector .vmem S128 .i32 :=
  ((slotI p h).slice (Rect.unit (s := S1x128) ![0, 0] S1x128.size inb_S1x128_S1x128_0_0) (fun _ => rfl)).squeeze S128 squeezes_S1x128_S128
abbrev xAll : Memref sig .scVector .hbm S65536x2x128 .f32 :=
  (xV).slice (Rect.unit (s := S65536x2x128) ![0, 0, 0] S65536x2x128.size inb_S65536x2x128_S65536x2x128_0_0_0) (fun _ => rfl)

abbrev xLoc (d : Dev nD) : Loc nD τ sig := (SparseCore.T d).loc main_v5
abbrev iLoc (d : Dev nD) : Loc nD τ sig := (SparseCore.T d).loc main_v6
abbrev oLoc (d : Dev nD) : Loc nD τ sig := (SparseCore.T d).loc main_v7

/-- The rows the row numbers `fi` name in the table `fx`: row `r` of the result is the table's row `fi[0, r]`. -/
def rowsOf (d : Dev nD) (fx : Buf (Elt F) (xLoc d)) (fi : Buf (Elt F) (iLoc d)) : Buf (Elt F) (oLoc d) :=
  fun (j : S6656x2x128.Idx) => fx (fun a : Fin 3 => match a with
    | 0 => (⟨(fi (fun a : Fin 2 => match a with | 0 => (0 : Fin 1) | 1 => (j 0 : Fin 6656)) : BitVec 32).toNat % 65536, Nat.mod_lt _ (by decide)⟩ : Fin 65536)
    | 1 => (j 1 : Fin 2)
    | 2 => (j 2 : Fin 128))

/-! ## What the views read -/

/-- A write of what a view reads of `g` leaves `g` on the view's elements. -/
theorem write_read_on {b : ℕ} (hb : b < 52) (d : Dev nD) (f g : Buf (Elt F) (oLoc d)) (j : S6656x2x128.Idx) (hj : j ∈ (blkO b hb).view.set) :
    (blkO b hb).view.write (Elt F) f ((blkO b hb).view.read (Elt F) g) Finset.univ j = g j := by
  obtain ⟨x, -, rfl⟩ := Finset.mem_map.mp hj
  rw [View.write_emb_of_mem _ _ (Finset.mem_univ _)]
  rfl

theorem lst_set {p : ℕ} (hp : p < 2) : (lst p hp).view.set = (slotI p hp).view.set := by
  show (((slotI p hp).view.slice (Rect.unit (s := S1x128) ![0, 0] S1x128.size inb_S1x128_S1x128_0_0)).reshape S128 squeezes_S1x128_S128.numel_eq).set = _
  rw [View.set_reshape]
  refine Finset.eq_of_subset_of_card_le (View.set_slice_subset _ _) ?_
  rw [View.card_set, View.card_set]
  exact Nat.le_of_eq rfl

/-- The place of the `k`-th row number of block `b`. -/
def placeI (b : ℕ) (hb : b < 52) (k : Fin 128) : S1x6656.Idx := fun a : Fin 2 => match a with
  | 0 => (0 : Fin 1)
  | 1 => (⟨128 * b + k.val, by omega⟩ : Fin 6656)

theorem lst_read (d : Dev nD) (L : grid0.Coords) (fi : Buf (Elt F) (iLoc d)) (p : ℕ) (hp : p < 2) (b : ℕ) (hb : b < 52)
    (f : Buf (Elt F) ((slotI p hp).view.loc (V d (cV L) (jV L))))
    (hf : (slotI p hp).view.read (Elt F) f = (blkI b hb).view.read (Elt F) fi) :
    (lst p hp).view.read (Elt F) f = fun x : S128.Idx => fi (placeI b hb (x 0)) := by
  funext x
  have h1 : (lst p hp).view.read (Elt F) f x
      = (slotI p hp).view.read (Elt F) f ((Rect.unit (s := S1x128) ![0, 0] S1x128.size inb_S1x128_S1x128_0_0).emb
          (Shape.reshapeEquiv squeezes_S1x128_S128.numel_eq x)) := rfl
  rw [h1, hf, show (Shape.reshapeEquiv squeezes_S1x128_S128.numel_eq x : S1x128.Idx) = Fin.cons (0 : Fin 1) x from Shape.reshapeEquiv_cons_one _ x]
  show fi _ = fi _
  congr 1
  funext a
  match a with
  | 0 => exact Fin.ext rfl
  | 1 => exact Fin.ext (by show 128 * b + 1 * (0 + 1 * (x 0).val) = 128 * b + (x 0).val; omega)

theorem gathered (d : Dev nD) (L : grid0.Coords) (fx : Buf (Elt F) (xLoc d)) (fi : Buf (Elt F) (iLoc d))
    (hin : ∀ j : S1x6656.Idx, (fi j : BitVec 32).toNat < 65536) {b : ℕ} (hb : b < 52)
    (w : S128.Idx → Elt F .i32) (hw : w = fun x : S128.Idx => fi (placeI b hb (x 0)))
    {hn : S128.numel = S128x2x128.size gathers_S65536x2x128_S128x2x128.axis'}
    {h : ∀ x, (w x : BitVec 32).toNat < S65536x2x128.size gathers_S65536x2x128_S128x2x128.axis} :
    SparseCore.gatherPayload gathers_S65536x2x128_S128x2x128 ((xAll).view.read (Elt F) fx) (SparseCore.rows w hn h)
      = (blkO b hb).view.read (Elt F) (rowsOf d fx fi) := by
  subst hw
  funext y
  have hs : ((S128.rowMajor.symm ((y gathers_S65536x2x128_S128x2x128.axis').cast hn.symm)) 0 : Fin 128).val = (y 0 : Fin 128).val := by
    have := Shape.rowMajor_val_one (d := ![128]) (S128.rowMajor.symm ((y gathers_S65536x2x128_S128x2x128.axis').cast hn.symm))
    rw [Equiv.apply_symm_apply] at this
    exact this.symm
  show fx _ = fx _
  congr 1
  funext a
  match a with
  | 0 =>
    refine Fin.ext ?_
    show 0 + 1 * (fi (placeI b hb _) : BitVec 32).toNat = (fi _ : BitVec 32).toNat % 65536
    rw [Nat.mod_eq_of_lt (hin _)]
    simp only [Nat.zero_add, Nat.one_mul]
    congr 2
    funext a
    match a with
    | 0 => rfl
    | 1 => exact Fin.ext (by show 128 * b + _ = 128 * b + 1 * (y 0).val; rw [hs]; omega)
  | 1 => exact Fin.ext (by show 0 + 1 * (y 1).val = 0 + 1 * (y 1).val; rfl)
  | 2 => exact Fin.ext (by show 0 + 1 * (y 2).val = 0 + 1 * (y 2).val; rfl)

section Steps

variable (d : Dev nD) (L : grid0.Coords)

abbrev thr : Thread nD τ := V d (cV L) (jV L)

variable (fx : Buf (Elt F) (xLoc d)) (fi : Buf (Elt F) (iLoc d))

/-- Slot `p` holds block `b` of the row numbers; and the block itself. -/
def InDone (p : ℕ) (hp : p < 2) (b : ℕ) (hb : b < 52) : sProp 𝕄 :=
  iprop((∃ f, ⌜(slotI p hp).view.read (Elt F) f = (blkI b hb).view.read (Elt F) fi⌝
      ∗ (slotI p hp).view.loc (thr d L) ↦[(slotI p hp).view.set]{fullShare} f)
    ∗ (blkI b hb).view.loc (thr d L) ↦[(blkI b hb).view.set]{fullShare} fi)
/-- The fetch of block `b` into slot `p`, in flight. -/
def InFl (p : ℕ) (hp : p < 2) (b : ℕ) (hb : b < 52) : sProp 𝕄 :=
  Transfers.Flight countersEmb (thr d L) (.dma (semI p hp)) (default : HIx 1) (slotI p hp).view.dmaCredit (InDone d L fi p hp b hb)
/-- Slot `p` of the scratch of rows, at some contents. -/
def RowsAny (p : ℕ) (hp : p < 2) : sProp 𝕄 :=
  iprop(∃ f, (slotR p hp).view.loc (thr d L) ↦[(slotR p hp).view.set]{fullShare} f)
/-- Slot `p` of the scratch of row numbers, at some contents. -/
def ListAny (p : ℕ) (hp : p < 2) : sProp 𝕄 :=
  iprop(∃ f, (slotI p hp).view.loc (thr d L) ↦[(slotI p hp).view.set]{fullShare} f)
/-- Block `b` of the row numbers, and of the result at contents `f`. -/
def IdxBlk (b : ℕ) (hb : b < 52) : sProp 𝕄 :=
  iprop((blkI b hb).view.loc (thr d L) ↦[(blkI b hb).view.set]{fullShare} fi)
def OutBlk (b : ℕ) (hb : b < 52) (f : Buf (Elt F) (oLoc d)) : sProp 𝕄 :=
  iprop((blkO b hb).view.loc (thr d L) ↦[(blkO b hb).view.set]{fullShare} f)
/-- A share of the table. -/
def Table (q : PosShare TreeShare) : sProp 𝕄 :=
  iprop((xAll).view.loc (thr d L) ↦[(xAll).view.set]{q} fx)
/-- Slot `p` of the scratch of rows holds block `b` of the rows gathered. -/
def RowsAt (p : ℕ) (hp : p < 2) (b : ℕ) (hb : b < 52) : sProp 𝕄 :=
  iprop(∃ f, ⌜(slotR p hp).view.read (Elt F) f = (blkO b hb).view.read (Elt F) (rowsOf d fx fi)⌝
      ∗ (slotR p hp).view.loc (thr d L) ↦[(slotR p hp).view.set]{fullShare} f)
/-- The copy of slot `p` to block `b` of the result, in flight. -/
def OutFl (p : ℕ) (hp : p < 2) (b : ℕ) (hb : b < 52) : sProp 𝕄 :=
  Transfers.Flight countersEmb (thr d L) (.dma (semO p hp)) (default : HIx 1) (blkO b hb).view.dmaCredit
    iprop(OutBlk d L b hb (rowsOf d fx fi) ∗ RowsAny d L p hp)
/-- The gather of block `b` from slot `p'` of the row numbers into slot `p` of the rows, in flight. -/
def GatherFl (q : PosShare TreeShare) (p' : ℕ) (hp' : p' < 2) (p : ℕ) (hp : p < 2) (b : ℕ) (hb : b < 52) : sProp 𝕄 :=
  Transfers.Flight countersEmb (thr d L) (.dma cc0_scoped4.sem) (default : HIx 1) (slotR p hp).view.dmaCredit
    iprop(RowsAt d L fx fi p hp b hb ∗ Table d L fx q ∗ ListAny d L p' hp')

/-- The fetch of a block of row numbers. -/
theorem step_in {α : Type} {p : ℕ} (hp : p < 2) {b : ℕ} (hb : b < 52) {o5 : Fin 2 → ℕ} {o4 : Fin 3 → ℕ} {o6 : Fin 1 → ℕ}
    (e5 : o5 = ![0, 128 * b]) (e4 : o4 = ![p, 0, 0]) (e6 : o6 = ![p])
    {h5 : ∀ a, o5 a + S1x128.size a ≤ S1x6656.size a} {h4 : ∀ a, o4 a + S1x1x128.size a ≤ S2x1x128.size a} {h6 : ∀ a, o6 a + S1.size a ≤ S2.size a}
    {w1 : (memI o5 h5).view.WordExact} {w2 : (memS o4 h4).view.WordExact} {w3 : DmaTarget.Typed (nD := nD) .hbm (.dma (cellI o6 h6)) (.here (p := .scVector (cV L) (jV L)) (memS o4 h4))}
    {k : PUnit → Prog (TpuEff nD τ sig (Elt F) Λ₀ (.scVector (cV L) (jV L))) α} {Q : α → sProp 𝕄} :
    iprop(ListAny d L p hp ∗ IdxBlk d L fi b hb ∗ semVal (thr d L, SemLoc.dma (semI p hp)) 0)
      ⊢ iprop((InFl d L fi p hp b hb -∗ wp frame (wpE (defs₀ (F := F)) 𝒱₀ (thr d L) none) Set.univ (k ⟨⟩) Q)
          -∗ wp frame (wpE (defs₀ (F := F)) 𝒱₀ (thr d L) none) Set.univ
            (.op (.enqueueDma (memI o5 h5) (.here (memS o4 h4)) (.dma (cellI o6 h6)) w1 w2 w3) k) Q) := by
  subst e5 e4 e6
  unfold ListAny IdxBlk
  iintro ⟨⟨%f, Hs⟩, Hi, Hv⟩ Hk
  iapply (Transfers.wp_dmaLocal countersEmb 𝒱₀ (thr d L) none (default : HIx 1) (slotI p hp).view.dmaCredit rfl
    (View.dmaCredit_pos _ (by decide)) (Finset.Subset.refl _)) $$ [Hs Hi Hv]
  · isplitl [Hi]; · iexact Hi
    isplitl [Hs]; · iexact Hs
    iexact Hv
  iintro Hf
  iapply Hk
  unfold InFl
  iapply (Transfers.Flight_mono countersEmb (thr d L) ?_) $$ Hf
  unfold InDone
  iintro ⟨Hs, Hi⟩
  isplitl [Hs]
  · iexists _
    isplitr
    swap; · iexact Hs
    ipureintro
    exact View.read_write_univ _ _
  · iexact Hi

/-- Its wait. -/
theorem step_inwait {α : Type} {p : ℕ} (hp : p < 2) {b : ℕ} (hb : b < 52) {o5 : Fin 2 → ℕ} {o4 : Fin 3 → ℕ} {o6 : Fin 1 → ℕ}
    (e5 : o5 = ![0, 128 * b]) (e4 : o4 = ![p, 0, 0]) (e6 : o6 = ![p])
    {h5 : ∀ a, o5 a + S1x128.size a ≤ S1x6656.size a} {h4 : ∀ a, o4 a + S1x1x128.size a ≤ S2x1x128.size a} {h6 : ∀ a, o6 a + S1.size a ≤ S2.size a}
    {w1 : (memI o5 h5).view.WordExact} {w2 : (memS o4 h4).view.WordExact} {O : CellTallies nD τ sig (HIx 1)} {W : Waits sig (HIx 1)}
    {k : PUnit → Prog (TpuEff nD τ sig (Elt F) Λ₀ (.scVector (cV L) (jV L))) α} {Q : α → sProp 𝕄} :
    iprop(InFl d L fi p hp b hb ∗ owes (thr d L) O W ∗ Transfers.MayWaits (thr d L) (default : HIx 1) O)
      ⊢ iprop((iprop(InDone d L fi p hp b hb ∗ semVal (thr d L, SemLoc.dma (semI p hp)) 0
              ∗ owes (thr d L) O (insert (SemLoc.dma (semI p hp), (default : HIx 1)) W))
            -∗ wp frame (wpE (defs₀ (F := F)) 𝒱₀ (thr d L) none) Set.univ (k ⟨⟩) Q)
          -∗ wp frame (wpE (defs₀ (F := F)) 𝒱₀ (thr d L) none) Set.univ
            (.op (.waitDma2 (cellI o6 h6) (memI o5 h5) (memS o4 h4) w1 w2) k) Q) := by
  subst e5 e4 e6
  unfold InFl
  iintro ⟨Hf, HO, Hmw⟩ Hk
  iapply (Transfers.wp_waitLocalO countersEmb 𝒱₀ (thr d L) none (default : HIx 1) (rfl : (slotI p hp).view.dmaCredit = _)) $$ [Hf HO Hmw]
  · isplitl [Hf]; · iexact Hf
    isplitl [HO]; · iexact HO
    iapply (Transfers.MayWaits.elim (SemLoc.dma (semI p hp))) $$ Hmw
  iexact Hk

/-- The copy of a slot of rows out. -/
theorem step_out {α : Type} {p : ℕ} (hp : p < 2) {b : ℕ} (hb : b < 52) {o13 : Fin 3 → ℕ} {o12 : Fin 4 → ℕ} {o14 : Fin 1 → ℕ}
    (e13 : o13 = ![128 * b, 0, 0]) (e12 : o12 = ![p, 0, 0, 0]) (e14 : o14 = ![p])
    {h13 : ∀ a, o13 a + S128x2x128.size a ≤ S6656x2x128.size a} {h12 : ∀ a, o12 a + S1x128x2x128.size a ≤ S2x128x2x128.size a}
    {h14 : ∀ a, o14 a + S1.size a ≤ S2.size a}
    {w1 : (memR o12 h12).view.WordExact} {w2 : (memO o13 h13).view.WordExact}
    {w3 : DmaTarget.Typed (nD := nD) .vmem (.dma (cellO o14 h14)) (.here (p := .scVector (cV L) (jV L)) (memO o13 h13))}
    {fo : Buf (Elt F) (oLoc d)}
    {k : PUnit → Prog (TpuEff nD τ sig (Elt F) Λ₀ (.scVector (cV L) (jV L))) α} {Q : α → sProp 𝕄} :
    iprop(RowsAt d L fx fi p hp b hb ∗ OutBlk d L b hb fo ∗ semVal (thr d L, SemLoc.dma (semO p hp)) 0)
      ⊢ iprop((OutFl d L fx fi p hp b hb -∗ wp frame (wpE (defs₀ (F := F)) 𝒱₀ (thr d L) none) Set.univ (k ⟨⟩) Q)
          -∗ wp frame (wpE (defs₀ (F := F)) 𝒱₀ (thr d L) none) Set.univ
            (.op (.enqueueDma (memR o12 h12) (.here (memO o13 h13)) (.dma (cellO o14 h14)) w1 w2 w3) k) Q) := by
  subst e13 e12 e14
  unfold RowsAt OutBlk
  iintro ⟨⟨%f, %hf, Hr⟩, Ho, Hv⟩ Hk
  iapply (Transfers.wp_dmaLocal countersEmb 𝒱₀ (thr d L) none (default : HIx 1) (blkO b hb).view.dmaCredit rfl
    (View.dmaCredit_pos _ (by decide)) (Finset.Subset.refl _)) $$ [Hr Ho Hv]
  · isplitl [Hr]; · iexact Hr
    isplitl [Ho]; · iexact Ho
    iexact Hv
  iintro Hf
  iapply Hk
  unfold OutFl
  iapply (Transfers.Flight_mono countersEmb (thr d L) ?_) $$ Hf
  unfold OutBlk RowsAny
  iintro ⟨Ho, Hr⟩
  isplitl [Ho]
  · iapply (Entails.of_eq (pointsTo_congr (f := (blkO b hb).view.write (Elt F) fo ((slotR p hp).view.read (Elt F) f) Finset.univ)
      (g := rowsOf d fx fi) fun j hj => by rw [hf]; exact write_read_on _ _ _ _ j hj))
    iexact Ho
  · iexists _; iexact Hr

/-- Its wait. -/
theorem step_outwait {α : Type} {p : ℕ} (hp : p < 2) {b : ℕ} (hb : b < 52) {o13 : Fin 3 → ℕ} {o12 : Fin 4 → ℕ} {o14 : Fin 1 → ℕ}
    (e13 : o13 = ![128 * b, 0, 0]) (e12 : o12 = ![p, 0, 0, 0]) (e14 : o14 = ![p])
    {h13 : ∀ a, o13 a + S128x2x128.size a ≤ S6656x2x128.size a} {h12 : ∀ a, o12 a + S1x128x2x128.size a ≤ S2x128x2x128.size a}
    {h14 : ∀ a, o14 a + S1.size a ≤ S2.size a}
    {w1 : (memR o12 h12).view.WordExact} {w2 : (memO o13 h13).view.WordExact} {O : CellTallies nD τ sig (HIx 1)} {W : Waits sig (HIx 1)}
    {k : PUnit → Prog (TpuEff nD τ sig (Elt F) Λ₀ (.scVector (cV L) (jV L))) α} {Q : α → sProp 𝕄} :
    iprop(OutFl d L fx fi p hp b hb ∗ owes (thr d L) O W ∗ Transfers.MayWaits (thr d L) (default : HIx 1) O)
      ⊢ iprop((iprop((OutBlk d L b hb (rowsOf d fx fi) ∗ RowsAny d L p hp) ∗ semVal (thr d L, SemLoc.dma (semO p hp)) 0
              ∗ owes (thr d L) O (insert (SemLoc.dma (semO p hp), (default : HIx 1)) W))
            -∗ wp frame (wpE (defs₀ (F := F)) 𝒱₀ (thr d L) none) Set.univ (k ⟨⟩) Q)
          -∗ wp frame (wpE (defs₀ (F := F)) 𝒱₀ (thr d L) none) Set.univ
            (.op (.waitDma2 (cellO o14 h14) (memR o12 h12) (memO o13 h13) w1 w2) k) Q) := by
  subst e13 e12 e14
  unfold OutFl
  iintro ⟨Hf, HO, Hmw⟩ Hk
  iapply (Transfers.wp_waitLocalO countersEmb 𝒱₀ (thr d L) none (default : HIx 1) (rfl : (blkO b hb).view.dmaCredit = _)) $$ [Hf HO Hmw]
  · isplitl [Hf]; · iexact Hf
    isplitl [HO]; · iexact HO
    iapply (Transfers.MayWaits.elim (SemLoc.dma (semO p hp))) $$ Hmw
  iexact Hk

/-- The indirect gather: slot `p'` holds block `b` of the row numbers, each below the table's 65536 rows; slot `p` receives the rows they name. -/
theorem step_gather {α : Type} (hin : ∀ j : S1x6656.Idx, (fi j : BitVec 32).toNat < 65536)
    {p' : ℕ} (hp' : p' < 2) {p : ℕ} (hp : p < 2) {b : ℕ} (hb : b < 52) {o10 : Fin 4 → ℕ} {o11 : Fin 3 → ℕ}
    (e10 : o10 = ![p, 0, 0, 0]) (e11 : o11 = ![p', 0, 0])
    {h10 : ∀ a, o10 a + S1x128x2x128.size a ≤ S2x128x2x128.size a} {h11 : ∀ a, o11 a + S1x1x128.size a ≤ S2x1x128.size a}
    {w1 : (xAll).view.WordExact} {q : PosShare TreeShare} {hn : S128.numel = S128x2x128.size gathers_S65536x2x128_S128x2x128.axis'}
    {he : EltTy.f32.bits = 32} {hk : Kind.scVector = .scVector} {hsp : Space.hbm = .hbm ∨ Space.hbm = .shared} {hr : S65536x2x128.StreamRows 0}
    {k : PUnit → Prog (TpuEff nD τ sig (Elt F) Λ₀ (.scVector (cV L) (jV L))) α} {Q : α → sProp 𝕄} :
    iprop((InDone d L fi p' hp' b hb ∗ RowsAny d L p hp) ∗ Table d L fx q ∗ semVal (thr d L, SemLoc.dma cc0_scoped4.sem) 0)
      ⊢ iprop((iprop(GatherFl d L fx fi q p' hp' p hp b hb ∗ IdxBlk d L fi b hb) -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hk xAll (memR o10 h10) gathers_S65536x2x128_S128x2x128
              (((memS o11 h11).slice (Rect.unit (s := S1x128) ![0, 0] S1x128.size inb_S1x128_S1x128_0_0) (fun _ => rfl)).squeeze S128 squeezes_S1x128_S128)
              hn cc0_scoped4.sem w1 he hsp hr >>= k) Q) := by
  subst e10 e11
  unfold InDone RowsAny Table
  iintro ⟨⟨⟨⟨%f, %hf, Hs⟩, Hi⟩, ⟨%g, Hr⟩⟩, Hx, Hv⟩ Hk
  ihave Hs' := (Entails.of_eq (show ((slotI p' hp').view.loc (thr d L) ↦[(slotI p' hp').view.set]{fullShare} f : sProp 𝕄)
      = (lst p' hp').view.loc (thr d L) ↦[(lst p' hp').view.set]{fullShare} f by rw [lst_set])) $$ Hs
  have hN : ∀ h : S65536x2x128.Gathers 0 S128x2x128, ∑ j, ((slotR p hp).slice (S128x2x128.rowRect h.axis' j) (S128x2x128.stride_rowRect h.axis' j)).view.dmaCredit
      = (slotR p hp).view.dmaCredit := fun h => SparseCore.sum_rowCredit_eq_dmaCredit _ _ fun _ => rfl
  have hrow := lst_read d L fi p' hp' b hb f hf
  iapply (SparseCore.wp_indirectGatherLocal countersEmb 𝒱₀ (thr d L) none (hg := gathers_S65536x2x128_S128x2x128) (default : HIx 1)
      (slotR p hp).view.dmaCredit (hN _) (by decide) (fun x => by rw [hrow]; exact hin _)) $$ [Hx Hr Hs' Hv]
  · isplitl [Hx]; · iexact Hx
    isplitl [Hr]; · iexact Hr
    isplitl [Hs']; · iexact Hs'
    iexact Hv
  iintro Hf
  iapply Hk
  isplitl [Hf]
  · unfold GatherFl
    iapply (Transfers.Flight_mono countersEmb (thr d L) ?_) $$ Hf
    unfold RowsAt Table ListAny
    iintro ⟨Hr, Hx, Hs⟩
    isplitl [Hr]
    · iexists _
      isplitr
      swap; · iexact Hr
      ipureintro
      rw [View.read_write_univ]
      exact gathered d L fx fi hin hb _ hrow
    isplitl [Hx]; · iexact Hx
    iexists _
    iapply (Entails.of_eq (show ((lst p' hp').view.loc (thr d L) ↦[(lst p' hp').view.set]{fullShare} f : sProp 𝕄)
      = (slotI p' hp').view.loc (thr d L) ↦[(slotI p' hp').view.set]{fullShare} f by rw [lst_set]))
    iexact Hs
  · unfold IdxBlk; iexact Hi

/-- Its wait. -/
theorem step_gatherwait {α : Type} {p' : ℕ} (hp' : p' < 2) {p : ℕ} (hp : p < 2) {b : ℕ} (hb : b < 52) {o10 : Fin 4 → ℕ} (e10 : o10 = ![p, 0, 0, 0])
    {h10 : ∀ a, o10 a + S1x128x2x128.size a ≤ S2x128x2x128.size a}
    {w1 : (xAll).view.WordExact} {w2 : (memR o10 h10).view.WordExact} {q : PosShare TreeShare} {O : CellTallies nD τ sig (HIx 1)} {W : Waits sig (HIx 1)}
    {k : PUnit → Prog (TpuEff nD τ sig (Elt F) Λ₀ (.scVector (cV L) (jV L))) α} {Q : α → sProp 𝕄} :
    iprop(GatherFl d L fx fi q p' hp' p hp b hb ∗ owes (thr d L) O W ∗ Transfers.MayWaits (thr d L) (default : HIx 1) O)
      ⊢ iprop((iprop((RowsAt d L fx fi p hp b hb ∗ Table d L fx q ∗ ListAny d L p' hp') ∗ semVal (thr d L, SemLoc.dma cc0_scoped4.sem) 0
              ∗ owes (thr d L) O (insert (SemLoc.dma cc0_scoped4.sem, (default : HIx 1)) W))
            -∗ wp frame (wpE (defs₀ (F := F)) 𝒱₀ (thr d L) none) Set.univ (k ⟨⟩) Q)
          -∗ wp frame (wpE (defs₀ (F := F)) 𝒱₀ (thr d L) none) Set.univ
            (.op (.waitDma2 cc0_scoped4.sem xAll (memR o10 h10) w1 w2) k) Q) := by
  subst e10
  unfold GatherFl
  iintro ⟨Hf, HO, Hmw⟩ Hk
  iapply (Transfers.wp_waitLocalO countersEmb 𝒱₀ (thr d L) none (default : HIx 1) (rfl : (slotR p hp).view.dmaCredit = _)) $$ [Hf HO Hmw]
  · isplitl [Hf]; · iexact Hf
    isplitl [HO]; · iexact HO
    iapply (Transfers.MayWaits.elim (SemLoc.dma cc0_scoped4.sem)) $$ Hmw
  iexact Hk

end Steps

end Cert.Proof.Gather
-- ==== Proof.Trips.lean ====
/-
  The trips of the pipeline's loop: the only trip of a subcore with one block, and the first and the second trip of a
  subcore with two. Each is run once, from the steps, at a symbolic subcore.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v5_scv : Memref Cert.KernelIdeal.sig Kind.scVector Space.hbm Cert.KernelIdeal.S65536x2x128 EltTy.f32)
local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

/-- The subcore's number as the program computes it, its count of blocks, and its first block. -/
def wd3 (L : grid0.Coords) : BitVec 32 :=
  Scalar.addi (Scalar.addi 0#32 (Scalar.muli (BitVec.ofNat 32 (L 1).val) 1#32)) (Scalar.muli (BitVec.ofNat 32 (L 0).val) 16#32)
def wd5 (L : grid0.Coords) : BitVec 32 := Scalar.select (Scalar.cmpi .slt (wd3 L) 20#32) 2#32 1#32
def wd10 (L : grid0.Coords) : BitVec 32 :=
  Scalar.select (Scalar.cmpi .slt (wd3 L) 20#32) (Scalar.muli (wd3 L) (wd5 L)) (Scalar.addi (Scalar.muli (wd3 L) 1#32) 20#32)
def wd11 (L : grid0.Coords) : BitVec 32 := Scalar.muli 1#32 (wd5 L)

theorem lt0 : 0 < 2 := by decide
theorem lt1 : 1 < 2 := by decide

section Trips

variable (d : Dev nD) (L : grid0.Coords) (fx : Buf (Elt F) (xLoc d)) (fi : Buf (Elt F) (iLoc d))

/-- One trip's program. -/
abbrev trip (h1 : k0_cond1 L = 1#1) (v41 v45 : BitVec 32) (t : Fin (k0_t1_loop L).trips) (a : BitVec 32 × BitVec 32 × BitVec 32 × BitVec 32 × BitVec 32) :
    Prog (TpuEff nD τ sig (Elt F) Λ₀ (.scVector (cV L) (jV L))) (BitVec 32 × BitVec 32 × BitVec 32 × BitVec 32 × BitVec 32) :=
  k0_t1_body L xV (Memref.isWhole_whole _) iV (Memref.isWhole_whole _) oV (Memref.isWhole_whole _)
    sV (Memref.isWhole_whole _) cc0_scoped1 rV (Memref.isWhole_whole _) cc0_scoped3 cc0_scoped4 cc0_scoped5
    (wd5 L) (wd10 L) (wd11 L) h1 v41 0#32 0#32 0#32 0#32 0#32 v45 t a

set_option maxHeartbeats 4000000 in
/-- The first trip of a subcore with two blocks: the second block's row numbers are asked for, the first's are waited
    for, the first's rows are gathered and their copy out is begun. -/
theorem trip_first (hin : ∀ j : S1x6656.Idx, (fi j : BitVec 32).toNat < 65536) (hw : wid L < 20) (h1 : k0_cond1 L = 1#1) (v41 v45 : BitVec 32)
    (t : Fin (k0_t1_loop L).trips) (ht : t.val = 0) (q : PosShare TreeShare) (fo : Buf (Elt F) (oLoc d))
    (O : CellTallies nD τ sig (HIx 1)) (W : Waits sig (HIx 1)) :
    iprop(Transfers.MayWaits (thr d L) (default : HIx 1) O ∗ InFl d L fi 0 lt0 (blk L) (blk_lt L)
        ∗ ListAny d L 1 lt1 ∗ IdxBlk d L fi (blk L + 1) (blk_succ_lt L hw) ∗ semVal (thr d L, SemLoc.dma (semI 1 lt1)) 0
        ∗ RowsAny d L 0 lt0 ∗ Table d L fx q ∗ semVal (thr d L, SemLoc.dma cc0_scoped4.sem) 0
        ∗ OutBlk d L (blk L) (blk_lt L) fo ∗ semVal (thr d L, SemLoc.dma (semO 0 lt0)) 0
        ∗ owes (thr d L) O W)
      ⊢ wp frame (wpE (defs₀ (F := F)) 𝒱₀ (thr d L) none) Set.univ (trip L h1 v41 v45 t (1#32, 0#32, 0#32, 0#32, 0#32))
        fun a => iprop(⌜a = (2#32, 1#32, 1#32, 0#32, 1#32)⌝
          ∗ InFl d L fi 1 lt1 (blk L + 1) (blk_succ_lt L hw)
          ∗ ListAny d L 0 lt0 ∗ IdxBlk d L fi (blk L) (blk_lt L) ∗ semVal (thr d L, SemLoc.dma (semI 0 lt0)) 0
          ∗ OutFl d L fx fi 0 lt0 (blk L) (blk_lt L) ∗ Table d L fx q ∗ semVal (thr d L, SemLoc.dma cc0_scoped4.sem) 0
          ∗ ∃ W', ⌜∀ p ∈ W', p ∈ W ∨ p.2 = none⌝ ∗ owes (thr d L) O W') := by
  have f3 := chk3_0 L
  have f2 := chk2_0 L
  have f1 := chkB L hw t ht
  have g3 := c3B L hw t ht
  have g4 := c4B L hw t ht
  have g7 := c7B L hw t ht
  have g9 := c9B L hw t ht
  unfold trip k0_t1_body
  iintro ⟨#Hmw, Hin, Hl, Hi, Hc1, Hr, Hx, Hg, Ho, Hc, HO⟩
  rw [wp_bind, k0_part3_eq_skeleton]
  unfold k0_part3_skel
  rw [wp_bind, k0_part1_eq_skeleton]
  unfold k0_part1_skel
  simp only [Prog.lift, Prog.bind_op, Prog.bind_ret]
  iapply (wp_assume 𝒱₀ (thr d L) none Set.univ f3)
  iapply (wp_assume 𝒱₀ (thr d L) none Set.univ f2)
  iapply (wp_assume 𝒱₀ (thr d L) none Set.univ f1)
  rw [dif_pos g3]
  iapply (step_in d L fi lt1 (blk_succ_lt L hw) (off5_0 L hw) off4_1 off6_1) $$ [Hl Hi Hc1]
  · isplitl [Hl]; · iexact Hl
    isplitl [Hi]; · iexact Hi
    iexact Hc1
  iintro Hn
  rw [wp_pure]
  imodintro
  rw [wp_bind, k0_part2_eq_skeleton]
  unfold k0_part2_skel
  simp only [Prog.lift, Prog.bind_op, Prog.bind_ret, ite_self]
  rw [dif_pos g4]
  iapply (step_inwait d L fi lt0 (blk_lt L) (off8_0 L) off7_0 off9_0) $$ [Hin HO]
  · isplitl [Hin]; · iexact Hin
    isplitl [HO]; · iexact HO
    iexact Hmw
  iintro ⟨Hl, Hc0, HO⟩
  iapply (step_gather d L fx fi hin lt0 lt0 (blk_lt L) off10_0 off11_0) $$ [Hl Hr Hx Hg]
  · isplitl [Hl Hr]
    · isplitl [Hl]; · iexact Hl
      iexact Hr
    isplitl [Hx]; · iexact Hx
    iexact Hg
  iintro ⟨Hf, Hi⟩
  rw [wp_pure]
  imodintro
  simp only [SparseCore.waitIndirectGather, Prog.lift, Prog.bind_op, Prog.bind_ret]
  iapply (step_gatherwait d L fx fi lt0 lt0 (blk_lt L) off10_0) $$ [Hf HO]
  · isplitl [Hf]; · iexact Hf
    isplitl [HO]; · iexact HO
    iexact Hmw
  iintro ⟨⟨Hr, Hx, Hl⟩, Hg, HO⟩
  rw [dif_pos g7]
  iapply (step_out d L fx fi lt0 (blk_lt L) (off13_0 L) off12_0 off14_0) $$ [Hr Ho Hc]
  · isplitl [Hr]; · iexact Hr
    isplitl [Ho]; · iexact Ho
    iexact Hc
  iintro Hq
  rw [dif_neg g9]
  rw [wp_pure]
  imodintro
  rw [wp_pure]
  imodintro
  isplitr
  · ipureintro
    clear * - hw ht
    revert ht t hw L
    decide +kernel
  isplitl [Hn]; · iexact Hn
  isplitl [Hl]; · iexact Hl
  isplitl [Hi]; · iexact Hi
  isplitl [Hc0]; · iexact Hc0
  isplitl [Hq]; · iexact Hq
  isplitl [Hx]; · iexact Hx
  isplitl [Hg]; · iexact Hg
  iexists _
  isplitr
  swap; · iexact HO
  ipureintro
  intro p hp
  simp only [Finset.mem_insert] at hp
  rcases hp with rfl | rfl | hp
  · exact .inr rfl
  · exact .inr rfl
  · exact .inl hp

set_option maxHeartbeats 4000000 in
/-- The second trip of a subcore with two blocks: the second block's row numbers are waited for, its rows are gathered
    and their copy out is begun, and the first block's copy out is waited for. -/
theorem trip_second (hin : ∀ j : S1x6656.Idx, (fi j : BitVec 32).toNat < 65536) (hw : wid L < 20) (h1 : k0_cond1 L = 1#1) (v41 v45 : BitVec 32)
    (t : Fin (k0_t1_loop L).trips) (ht : t.val = 1) (q : PosShare TreeShare) (fo : Buf (Elt F) (oLoc d))
    (O : CellTallies nD τ sig (HIx 1)) (W : Waits sig (HIx 1)) :
    iprop(Transfers.MayWaits (thr d L) (default : HIx 1) O ∗ InFl d L fi 1 lt1 (blk L + 1) (blk_succ_lt L hw)
        ∗ RowsAny d L 1 lt1 ∗ Table d L fx q ∗ semVal (thr d L, SemLoc.dma cc0_scoped4.sem) 0
        ∗ OutBlk d L (blk L + 1) (blk_succ_lt L hw) fo ∗ semVal (thr d L, SemLoc.dma (semO 1 lt1)) 0
        ∗ OutFl d L fx fi 0 lt0 (blk L) (blk_lt L)
        ∗ owes (thr d L) O W)
      ⊢ wp frame (wpE (defs₀ (F := F)) 𝒱₀ (thr d L) none) Set.univ (trip L h1 v41 v45 t (2#32, 1#32, 1#32, 0#32, 1#32))
        fun a => iprop(⌜a = (2#32, 2#32, 2#32, 1#32, 0#32)⌝
          ∗ ListAny d L 1 lt1 ∗ IdxBlk d L fi (blk L + 1) (blk_succ_lt L hw) ∗ semVal (thr d L, SemLoc.dma (semI 1 lt1)) 0
          ∗ OutFl d L fx fi 1 lt1 (blk L + 1) (blk_succ_lt L hw)
          ∗ OutBlk d L (blk L) (blk_lt L) (rowsOf d fx fi) ∗ RowsAny d L 0 lt0 ∗ semVal (thr d L, SemLoc.dma (semO 0 lt0)) 0
          ∗ Table d L fx q ∗ semVal (thr d L, SemLoc.dma cc0_scoped4.sem) 0
          ∗ ∃ W', ⌜∀ p ∈ W', p ∈ W ∨ p.2 = none⌝ ∗ owes (thr d L) O W') := by
  have f3 := chk3_1 L
  have f2 := chk2_1 L
  have f1 := chkC L hw t ht
  have g3 := c3C L hw t ht
  have g4 := c4C L hw t ht
  have g7 := c7C L hw t ht
  have g9 := c9C L hw t ht
  unfold trip k0_t1_body
  iintro ⟨#Hmw, Hin, Hr, Hx, Hg, Ho, Hc, Hp, HO⟩
  rw [wp_bind, k0_part3_eq_skeleton]
  unfold k0_part3_skel
  rw [wp_bind, k0_part1_eq_skeleton]
  unfold k0_part1_skel
  simp only [Prog.lift, Prog.bind_op, Prog.bind_ret]
  iapply (wp_assume 𝒱₀ (thr d L) none Set.univ f3)
  iapply (wp_assume 𝒱₀ (thr d L) none Set.univ f2)
  iapply (wp_assume 𝒱₀ (thr d L) none Set.univ f1)
  rw [dif_neg g3]
  rw [wp_pure]
  imodintro
  rw [wp_bind, k0_part2_eq_skeleton]
  unfold k0_part2_skel
  simp only [Prog.lift, Prog.bind_op, Prog.bind_ret, ite_self]
  rw [dif_pos g4]
  iapply (step_inwait d L fi lt1 (blk_succ_lt L hw) (off8_1 L hw) off7_1 off9_1) $$ [Hin HO]
  · isplitl [Hin]; · iexact Hin
    isplitl [HO]; · iexact HO
    iexact Hmw
  iintro ⟨Hl, Hc0, HO⟩
  iapply (step_gather d L fx fi hin lt1 lt1 (blk_succ_lt L hw) off10_1 off11_1) $$ [Hl Hr Hx Hg]
  · isplitl [Hl Hr]
    · isplitl [Hl]; · iexact Hl
      iexact Hr
    isplitl [Hx]; · iexact Hx
    iexact Hg
  iintro ⟨Hf, Hi⟩
  rw [wp_pure]
  imodintro
  simp only [SparseCore.waitIndirectGather, Prog.lift, Prog.bind_op, Prog.bind_ret]
  iapply (step_gatherwait d L fx fi lt1 lt1 (blk_succ_lt L hw) off10_1) $$ [Hf HO]
  · isplitl [Hf]; · iexact Hf
    isplitl [HO]; · iexact HO
    iexact Hmw
  iintro ⟨⟨Hr, Hx, Hl⟩, Hg, HO⟩
  rw [dif_pos g7]
  iapply (step_out d L fx fi lt1 (blk_succ_lt L hw) (off13_1 L hw) off12_1 off14_1) $$ [Hr Ho Hc]
  · isplitl [Hr]; · iexact Hr
    isplitl [Ho]; · iexact Ho
    iexact Hc
  iintro Hq
  rw [dif_pos g9]
  iapply (step_outwait d L fx fi lt0 (blk_lt L) (off16_1 L hw) off15_0 off17_0) $$ [Hp HO]
  · isplitl [Hp]; · iexact Hp
    isplitl [HO]; · iexact HO
    iexact Hmw
  iintro ⟨⟨Hb, Hr⟩, Hc, HO⟩
  rw [wp_pure]
  imodintro
  rw [wp_pure]
  imodintro
  isplitr
  · ipureintro
    clear * - hw ht
    revert ht t hw L
    decide +kernel
  isplitl [Hl]; · iexact Hl
  isplitl [Hi]; · iexact Hi
  isplitl [Hc0]; · iexact Hc0
  isplitl [Hq]; · iexact Hq
  isplitl [Hb]; · iexact Hb
  isplitl [Hr]; · iexact Hr
  isplitl [Hc]; · iexact Hc
  isplitl [Hx]; · iexact Hx
  isplitl [Hg]; · iexact Hg
  iexists _
  isplitr
  swap; · iexact HO
  ipureintro
  intro p hp
  simp only [Finset.mem_insert] at hp
  rcases hp with rfl | rfl | rfl | hp
  · exact .inr rfl
  · exact .inr rfl
  · exact .inr rfl
  · exact .inl hp

set_option maxHeartbeats 4000000 in
/-- The only trip of a subcore with one block: its row numbers are waited for, its rows are gathered and their copy out
    is begun. -/
theorem trip_only (hin : ∀ j : S1x6656.Idx, (fi j : BitVec 32).toNat < 65536) (hw : ¬ wid L < 20) (h1 : k0_cond1 L = 1#1) (v41 v45 : BitVec 32)
    (t : Fin (k0_t1_loop L).trips) (ht : t.val = 0) (q : PosShare TreeShare) (fo : Buf (Elt F) (oLoc d))
    (O : CellTallies nD τ sig (HIx 1)) (W : Waits sig (HIx 1)) :
    iprop(Transfers.MayWaits (thr d L) (default : HIx 1) O ∗ InFl d L fi 0 lt0 (blk L) (blk_lt L)
        ∗ RowsAny d L 0 lt0 ∗ Table d L fx q ∗ semVal (thr d L, SemLoc.dma cc0_scoped4.sem) 0
        ∗ OutBlk d L (blk L) (blk_lt L) fo ∗ semVal (thr d L, SemLoc.dma (semO 0 lt0)) 0
        ∗ owes (thr d L) O W)
      ⊢ wp frame (wpE (defs₀ (F := F)) 𝒱₀ (thr d L) none) Set.univ (trip L h1 v41 v45 t (1#32, 0#32, 0#32, 0#32, 0#32))
        fun a => iprop(⌜a = (1#32, 1#32, 1#32, 0#32, 0#32)⌝
          ∗ ListAny d L 0 lt0 ∗ IdxBlk d L fi (blk L) (blk_lt L) ∗ semVal (thr d L, SemLoc.dma (semI 0 lt0)) 0
          ∗ OutFl d L fx fi 0 lt0 (blk L) (blk_lt L)
          ∗ Table d L fx q ∗ semVal (thr d L, SemLoc.dma cc0_scoped4.sem) 0
          ∗ ∃ W', ⌜∀ p ∈ W', p ∈ W ∨ p.2 = none⌝ ∗ owes (thr d L) O W') := by
  have f3 := chk3_0 L
  have f2 := chk2_0 L
  have f1 := chkA L hw t ht
  have g3 := c3A L hw t ht
  have g4 := c4A L hw t ht
  have g7 := c7A L hw t ht
  have g9 := c9A L hw t ht
  unfold trip k0_t1_body
  iintro ⟨#Hmw, Hin, Hr, Hx, Hg, Ho, Hc, HO⟩
  rw [wp_bind, k0_part3_eq_skeleton]
  unfold k0_part3_skel
  rw [wp_bind, k0_part1_eq_skeleton]
  unfold k0_part1_skel
  simp only [Prog.lift, Prog.bind_op, Prog.bind_ret]
  iapply (wp_assume 𝒱₀ (thr d L) none Set.univ f3)
  iapply (wp_assume 𝒱₀ (thr d L) none Set.univ f2)
  iapply (wp_assume 𝒱₀ (thr d L) none Set.univ f1)
  rw [dif_neg g3]
  rw [wp_pure]
  imodintro
  rw [wp_bind, k0_part2_eq_skeleton]
  unfold k0_part2_skel
  simp only [Prog.lift, Prog.bind_op, Prog.bind_ret, ite_self]
  rw [dif_pos g4]
  iapply (step_inwait d L fi lt0 (blk_lt L) (off8_0 L) off7_0 off9_0) $$ [Hin HO]
  · isplitl [Hin]; · iexact Hin
    isplitl [HO]; · iexact HO
    iexact Hmw
  iintro ⟨Hl, Hc0, HO⟩
  iapply (step_gather d L fx fi hin lt0 lt0 (blk_lt L) off10_0 off11_0) $$ [Hl Hr Hx Hg]
  · isplitl [Hl Hr]
    · isplitl [Hl]; · iexact Hl
      iexact Hr
    isplitl [Hx]; · iexact Hx
    iexact Hg
  iintro ⟨Hf, Hi⟩
  rw [wp_pure]
  imodintro
  simp only [SparseCore.waitIndirectGather, Prog.lift, Prog.bind_op, Prog.bind_ret]
  iapply (step_gatherwait d L fx fi lt0 lt0 (blk_lt L) off10_0) $$ [Hf HO]
  · isplitl [Hf]; · iexact Hf
    isplitl [HO]; · iexact HO
    iexact Hmw
  iintro ⟨⟨Hr, Hx, Hl⟩, Hg, HO⟩
  rw [dif_pos g7]
  iapply (step_out d L fx fi lt0 (blk_lt L) (off13_0 L) off12_0 off14_0) $$ [Hr Ho Hc]
  · isplitl [Hr]; · iexact Hr
    isplitl [Ho]; · iexact Ho
    iexact Hc
  iintro Hq
  rw [dif_neg g9]
  rw [wp_pure]
  imodintro
  rw [wp_pure]
  imodintro
  isplitr
  · ipureintro
    clear * - hw ht
    revert ht t hw L
    decide +kernel
  isplitl [Hl]; · iexact Hl
  isplitl [Hi]; · iexact Hi
  isplitl [Hc0]; · iexact Hc0
  isplitl [Hq]; · iexact Hq
  isplitl [Hx]; · iexact Hx
  isplitl [Hg]; · iexact Hg
  iexists _
  isplitr
  swap; · iexact HO
  ipureintro
  intro p hp
  simp only [Finset.mem_insert] at hp
  rcases hp with rfl | rfl | hp
  · exact .inr rfl
  · exact .inr rfl
  · exact .inl hp

end Trips

end Cert.Proof.Gather
-- ==== Proof.Body.lean ====
/-
  A subcore's whole run: the first copy of row numbers, the trips of the pipeline and the last wait, for a subcore with
  two blocks and for one with one.
-/
module

public import proofs.«01_k».proof.Proof.Trips

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v5_scv : Memref Cert.KernelIdeal.sig Kind.scVector Space.hbm Cert.KernelIdeal.S65536x2x128 EltTy.f32)
local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

/-- Where the trips end, as the program computes it. -/
def wd45 (L : grid0.Coords) : BitVec 32 := Scalar.muli (Scalar.divsi (Scalar.subi (wd11 L) 0#32) 1#32) 1#32
theorem wd41 : ∀ L : grid0.Coords, Scalar.select (Scalar.andi 1#1 (Scalar.cmpi .sgt (Scalar.muli 1#32 (wd5 L)) 0#32)) (Scalar.addi 0#32 1#32) 0#32 = 1#32 := by
  decide +kernel

/-- A run whose end is known, followed by what needs only that end. -/
theorem wp_with {thr : Thread nD τ} {α : Type} {p : Prog (TpuEff nD τ sig (Elt F) Λ₀ thr.2) α} {pre : sProp 𝕄} {Q Q' : α → sProp 𝕄}
    (h : pre ⊢ wp frame (wpE (defs₀ (F := F)) 𝒱₀ thr none) Set.univ p Q) :
    pre ⊢ iprop((∀ a, Q a -∗ Q' a) -∗ wp frame (wpE (defs₀ (F := F)) 𝒱₀ thr none) Set.univ p Q') :=
  h.trans (wp_wand _ _ _)

/-- Two lists of waits, one after the other. -/
theorem waits_trans {W W' W'' : Waits sig (HIx 1)} (h : ∀ p ∈ W', p ∈ W ∨ p.2 = none) (h' : ∀ p ∈ W'', p ∈ W' ∨ p.2 = none) :
    ∀ p ∈ W'', p ∈ W ∨ p.2 = none := fun p hp => (h' p hp).elim (h p) .inr
theorem waits_insert {W W' : Waits sig (HIx 1)} {c : SemLoc sig} (h : ∀ p ∈ W', p ∈ W ∨ p.2 = none) :
    ∀ p ∈ insert (c, (default : HIx 1)) W', p ∈ W ∨ p.2 = none := fun p hp =>
  (Finset.mem_insert.mp hp).elim (fun e => .inr (e ▸ rfl)) (h p)

section Body

variable (d : Dev nD) (L : grid0.Coords) (fx : Buf (Elt F) (xLoc d)) (fi : Buf (Elt F) (iLoc d))

/-- The copies before the trips, and the trips with the last wait. -/
abbrev before (h1 : k0_cond1 L = 1#1) :=
  k0_part7 (F := F) L xV (Memref.isWhole_whole _) iV (Memref.isWhole_whole _) oV (Memref.isWhole_whole _)
    sV (Memref.isWhole_whole _) cc0_scoped1 rV (Memref.isWhole_whole _) cc0_scoped3 cc0_scoped4 cc0_scoped5 (wd5 L) (wd10 L) (wd11 L) h1
abbrev trips (h1 : k0_cond1 L = 1#1) :=
  k0_part8 (F := F) L xV (Memref.isWhole_whole _) iV (Memref.isWhole_whole _) oV (Memref.isWhole_whole _)
    sV (Memref.isWhole_whole _) cc0_scoped1 rV (Memref.isWhole_whole _) cc0_scoped3 cc0_scoped4 cc0_scoped5 (wd5 L) (wd10 L) (wd11 L) h1 1#32 0#32 0#32 0#32 0#32 0#32 (wd45 L)

theorem before_wp (h1 : k0_cond1 L = 1#1) :
    iprop(ListAny d L 0 lt0 ∗ IdxBlk d L fi (blk L) (blk_lt L) ∗ semVal (thr d L, SemLoc.dma (semI 0 lt0)) 0)
      ⊢ wp frame (wpE (defs₀ (F := F)) 𝒱₀ (thr d L) none) Set.univ (before L h1)
        fun a => iprop(⌜a = ⟨1#32, 0#32, 0#32, 0#32, 0#32, 0#32, wd45 L⟩⌝ ∗ InFl d L fi 0 lt0 (blk L) (blk_lt L)) := by
  unfold before
  rw [k0_part7_eq_skeleton]
  unfold k0_part7_skel
  simp only [Prog.lift, Prog.bind_op, Prog.bind_ret]
  iintro ⟨Hl, Hi, Hc⟩
  rw [dif_pos (c2 L)]
  iapply (step_in d L fi lt0 (blk_lt L) (off2 L) k0_off1_eq off3) $$ [Hl Hi Hc]
  · isplitl [Hl]; · iexact Hl
    isplitl [Hi]; · iexact Hi
    iexact Hc
  iintro Hn
  rw [wp_pure]
  imodintro
  isplitr
  · ipureintro
    rw [wd41]
    rfl
  iexact Hn

set_option maxHeartbeats 4000000 in
theorem trips_two_wp (hin : ∀ j : S1x6656.Idx, (fi j : BitVec 32).toNat < 65536) (hw : wid L < 20) (h1 : k0_cond1 L = 1#1)
    (q : PosShare TreeShare) (fo fo' : Buf (Elt F) (oLoc d)) (O : CellTallies nD τ sig (HIx 1)) (W : Waits sig (HIx 1)) :
    iprop(Transfers.MayWaits (thr d L) (default : HIx 1) O ∗ InFl d L fi 0 lt0 (blk L) (blk_lt L)
        ∗ ListAny d L 1 lt1 ∗ IdxBlk d L fi (blk L + 1) (blk_succ_lt L hw) ∗ semVal (thr d L, SemLoc.dma (semI 1 lt1)) 0
        ∗ RowsAny d L 0 lt0 ∗ RowsAny d L 1 lt1 ∗ Table d L fx q ∗ semVal (thr d L, SemLoc.dma cc0_scoped4.sem) 0
        ∗ OutBlk d L (blk L) (blk_lt L) fo ∗ semVal (thr d L, SemLoc.dma (semO 0 lt0)) 0
        ∗ OutBlk d L (blk L + 1) (blk_succ_lt L hw) fo' ∗ semVal (thr d L, SemLoc.dma (semO 1 lt1)) 0
        ∗ owes (thr d L) O W)
      ⊢ wp frame (wpE (defs₀ (F := F)) 𝒱₀ (thr d L) none) Set.univ (trips L h1)
        fun _ => iprop((ListAny d L 0 lt0 ∗ IdxBlk d L fi (blk L) (blk_lt L) ∗ semVal (thr d L, SemLoc.dma (semI 0 lt0)) 0)
          ∗ (ListAny d L 1 lt1 ∗ IdxBlk d L fi (blk L + 1) (blk_succ_lt L hw) ∗ semVal (thr d L, SemLoc.dma (semI 1 lt1)) 0)
          ∗ (OutBlk d L (blk L) (blk_lt L) (rowsOf d fx fi) ∗ RowsAny d L 0 lt0 ∗ semVal (thr d L, SemLoc.dma (semO 0 lt0)) 0)
          ∗ (OutBlk d L (blk L + 1) (blk_succ_lt L hw) (rowsOf d fx fi) ∗ RowsAny d L 1 lt1 ∗ semVal (thr d L, SemLoc.dma (semO 1 lt1)) 0)
          ∗ Table d L fx q ∗ semVal (thr d L, SemLoc.dma cc0_scoped4.sem) 0
          ∗ ∃ W', ⌜∀ p ∈ W', p ∈ W ∨ p.2 = none⌝ ∗ owes (thr d L) O W') := by
  unfold trips
  rw [k0_part8_eq_skeleton]
  unfold k0_part8_skel
  iintro ⟨#Hmw, Hin, Hl1, Hi1, Hc1, Hr, Hr1, Hx, Hg, Ho, Hc, Ho1, Hd, HO⟩
  simp only [Prog.lift, Prog.bind_op, Prog.bind_ret, ite_self, dite_eq_ite]
  rw [wp_bind]
  sl_unroll (trips_two L hw)
  rw [wp_bind]
  iapply (wp_with (trip_first d L fx fi hin hw h1 1#32 (wd45 L) _ rfl q fo O W)) $$ [Hin Hl1 Hi1 Hc1 Hr Hx Hg Ho Hc HO]
  · isplitl []; · iexact Hmw
    isplitl [Hin]; · iexact Hin
    isplitl [Hl1]; · iexact Hl1
    isplitl [Hi1]; · iexact Hi1
    isplitl [Hc1]; · iexact Hc1
    isplitl [Hr]; · iexact Hr
    isplitl [Hx]; · iexact Hx
    isplitl [Hg]; · iexact Hg
    isplitl [Ho]; · iexact Ho
    isplitl [Hc]; · iexact Hc
    iexact HO
  iintro %a ⟨%ha, Hin, Hl, Hi, Hc0, Hq, Hx, Hg, %W1, %hW1, HO⟩
  subst ha
  rw [wp_bind]
  iapply (wp_with (trip_second d L fx fi hin hw h1 1#32 (wd45 L) _ rfl q fo' O W1)) $$ [Hin Hr1 Hx Hg Ho1 Hd Hq HO]
  · isplitl []; · iexact Hmw
    isplitl [Hin]; · iexact Hin
    isplitl [Hr1]; · iexact Hr1
    isplitl [Hx]; · iexact Hx
    isplitl [Hg]; · iexact Hg
    isplitl [Ho1]; · iexact Ho1
    isplitl [Hd]; · iexact Hd
    isplitl [Hq]; · iexact Hq
    iexact HO
  iintro %a ⟨%ha, Hl1, Hi1, Hc1, Hq, Hb, Hr, Hc, Hx, Hg, %W2, %hW2, HO⟩
  subst ha
  rw [wp_ret]
  imodintro
  rw [wp_bind]
  sl_unroll (trips_tail L)
  rw [wp_ret]
  imodintro
  iapply (wp_assume 𝒱₀ (thr d L) none Set.univ (chk8_0 L))
  iapply (wp_assume 𝒱₀ (thr d L) none Set.univ (chk7_1 L))
  rw [dif_pos (c18 L)]
  iapply (step_outwait d L fx fi lt1 (blk_succ_lt L hw) (off33_two L hw) off35_1 off34_1) $$ [Hq HO]
  · isplitl [Hq]; · iexact Hq
    isplitl [HO]; · iexact HO
    iexact Hmw
  iintro ⟨⟨Hb1, Hr1⟩, Hc4, HO⟩
  rw [wp_pure]
  imodintro
  isplitl [Hl Hi Hc0]
  · isplitl [Hl]; · iexact Hl
    isplitl [Hi]; · iexact Hi
    iexact Hc0
  isplitl [Hl1 Hi1 Hc1]
  · isplitl [Hl1]; · iexact Hl1
    isplitl [Hi1]; · iexact Hi1
    iexact Hc1
  isplitl [Hb Hr Hc]
  · isplitl [Hb]; · iexact Hb
    isplitl [Hr]; · iexact Hr
    iexact Hc
  isplitl [Hb1 Hr1 Hc4]
  · isplitl [Hb1]; · iexact Hb1
    isplitl [Hr1]; · iexact Hr1
    iexact Hc4
  isplitl [Hx]; · iexact Hx
  isplitl [Hg]; · iexact Hg
  iexists _
  isplitr
  swap; · iexact HO
  ipureintro
  exact waits_insert (waits_trans hW1 hW2)

set_option maxHeartbeats 4000000 in
theorem trips_one_wp (hin : ∀ j : S1x6656.Idx, (fi j : BitVec 32).toNat < 65536) (hw : ¬ wid L < 20) (h1 : k0_cond1 L = 1#1)
    (q : PosShare TreeShare) (fo : Buf (Elt F) (oLoc d)) (O : CellTallies nD τ sig (HIx 1)) (W : Waits sig (HIx 1)) :
    iprop(Transfers.MayWaits (thr d L) (default : HIx 1) O ∗ InFl d L fi 0 lt0 (blk L) (blk_lt L)
        ∗ RowsAny d L 0 lt0 ∗ Table d L fx q ∗ semVal (thr d L, SemLoc.dma cc0_scoped4.sem) 0
        ∗ OutBlk d L (blk L) (blk_lt L) fo ∗ semVal (thr d L, SemLoc.dma (semO 0 lt0)) 0
        ∗ owes (thr d L) O W)
      ⊢ wp frame (wpE (defs₀ (F := F)) 𝒱₀ (thr d L) none) Set.univ (trips L h1)
        fun _ => iprop((ListAny d L 0 lt0 ∗ IdxBlk d L fi (blk L) (blk_lt L) ∗ semVal (thr d L, SemLoc.dma (semI 0 lt0)) 0)
          ∗ (OutBlk d L (blk L) (blk_lt L) (rowsOf d fx fi) ∗ RowsAny d L 0 lt0 ∗ semVal (thr d L, SemLoc.dma (semO 0 lt0)) 0)
          ∗ Table d L fx q ∗ semVal (thr d L, SemLoc.dma cc0_scoped4.sem) 0
          ∗ ∃ W', ⌜∀ p ∈ W', p ∈ W ∨ p.2 = none⌝ ∗ owes (thr d L) O W') := by
  unfold trips
  rw [k0_part8_eq_skeleton]
  unfold k0_part8_skel
  iintro ⟨#Hmw, Hin, Hr, Hx, Hg, Ho, Hc, HO⟩
  simp only [Prog.lift, Prog.bind_op, Prog.bind_ret, ite_self, dite_eq_ite]
  rw [wp_bind]
  sl_unroll (trips_one L hw)
  rw [wp_bind]
  iapply (wp_with (trip_only d L fx fi hin hw h1 1#32 (wd45 L) _ rfl q fo O W)) $$ [Hin Hr Hx Hg Ho Hc HO]
  · isplitl []; · iexact Hmw
    isplitl [Hin]; · iexact Hin
    isplitl [Hr]; · iexact Hr
    isplitl [Hx]; · iexact Hx
    isplitl [Hg]; · iexact Hg
    isplitl [Ho]; · iexact Ho
    isplitl [Hc]; · iexact Hc
    iexact HO
  iintro %a ⟨%ha, Hl, Hi, Hc0, Hq, Hx, Hg, %W1, %hW1, HO⟩
  subst ha
  rw [wp_ret]
  imodintro
  rw [wp_bind]
  sl_unroll (trips_tail L)
  rw [wp_ret]
  imodintro
  iapply (wp_assume 𝒱₀ (thr d L) none Set.univ (chk8_0 L))
  iapply (wp_assume 𝒱₀ (thr d L) none Set.univ (chk7_0 L))
  rw [dif_pos (c18 L)]
  iapply (step_outwait d L fx fi lt0 (blk_lt L) (off33_one L hw) off35_0 off34_0) $$ [Hq HO]
  · isplitl [Hq]; · iexact Hq
    isplitl [HO]; · iexact HO
    iexact Hmw
  iintro ⟨⟨Hb, Hr⟩, Hc, HO⟩
  rw [wp_pure]
  imodintro
  isplitl [Hl Hi Hc0]
  · isplitl [Hl]; · iexact Hl
    isplitl [Hi]; · iexact Hi
    iexact Hc0
  isplitl [Hb Hr Hc]
  · isplitl [Hb]; · iexact Hb
    isplitl [Hr]; · iexact Hr
    iexact Hc
  isplitl [Hx]; · iexact Hx
  isplitl [Hg]; · iexact Hg
  iexists _
  isplitr
  swap; · iexact HO
  ipureintro
  exact waits_insert hW1

end Body

end Cert.Proof.Gather
-- ==== Proof.Split.lean ====
/-
  How the arrays are dealt out: the row numbers and the result by blocks of 128, each to the subcore that owns the block;
  the table as a share to each subcore; a subcore's scratch by slots.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

/-! ## Splitting one array -/

/-- An array held on `I` is held on the parts of `I`, when the parts cover `I` and no two meet. -/
theorem pts_split {ℓ : Loc nD τ sig} {n : ℕ} {q : PosShare TreeShare} {f : Buf (Elt F) ℓ} (I : Finset (Idx ℓ)) (K : Fin n → Finset (Idx ℓ))
    (hI : ∀ j, j ∈ I ↔ ∃ i, j ∈ K i) (hK : ∀ i i' j, j ∈ K i → j ∈ K i' → i = i') :
    (ℓ ↦[I]{q} f : sProp 𝕄) = bigSep Finset.univ fun i : Fin n => ℓ ↦[K i]{q} f := by
  classical
  rw [← pointsTo_biUnion Finset.univ K fun i _ i' _ hne => Finset.disjoint_left.mpr fun j h h' => hne (hK i i' j h h')]
  congr 1
  ext j
  rw [hI, Finset.mem_biUnion]
  exact ⟨fun ⟨i, h⟩ => ⟨i, Finset.mem_univ _, h⟩, fun ⟨i, _, h⟩ => ⟨i, h⟩⟩

/-- In two parts. -/
theorem pts_two {ℓ : Loc nD τ sig} {q : PosShare TreeShare} {f : Buf (Elt F) ℓ} (I A B : Finset (Idx ℓ))
    (hI : ∀ j, j ∈ I ↔ j ∈ A ∨ j ∈ B) (hAB : ∀ j, j ∈ A → ¬ j ∈ B) :
    (ℓ ↦[I]{q} f : sProp 𝕄) = iprop((ℓ ↦[A]{q} f) ∗ ℓ ↦[B]{q} f) := by
  classical
  rw [show I = A ∪ B from Finset.ext fun j => (hI j).trans Finset.mem_union.symm]
  have h := pointsTo_union (Val := Elt F) (ℓ := ℓ) (q := q) (f := f) (Ix := HIx 1) (Name := ℕ) (U := UU) (Lvl := ℕ) (Finset.disjoint_left.mpr (hAB))
  exact BI.Entails.antisymm h.1 h.2

/-- At two contents, joined. -/
theorem pts_two_any {ℓ : Loc nD τ sig} (I A B : Finset (Idx ℓ))
    (hI : ∀ j, j ∈ I ↔ j ∈ A ∨ j ∈ B) (hAB : ∀ j, j ∈ A → ¬ j ∈ B) :
    (iprop(∃ f, ℓ ↦[I]{fullShare} f) : sProp 𝕄) = iprop((∃ f, ℓ ↦[A]{fullShare} f) ∗ ∃ f, ℓ ↦[B]{fullShare} f) := by
  classical
  have h1 : (iprop(∃ f, ℓ ↦[I]{fullShare} f) : sProp 𝕄) ⊢ iprop((∃ f, ℓ ↦[A]{fullShare} f) ∗ ∃ f, ℓ ↦[B]{fullShare} f) := by
    iintro ⟨%f, H⟩
    ihave H' := (Entails.of_eq (pts_two (F := F) I A B hI hAB)) $$ H
    icases H' with ⟨HA, HB⟩
    isplitl [HA]
    · iexists f; iexact HA
    · iexists f; iexact HB
  have h2 : iprop((∃ f, ℓ ↦[A]{fullShare} f) ∗ ∃ f, ℓ ↦[B]{fullShare} f) ⊢ (iprop(∃ f, ℓ ↦[I]{fullShare} f) : sProp 𝕄) := by
    iintro ⟨⟨%f, HA⟩, ⟨%g, HB⟩⟩
    iexists (B.piecewise g f)
    rw [show I = A ∪ B from Finset.ext fun j => (hI j).trans Finset.mem_union.symm]
    iapply (pointsTo_join (Finset.disjoint_left.mpr hAB))
    isplitl [HA]; · iexact HA
    iexact HB
  exact BI.Entails.antisymm h1 h2

/-! ## Shares -/

/-- `n + 1` shares of a share: its right half is the last, and the others are shares of its left half. -/
def part : ℕ → PosShare TreeShare → ℕ → PosShare TreeShare
  | 0, q, _ => q
  | n + 1, q, i => if i = n + 1 then q.right else part n q.left i

theorem pts_part {ℓ : Loc nD τ sig} (I : Finset (Idx ℓ)) (f : Buf (Elt F) ℓ) : ∀ (n : ℕ) (q : PosShare TreeShare),
    (ℓ ↦[I]{q} f : sProp 𝕄) = bigSep Finset.univ fun i : Fin (n + 1) => ℓ ↦[I]{part n q i.val} f
  | 0, q => (bigSep_univ_of_subsingleton (0 : Fin 1) (Φ := fun i : Fin 1 => (ℓ ↦[I]{part 0 q i.val} f : sProp 𝕄))).symm
  | n + 1, q => by
    have hs := pointsTo_share (Val := Elt F) (ℓ := ℓ) (I := I) (f := f) (Ix := HIx 1) (Name := ℕ) (U := UU) (Lvl := ℕ) (PosShare.mem_left_op_right q)
    rw [BI.Entails.antisymm hs.1 hs.2, pts_part I f n q.left,
      bigSep_univ_equiv (finSumFinEquiv : Fin (n + 1) ⊕ Fin 1 ≃ Fin (n + 1 + 1)) (fun i : Fin (n + 1 + 1) => (ℓ ↦[I]{part (n + 1) q i.val} f : sProp 𝕄)),
      bigSep_univ_sum, bigSep_univ_of_subsingleton (0 : Fin 1)]
    congr 1
    · refine bigSep_congr fun i _ => ?_
      have hi : (finSumFinEquiv (Sum.inl i : Fin (n + 1) ⊕ Fin 1)).val = i.val := by simp
      rw [hi, part, if_neg (by omega)]
    · have hi : (finSumFinEquiv (Sum.inr 0 : Fin (n + 1) ⊕ Fin 1)).val = n + 1 := by simp
      rw [hi, part, if_pos rfl]

/-! ## Blocks -/

/-- The subcore that owns block `b`. -/
def owner (b : ℕ) : ℕ := if b < 40 then b / 2 else b - 20

/-- The row numbers, and the rows of the result, of subcore `w`'s blocks; of all the blocks of SparseCore `c`. -/
def setI (w : ℕ) : Finset S1x6656.Idx := Finset.univ.filter fun j => owner ((j 1 : Fin 6656).val / 128) = w
def setO (w : ℕ) : Finset S6656x2x128.Idx := Finset.univ.filter fun j => owner ((j 0 : Fin 6656).val / 128) = w
def coreI (c : ℕ) : Finset S1x6656.Idx := Finset.univ.filter fun j => owner ((j 1 : Fin 6656).val / 128) / 16 = c
def coreO (c : ℕ) : Finset S6656x2x128.Idx := Finset.univ.filter fun j => owner ((j 0 : Fin 6656).val / 128) / 16 = c

theorem mem_setI {w : ℕ} {j : S1x6656.Idx} : j ∈ setI w ↔ owner ((j 1 : Fin 6656).val / 128) = w := by simp [setI]
theorem mem_setO {w : ℕ} {j : S6656x2x128.Idx} : j ∈ setO w ↔ owner ((j 0 : Fin 6656).val / 128) = w := by simp [setO]
theorem mem_coreI {w : ℕ} {j : S1x6656.Idx} : j ∈ coreI w ↔ owner ((j 1 : Fin 6656).val / 128) / 16 = w := by simp [coreI]
theorem mem_coreO {w : ℕ} {j : S6656x2x128.Idx} : j ∈ coreO w ↔ owner ((j 0 : Fin 6656).val / 128) / 16 = w := by simp [coreO]

theorem mem_blkI {b : ℕ} (hb : b < 52) (j : S1x6656.Idx) : j ∈ (blkI b hb).view.set ↔ (j 1 : Fin 6656).val / 128 = b := by
  have h : (blkI b hb).view.set = (Rect.unit (s := S1x6656) ![0, 128 * b] S1x128.size (inbI hb)).set := by
    show ((View.whole (main_v6_scv : Ref sig .scVector)).slice _).set = _
    rw [View.set_slice]; exact Finset.map_refl
  rw [h, Rect.mem_set_unit]
  constructor
  · intro h
    have h1 : 128 * b ≤ (j 1 : Fin 6656).val ∧ (j 1 : Fin 6656).val < 128 * b + 128 := h 1
    omega
  · intro h a
    match a with
    | 0 => exact ⟨Nat.zero_le _, (j 0).isLt⟩
    | 1 => exact (show 128 * b ≤ (j 1 : Fin 6656).val ∧ (j 1 : Fin 6656).val < 128 * b + 128 by omega)
theorem mem_blkO {b : ℕ} (hb : b < 52) (j : S6656x2x128.Idx) : j ∈ (blkO b hb).view.set ↔ (j 0 : Fin 6656).val / 128 = b := by
  have h : (blkO b hb).view.set = (Rect.unit (s := S6656x2x128) ![128 * b, 0, 0] S128x2x128.size (inbO hb)).set := by
    show ((View.whole (main_v7_scv : Ref sig .scVector)).slice _).set = _
    rw [View.set_slice]; exact Finset.map_refl
  rw [h, Rect.mem_set_unit]
  constructor
  · intro h
    have h1 : 128 * b ≤ (j 0 : Fin 6656).val ∧ (j 0 : Fin 6656).val < 128 * b + 128 := h 0
    omega
  · intro h a
    match a with
    | 0 => exact (show 128 * b ≤ (j 0 : Fin 6656).val ∧ (j 0 : Fin 6656).val < 128 * b + 128 by omega)
    | 1 => exact ⟨Nat.zero_le _, by have := (j 1).isLt; simpa using this⟩
    | 2 => exact ⟨Nat.zero_le _, by have := (j 2).isLt; simpa using this⟩

/-- A block is the subcore's when it is its first, or its second. -/
theorem owner_two (L : grid0.Coords) (hw : wid L < 20) (b : ℕ) (hb : b < 52) : owner b = wid L ↔ b = blk L ∨ b = blk L + 1 := by
  unfold owner blk; rw [if_pos hw]; split <;> omega
theorem owner_one (L : grid0.Coords) (hw : ¬ wid L < 20) (b : ℕ) (hb : b < 52) : owner b = wid L ↔ b = blk L := by
  have := wid_lt L
  unfold owner blk; rw [if_neg hw]; split <;> omega

theorem bI (j : S1x6656.Idx) : (j 1 : Fin 6656).val / 128 < 52 := by have h : (j 1 : Fin 6656).val < 6656 := (j 1 : Fin 6656).isLt; omega
theorem bO (j : S6656x2x128.Idx) : (j 0 : Fin 6656).val / 128 < 52 := by have h : (j 0 : Fin 6656).val < 6656 := (j 0 : Fin 6656).isLt; omega
theorem owner_lt {b : ℕ} (hb : b < 52) : owner b < 32 := by unfold owner; split <;> omega

section Deal

variable (d : Dev nD)

theorem deal_cores_I (f : Buf (Elt F) (iLoc d)) :
    (iLoc d ↦{fullShare} f : sProp 𝕄) = bigSep Finset.univ fun c : Fin 2 => iLoc d ↦[coreI c.val]{fullShare} f :=
  pts_split (ℓ := iLoc d) Finset.univ (fun c : Fin 2 => coreI c.val)
    (fun j => ⟨fun _ => ⟨⟨owner ((j 1 : Fin 6656).val / 128) / 16, by have := owner_lt (bI j); omega⟩, mem_coreI.mpr rfl⟩, fun _ => Finset.mem_univ _⟩)
    (fun c c' j h h' => Fin.ext ((mem_coreI.mp h).symm.trans (mem_coreI.mp h')))
theorem deal_cores_O (f : Buf (Elt F) (oLoc d)) :
    (oLoc d ↦{fullShare} f : sProp 𝕄) = bigSep Finset.univ fun c : Fin 2 => oLoc d ↦[coreO c.val]{fullShare} f :=
  pts_split (ℓ := oLoc d) Finset.univ (fun c : Fin 2 => coreO c.val)
    (fun j => ⟨fun _ => ⟨⟨owner ((j 0 : Fin 6656).val / 128) / 16, by have := owner_lt (bO j); omega⟩, mem_coreO.mpr rfl⟩, fun _ => Finset.mem_univ _⟩)
    (fun c c' j h h' => Fin.ext ((mem_coreO.mp h).symm.trans (mem_coreO.mp h')))

theorem deal_tiles_I (c : ℕ) (f : Buf (Elt F) (iLoc d)) :
    (iLoc d ↦[coreI c]{fullShare} f : sProp 𝕄) = bigSep Finset.univ fun i : Fin 16 => iLoc d ↦[setI (i.val + 16 * c)]{fullShare} f :=
  pts_split (ℓ := iLoc d) (coreI c) (fun i : Fin 16 => setI (i.val + 16 * c))
    (fun j => ⟨fun h => ⟨⟨owner ((j 1 : Fin 6656).val / 128) % 16, by omega⟩, mem_setI.mpr (by have := mem_coreI.mp h; simp only; omega)⟩,
      fun ⟨i, h⟩ => mem_coreI.mpr (by have := mem_setI.mp h; have := i.isLt; omega)⟩)
    (fun c c' j h h' => Fin.ext (by have := mem_setI.mp h; have := mem_setI.mp h'; omega))
theorem deal_tiles_O (c : ℕ) (f : Buf (Elt F) (oLoc d)) :
    (oLoc d ↦[coreO c]{fullShare} f : sProp 𝕄) = bigSep Finset.univ fun i : Fin 16 => oLoc d ↦[setO (i.val + 16 * c)]{fullShare} f :=
  pts_split (ℓ := oLoc d) (coreO c) (fun i : Fin 16 => setO (i.val + 16 * c))
    (fun j => ⟨fun h => ⟨⟨owner ((j 0 : Fin 6656).val / 128) % 16, by omega⟩, mem_setO.mpr (by have := mem_coreO.mp h; simp only; omega)⟩,
      fun ⟨i, h⟩ => mem_coreO.mpr (by have := mem_setO.mp h; have := i.isLt; omega)⟩)
    (fun c c' j h h' => Fin.ext (by have := mem_setO.mp h; have := mem_setO.mp h'; omega))

variable (L : grid0.Coords)

theorem tile_I_two (hw : wid L < 20) (f : Buf (Elt F) (iLoc d)) :
    (iLoc d ↦[setI (wid L)]{fullShare} f : sProp 𝕄) = iprop(IdxBlk d L f (blk L) (blk_lt L) ∗ IdxBlk d L f (blk L + 1) (blk_succ_lt L hw)) :=
  pts_two (ℓ := iLoc d) _ (blkI (blk L) (blk_lt L)).view.set (blkI (blk L + 1) (blk_succ_lt L hw)).view.set
    (fun j => by rw [mem_blkI, mem_blkI]; exact mem_setI.trans (owner_two L hw _ (bI j)))
    (fun j => by rw [mem_blkI, mem_blkI]; omega)
theorem tile_O_two (hw : wid L < 20) (f : Buf (Elt F) (oLoc d)) :
    (oLoc d ↦[setO (wid L)]{fullShare} f : sProp 𝕄) = iprop(OutBlk d L (blk L) (blk_lt L) f ∗ OutBlk d L (blk L + 1) (blk_succ_lt L hw) f) :=
  pts_two (ℓ := oLoc d) _ (blkO (blk L) (blk_lt L)).view.set (blkO (blk L + 1) (blk_succ_lt L hw)).view.set
    (fun j => by rw [mem_blkO, mem_blkO]; exact mem_setO.trans (owner_two L hw _ (bO j)))
    (fun j => by rw [mem_blkO, mem_blkO]; omega)
theorem tile_I_one (hw : ¬ wid L < 20) (f : Buf (Elt F) (iLoc d)) :
    (iLoc d ↦[setI (wid L)]{fullShare} f : sProp 𝕄) = IdxBlk d L f (blk L) (blk_lt L) := by
  unfold IdxBlk
  rw [show setI (wid L) = (blkI (blk L) (blk_lt L)).view.set from
    Finset.ext fun j => by rw [mem_blkI]; exact mem_setI.trans (owner_one L hw _ (bI j))]
theorem tile_O_one (hw : ¬ wid L < 20) (f : Buf (Elt F) (oLoc d)) :
    (oLoc d ↦[setO (wid L)]{fullShare} f : sProp 𝕄) = OutBlk d L (blk L) (blk_lt L) f := by
  unfold OutBlk
  rw [show setO (wid L) = (blkO (blk L) (blk_lt L)).view.set from
    Finset.ext fun j => by rw [mem_blkO]; exact mem_setO.trans (owner_one L hw _ (bO j))]

/-! ## Slots -/

theorem mem_slotI {p : ℕ} (hp : p < 2) (j : S2x1x128.Idx) : j ∈ (slotI p hp).view.set ↔ (j 0 : Fin 2).val = p := by
  have h : (slotI p hp).view.set = (Rect.unit (s := S2x1x128) ![p, 0, 0] S1x1x128.size (inbS hp)).set := by
    show (((View.whole (cc0_scoped0 : Ref sig .scVector)).slice _).reshape _ _).set = _
    rw [View.set_reshape, View.set_slice]; exact Finset.map_refl
  rw [h, Rect.mem_set_unit]
  constructor
  · intro h
    have h1 : p ≤ (j 0 : Fin 2).val ∧ (j 0 : Fin 2).val < p + 1 := h 0
    omega
  · intro h a
    match a with
    | 0 => exact (show p ≤ (j 0 : Fin 2).val ∧ (j 0 : Fin 2).val < p + 1 by omega)
    | 1 => exact ⟨Nat.zero_le _, by have := (j 1).isLt; simpa using this⟩
    | 2 => exact ⟨Nat.zero_le _, by have := (j 2).isLt; simpa using this⟩
theorem mem_slotR {p : ℕ} (hp : p < 2) (j : S2x128x2x128.Idx) : j ∈ (slotR p hp).view.set ↔ (j 0 : Fin 2).val = p := by
  have h : (slotR p hp).view.set = (Rect.unit (s := S2x128x2x128) ![p, 0, 0, 0] S1x128x2x128.size (inbR hp)).set := by
    show (((View.whole (cc0_scoped2 : Ref sig .scVector)).slice _).reshape _ _).set = _
    rw [View.set_reshape, View.set_slice]; exact Finset.map_refl
  rw [h, Rect.mem_set_unit]
  constructor
  · intro h
    have h1 : p ≤ (j 0 : Fin 2).val ∧ (j 0 : Fin 2).val < p + 1 := h 0
    omega
  · intro h a
    match a with
    | 0 => exact (show p ≤ (j 0 : Fin 2).val ∧ (j 0 : Fin 2).val < p + 1 by omega)
    | 1 => exact ⟨Nat.zero_le _, by have := (j 1).isLt; simpa using this⟩
    | 2 => exact ⟨Nat.zero_le _, by have := (j 2).isLt; simpa using this⟩
    | 3 => exact ⟨Nat.zero_le _, by have := (j 3).isLt; simpa using this⟩

theorem slots_I : (iprop(∃ f, (thr d L).loc cc0_scoped0 ↦{fullShare} f) : sProp 𝕄) = iprop(ListAny d L 0 lt0 ∗ ListAny d L 1 lt1) :=
  pts_two_any (ℓ := (thr d L).loc cc0_scoped0) Finset.univ (slotI 0 lt0).view.set (slotI 1 lt1).view.set
    (fun j => by
      rw [mem_slotI, mem_slotI]
      have h : ((j : S2x1x128.Idx) 0 : Fin 2).val < 2 := ((j : S2x1x128.Idx) 0 : Fin 2).isLt
      exact ⟨fun _ => by omega, fun _ => Finset.mem_univ _⟩)
    (fun j => by rw [mem_slotI, mem_slotI]; omega)
theorem slots_R : (iprop(∃ f, (thr d L).loc cc0_scoped2 ↦{fullShare} f) : sProp 𝕄) = iprop(RowsAny d L 0 lt0 ∗ RowsAny d L 1 lt1) :=
  pts_two_any (ℓ := (thr d L).loc cc0_scoped2) Finset.univ (slotR 0 lt0).view.set (slotR 1 lt1).view.set
    (fun j => by
      rw [mem_slotR, mem_slotR]
      have h : ((j : S2x128x2x128.Idx) 0 : Fin 2).val < 2 := ((j : S2x128x2x128.Idx) 0 : Fin 2).isLt
      exact ⟨fun _ => by omega, fun _ => Finset.mem_univ _⟩)
    (fun j => by rw [mem_slotR, mem_slotR]; omega)

/-- A share of the whole table is the share of the stream's source. -/
theorem table_whole (q : PosShare TreeShare) (f : Buf (Elt F) (xLoc d)) : (xLoc d ↦{q} f : sProp 𝕄) = Table d L f q := by
  have h : (xAll).view.set = (Rect.unit (s := S65536x2x128) ![0, 0, 0] S65536x2x128.size inb_S65536x2x128_S65536x2x128_0_0_0).set := by
    show ((View.whole (main_v5_scv : Ref sig .scVector)).slice _).set = _
    rw [View.set_slice]; exact Finset.map_refl
  unfold Table
  rw [show (xAll).view.set = Finset.univ from Finset.eq_univ_of_forall fun j : S65536x2x128.Idx => by
    rw [h, Rect.mem_set_unit]
    intro a
    match a with
    | 0 => exact ⟨Nat.zero_le _, by
      show (j 0 : Fin 65536).val < 0 + 65536
      have h : (j 0 : Fin 65536).val < 65536 := (j 0 : Fin 65536).isLt
      omega⟩
    | 1 => exact ⟨Nat.zero_le _, by
      show (j 1 : Fin 2).val < 0 + 2
      have h : (j 1 : Fin 2).val < 2 := (j 1 : Fin 2).isLt
      omega⟩
    | 2 => exact ⟨Nat.zero_le _, by
      show (j 2 : Fin 128).val < 0 + 128
      have h : (j 2 : Fin 128).val < 128 := (j 2 : Fin 128).isLt
      omega⟩]

end Deal

end Cert.Proof.Gather
-- ==== Proof.Tile.lean ====
/-
  What one vector subcore does, from the parts of the arrays dealt to it and its own scratch and semaphores: it brings
  them all back, its part of the result holding the rows that its row numbers name.
-/
module

public import proofs.«01_k».proof.Proof.Split

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v5_scv : Memref Cert.KernelIdeal.sig Kind.scVector Space.hbm Cert.KernelIdeal.S65536x2x128 EltTy.f32)
local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

/-! ## The program as the launch sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords) (fx : Buf (Elt F) (xLoc d)) (fi : Buf (Elt F) (iLoc d))

/-- The share of the table that subcore `i` of SparseCore `c` reads. -/
abbrev share (c i : ℕ) : PosShare TreeShare := part 15 (part 1 fullShare c) i

/-- Subcore `i` of SparseCore `c`: its row numbers, its share of the table and its rows of the result, at contents `fo`. -/
abbrev Piece (c i : ℕ) (fo : Buf (Elt F) (oLoc d)) : sProp 𝕄 :=
  iprop((iLoc d ↦[setI (i + 16 * c)]{fullShare} fi) ∗ (xLoc d ↦{share c i} fx) ∗ oLoc d ↦[setO (i + 16 * c)]{fullShare} fo)

/-! ## The subcore's own semaphores and scratch -/

abbrev gI0 : GSem nD τ sig := (thr d L, SemLoc.dma (semI 0 lt0))
abbrev gI1 : GSem nD τ sig := (thr d L, SemLoc.dma (semI 1 lt1))
abbrev gO0 : GSem nD τ sig := (thr d L, SemLoc.dma (semO 0 lt0))
abbrev gO1 : GSem nD τ sig := (thr d L, SemLoc.dma (semO 1 lt1))
abbrev gG : GSem nD τ sig := (thr d L, SemLoc.dma cc0_scoped4.sem)

/-- The cells a subcore's copies complete on. -/
abbrev cells : List (SemLoc sig) :=
  [SemLoc.dma (semI 0 lt0), SemLoc.dma (semI 1 lt1), SemLoc.dma (semO 0 lt0), SemLoc.dma (semO 1 lt1), SemLoc.dma cc0_scoped4.sem]
theorem cells_scoped : ∀ s ∈ cells, (s : SemLoc sig).isScoped .scVector = true := by decide +kernel
theorem cells_nodup : cells.Nodup := by decide +kernel
theorem cell_own {s : SemLoc sig} (h : s ∈ cells) : ((thr d L, s) : GSem nD τ sig) ∈ ownCells (thr d L) :=
  mem_ownCells.mpr ⟨rfl, cells_scoped s h⟩

theorem own_cells : (ownSems0 (thr d L) : sProp 𝕄)
      = iprop(semVal (gI0 d L) 0 ∗ semVal (gI1 d L) 0 ∗ semVal (gO0 d L) 0 ∗ semVal (gO1 d L) 0 ∗ semVal (gG d L) 0
          ∗ bigSep ((((((ownCells (thr d L)).erase (gI0 d L)).erase (gI1 d L)).erase (gO0 d L)).erase (gO1 d L)).erase (gG d L)) fun g => semVal g 0) := by
  have ne : ∀ {a b : SemLoc sig}, a ≠ b → ((thr d L, a) : GSem nD τ sig) ≠ (thr d L, b) := fun h e => h (congrArg Prod.snd e)
  have e10 : SemLoc.dma (semI 1 lt1) ≠ SemLoc.dma (semI 0 lt0) := by decide +kernel
  have e20 : SemLoc.dma (semO 0 lt0) ≠ SemLoc.dma (semI 0 lt0) := by decide +kernel
  have e21 : SemLoc.dma (semO 0 lt0) ≠ SemLoc.dma (semI 1 lt1) := by decide +kernel
  have e30 : SemLoc.dma (semO 1 lt1) ≠ SemLoc.dma (semI 0 lt0) := by decide +kernel
  have e31 : SemLoc.dma (semO 1 lt1) ≠ SemLoc.dma (semI 1 lt1) := by decide +kernel
  have e32 : SemLoc.dma (semO 1 lt1) ≠ SemLoc.dma (semO 0 lt0) := by decide +kernel
  have e40 : SemLoc.dma cc0_scoped4.sem ≠ SemLoc.dma (semI 0 lt0) := by decide +kernel
  have e41 : SemLoc.dma cc0_scoped4.sem ≠ SemLoc.dma (semI 1 lt1) := by decide +kernel
  have e42 : SemLoc.dma cc0_scoped4.sem ≠ SemLoc.dma (semO 0 lt0) := by decide +kernel
  have e43 : SemLoc.dma cc0_scoped4.sem ≠ SemLoc.dma (semO 1 lt1) := by decide +kernel
  unfold SparseCore.Cfg.ownSems0
  rw [SparseCore.bigSep_erase' (cell_own d L (s := SemLoc.dma (semI 0 lt0)) (by simp [cells])),
    SparseCore.bigSep_erase' (Finset.mem_erase.mpr ⟨ne e10, cell_own d L (s := SemLoc.dma (semI 1 lt1)) (by simp [cells])⟩),
    SparseCore.bigSep_erase' (Finset.mem_erase.mpr ⟨ne e21, Finset.mem_erase.mpr ⟨ne e20, cell_own d L (s := SemLoc.dma (semO 0 lt0)) (by simp [cells])⟩⟩),
    SparseCore.bigSep_erase' (Finset.mem_erase.mpr ⟨ne e32, Finset.mem_erase.mpr ⟨ne e31, Finset.mem_erase.mpr ⟨ne e30,
      cell_own d L (s := SemLoc.dma (semO 1 lt1)) (by simp [cells])⟩⟩⟩),
    SparseCore.bigSep_erase' (Finset.mem_erase.mpr ⟨ne e43, Finset.mem_erase.mpr ⟨ne e42, Finset.mem_erase.mpr ⟨ne e41, Finset.mem_erase.mpr ⟨ne e40,
      cell_own d L (s := SemLoc.dma cc0_scoped4.sem) (by simp [cells])⟩⟩⟩⟩)]

theorem own_bufs : (ownBufs (thr d L) : sProp 𝕄)
      = iprop((ListAny d L 0 lt0 ∗ ListAny d L 1 lt1) ∗ (RowsAny d L 0 lt0 ∗ RowsAny d L 1 lt1)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  rw [← slots_I (F := F) d L, ← slots_R (F := F) d L]
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

/-- The program of a subcore is the copy before the trips, then the trips. -/
theorem body_eq : cc0_gather_kernel (F := F) L xV (Memref.isWhole_whole _) iV (Memref.isWhole_whole _) oV (Memref.isWhole_whole _)
      sV (Memref.isWhole_whole _) cc0_scoped1 rV (Memref.isWhole_whole _) cc0_scoped3 cc0_scoped4 cc0_scoped5
    = (before L (c1 L) >>= fun a => (k0_part8 (F := F) L xV (Memref.isWhole_whole _) iV (Memref.isWhole_whole _) oV (Memref.isWhole_whole _)
        sV (Memref.isWhole_whole _) cc0_scoped1 rV (Memref.isWhole_whole _) cc0_scoped3 cc0_scoped4 cc0_scoped5 (wd5 L) (wd10 L) (wd11 L) (c1 L)
        a.1 a.2.1 a.2.2.1 a.2.2.2.1 a.2.2.2.2.1 a.2.2.2.2.2.1 a.2.2.2.2.2.2) >>= fun _ => pure PUnit.unit) := by
  rw [cc0_gather_kernel_eq_skeleton]
  unfold cc0_gather_kernel_skel
  rw [dif_pos (c1 L)]
  rfl

/-- The cells at zero, the scratch at some contents, and what the waits leave. -/
abbrev Rest (O : CellTallies nD τ sig (HIx 1)) (W : Waits sig (HIx 1)) : sProp 𝕄 :=
  iprop((((ListAny d L 0 lt0 ∗ ListAny d L 1 lt1) ∗ (RowsAny d L 0 lt0 ∗ RowsAny d L 1 lt1))
      ∗ (semVal (gI0 d L) 0 ∗ semVal (gI1 d L) 0 ∗ semVal (gO0 d L) 0 ∗ semVal (gO1 d L) 0 ∗ semVal (gG d L) 0))
    ∗ ∃ W', ⌜∀ p ∈ W', p ∈ W ∨ p.2 = none⌝ ∗ owes (thr d L) O W')

set_option maxHeartbeats 4000000 in
theorem task (hin : ∀ j : S1x6656.Idx, (fi j : BitVec 32).toNat < 65536) (q : PosShare TreeShare) (fo : Buf (Elt F) (oLoc d))
    (O : CellTallies nD τ sig (HIx 1)) (W : Waits sig (HIx 1)) :
    iprop(Transfers.MayWaits (thr d L) (default : HIx 1) O
        ∗ ((iLoc d ↦[setI (wid L)]{fullShare} fi) ∗ (xLoc d ↦{q} fx) ∗ oLoc d ↦[setO (wid L)]{fullShare} fo) ∗ Rest d L O W)
      ⊢ wp frame (wpE (defs₀ (F := F)) 𝒱₀ (thr d L) none) Set.univ
          (cc0_gather_kernel (F := F) L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(((iLoc d ↦[setI (wid L)]{fullShare} fi) ∗ (xLoc d ↦{q} fx) ∗ oLoc d ↦[setO (wid L)]{fullShare} rowsOf d fx fi) ∗ Rest d L O W) := by
  rw [body_eq, table_whole d L, wp_bind]
  by_cases hw : wid L < 20
  · rw [tile_I_two d L hw, tile_O_two d L hw, tile_O_two d L hw]
    iintro ⟨#Hmw, ⟨⟨Hi, Hi1⟩, Hx, ⟨Ho, Ho1⟩⟩, ⟨⟨⟨Hl, Hl1⟩, ⟨Hr, Hr1⟩⟩, ⟨Hc, Hc1, Hd, Hd1, Hg⟩⟩, ⟨%W0, %hW0, HO⟩⟩
    iapply (wp_with (before_wp d L fi (c1 L))) $$ [Hl Hi Hc]
    · isplitl [Hl]; · iexact Hl
      isplitl [Hi]; · iexact Hi
      iexact Hc
    iintro %a ⟨%ha, Hin⟩
    subst ha
    rw [wp_bind]
    iapply (wp_with (trips_two_wp d L fx fi hin hw (c1 L) q fo fo O W0)) $$ [Hin Hl1 Hi1 Hc1 Hr Hr1 Hx Hg Ho Hd Ho1 Hd1 HO]
    · isplitl []; · iexact Hmw
      isplitl [Hin]; · iexact Hin
      isplitl [Hl1]; · iexact Hl1
      isplitl [Hi1]; · iexact Hi1
      isplitl [Hc1]; · iexact Hc1
      isplitl [Hr]; · iexact Hr
      isplitl [Hr1]; · iexact Hr1
      isplitl [Hx]; · iexact Hx
      isplitl [Hg]; · iexact Hg
      isplitl [Ho]; · iexact Ho
      isplitl [Hd]; · iexact Hd
      isplitl [Ho1]; · iexact Ho1
      isplitl [Hd1]; · iexact Hd1
      iexact HO
    iintro %u ⟨⟨Hl, Hi, Hc⟩, ⟨Hl1, Hi1, Hc1⟩, ⟨Ho, Hr, Hd⟩, ⟨Ho1, Hr1, Hd1⟩, Hx, Hg, %W', %hW', HO⟩
    rw [wp_pure]; imodintro
    isplitl [Hi Hi1 Hx Ho Ho1]
    · isplitl [Hi Hi1]
      · isplitl [Hi]; · iexact Hi
        iexact Hi1
      isplitl [Hx]; · iexact Hx
      isplitl [Ho]; · iexact Ho
      iexact Ho1
    isplitr [HO]
    · isplitl [Hl Hl1 Hr Hr1]
      · isplitl [Hl Hl1]
        · isplitl [Hl]; · iexact Hl
          iexact Hl1
        isplitl [Hr]; · iexact Hr
        iexact Hr1
      isplitl [Hc]; · iexact Hc
      isplitl [Hc1]; · iexact Hc1
      isplitl [Hd]; · iexact Hd
      isplitl [Hd1]; · iexact Hd1
      iexact Hg
    iexists W'
    isplitr
    swap; · iexact HO
    ipureintro
    exact waits_trans hW0 hW'
  · rw [tile_I_one d L hw, tile_O_one d L hw, tile_O_one d L hw]
    iintro ⟨#Hmw, ⟨Hi, Hx, Ho⟩, ⟨⟨⟨Hl, Hl1⟩, ⟨Hr, Hr1⟩⟩, ⟨Hc, Hc1, Hd, Hd1, Hg⟩⟩, ⟨%W0, %hW0, HO⟩⟩
    iapply (wp_with (before_wp d L fi (c1 L))) $$ [Hl Hi Hc]
    · isplitl [Hl]; · iexact Hl
      isplitl [Hi]; · iexact Hi
      iexact Hc
    iintro %a ⟨%ha, Hin⟩
    subst ha
    rw [wp_bind]
    iapply (wp_with (trips_one_wp d L fx fi hin hw (c1 L) q fo O W0)) $$ [Hin Hr Hx Hg Ho Hd HO]
    · isplitl []; · iexact Hmw
      isplitl [Hin]; · iexact Hin
      isplitl [Hr]; · iexact Hr
      isplitl [Hx]; · iexact Hx
      isplitl [Hg]; · iexact Hg
      isplitl [Ho]; · iexact Ho
      isplitl [Hd]; · iexact Hd
      iexact HO
    iintro %u ⟨⟨Hl, Hi, Hc⟩, ⟨Ho, Hr, Hd⟩, Hx, Hg, %W', %hW', HO⟩
    rw [wp_pure]; imodintro
    isplitl [Hi Hx Ho]
    · isplitl [Hi]; · iexact Hi
      isplitl [Hx]; · iexact Hx
      iexact Ho
    isplitr [HO]
    · isplitl [Hl Hl1 Hr Hr1]
      · isplitl [Hl Hl1]
        · isplitl [Hl]; · iexact Hl
          iexact Hl1
        isplitl [Hr]; · iexact Hr
        iexact Hr1
      isplitl [Hc]; · iexact Hc
      isplitl [Hc1]; · iexact Hc1
      isplitl [Hd]; · iexact Hd
      isplitl [Hd1]; · iexact Hd1
      iexact Hg
    iexists W'
    isplitr
    swap; · iexact HO
    ipureintro
    exact waits_trans hW0 hW'

theorem piece_eq (fo : Buf (Elt F) (oLoc d)) : (Piece d fx fi (L 0).val (L 1).val fo : sProp 𝕄)
    = iprop((iLoc d ↦[setI (wid L)]{fullShare} fi) ∗ (xLoc d ↦{share (L 0).val (L 1).val} fx) ∗ oLoc d ↦[setO (wid L)]{fullShare} fo) := by
  unfold wid; rfl

set_option maxHeartbeats 4000000 in
/-- The task, as the launch asks for it. -/
theorem tile_task (hF : (K (F := F)).Facts) (hin : ∀ j : S1x6656.Idx, (fi j : BitVec 32).toNat < 65536) (fo : Buf (Elt F) (oLoc d))
    (O : CellTallies nD τ sig (HIx 1)) (W : Waits sig (HIx 1)) (hO : ∀ g, O g none = 0) :
    iprop(levAts (K (F := F)).L (K (F := F)).lev ∗ emp
        ∗ Piece d fx fi (L 0).val (L 1).val fo
        ∗ scopedBufs (thr d L) ∗ scopedSems0 (thr d L) ∗ owes (thr d L) O W)
      ⊢ wp frame (wpE (defs₀ (F := F)) 𝒱₀ (thr d L) none) Set.univ
          (cc0_gather_kernel (F := F) L xV (Memref.isWhole_whole _) iV (Memref.isWhole_whole _) oV (Memref.isWhole_whole _)
            sV (Memref.isWhole_whole _) cc0_scoped1 rV (Memref.isWhole_whole _) cc0_scoped3 cc0_scoped4 cc0_scoped5)
          fun _ => iprop(Piece d fx fi (L 0).val (L 1).val (rowsOf d fx fi)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), own_cells, own_bufs, piece_eq, piece_eq]
  iintro ⟨#Hlv, -, Hp, ⟨Hl, Hr, Hbufs⟩, ⟨Hc, Hc1, Hd, Hd1, Hg, Hsems⟩, HO⟩
  have ht := task d L fx fi hin (share (L 0).val (L 1).val) fo O W
  iapply (ht.trans (wp_wand _ _ _)) $$ [Hp Hl Hr Hc Hc1 Hd Hd1 Hg HO]
  · isplitl []; · iapply ((K (F := F)).mayWaits_none (thr := thr d L) hO); iexact Hlv
    isplitl [Hp]; · iexact Hp
    isplitr [HO]
    · isplitl [Hl Hr]
      · isplitl [Hl]; · iexact Hl
        iexact Hr
      isplitl [Hc]; · iexact Hc
      isplitl [Hc1]; · iexact Hc1
      isplitl [Hd]; · iexact Hd
      isplitl [Hd1]; · iexact Hd1
      iexact Hg
    iexists W
    isplitr
    swap; · iexact HO
    ipureintro
    exact fun p hp => .inl hp
  iintro %u ⟨Hp, ⟨⟨Hl, Hr⟩, ⟨Hc, Hc1, Hd, Hd1, Hg⟩⟩, HO⟩
  isplitl [Hp]; · iexact Hp
  isplitl [Hl Hr Hbufs]
  · isplitl [Hl]; · iexact Hl
    isplitl [Hr]; · iexact Hr
    iexact Hbufs
  isplitr [HO]
  · isplitl [Hc]; · iexact Hc
    isplitl [Hc1]; · iexact Hc1
    isplitl [Hd]; · iexact Hd
    isplitl [Hd1]; · iexact Hd1
    isplitl [Hg]; · iexact Hg
    iexact Hsems
  iexact HO

end Tile

end Cert.Proof.Gather
-- ==== Proof.LossBody.lean ====
/-
  One grid point of the loss kernel. Its scratch buffers are a state: the weights and query features prepared at the
  first point, three sets of zero-one selectors, and two columns that run along the grid, how many of each row's
  samples have been used so far and the sum of their losses. The first point prepares them, every point whose rows
  still want samples adds a block of 256, and the last point writes the mean.
-/
module

public import proofs.«01_k».proof.Proof.Tile
public import proofs.«01_k».proof.Proof.Gen.KernelIdeal.Skeleton
public import proofs.«01_k».proof.Proof.Gen.KernelIdeal.Points
public import Idealize.ShloMosaic.Lib.VecWindow

@[expose] public section

noncomputable section

namespace Cert.Proof.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [Named F]

local notation "𝕄" => MT nD τ sig (HIx 1) (Elt F) ℕ UU ℕ

/-! ## The state -/

/-- What the scratch buffers hold. -/
structure St (F : FTy → Type) where
  w : FVec F S256x128 .f32
  q : FVec F S128x128 .f32
  n : FVec F S128x1 .f32
  x0 : FVec F S128x50x256 .f32
  x1 : FVec F S128x50x256 .f32
  sel : FVec F S256x2560 .f32
  ut : FVec F S256x256 .f32
  e0 : FVec F S50x100 .f32
  e1 : FVec F S50x100 .f32
  cnt : FVec F S128x1 .f32
  acc : FVec F S128x1 .f32

/-- What the first point prepares. -/
def St.start (xl : FVec F S128x100 .f32) (xq : FVec F S128x128 .f32) (wq wk : FVec F S256x128 .f32) : St F where
  w := k1_pay16 (k1_pay15 wk) wq
  q := k1_pay18 xq
  n := k1_pay19 xq
  x0 := k1_pay2 (k1_pay21 xl k1_pay11) (k1_pay23 xl k1_pay11 k1_pay12)
  x1 := k1_pay3 (k1_pay22 xl k1_pay12) (k1_pay23 xl k1_pay11 k1_pay12)
  sel := k1_pay13
  ut := k1_pay14
  e0 := k1_pay11
  e1 := k1_pay12
  cnt := k1_pay4
  acc := k1_pay5

/-- Whether a point still adds samples: some row has fewer than sixteen. -/
def St.wants (s : St F) : Prop :=
  Scalar.cmpi .ne (Scalar.extui (Scalar.cmpf .olt (k1_pay6 s.cnt) (Scalar.ofBits .f32 0x41800000#32)) : BitVec 32) 0#32 = 1#1

instance (s : St F) : Decidable s.wants := by unfold St.wants; infer_instance

/-- The losses of a block of rows, and which of its samples are to be used. -/
def St.pairs (s : St F) (lb : FVec F S2560x100 .f32) : IVec S128x256 1 :=
  k1_pay29 (k1_pay25 lb) (k1_pay26 lb) (k1_pay27 (F := F)) s.sel s.e0 s.e1 s.x0 s.x1

/-- A block of samples added. -/
def St.next (i : BitVec 32) (g : FVec F S256x256 .f32) (lb : FVec F S2560x100 .f32) (s : St F) : St F :=
  if s.wants then
    { s with
      acc := k1_pay8 (k1_pay24 g s.w s.q s.n) (k1_pay28 i) (s.pairs lb) s.ut s.cnt s.acc
      cnt := k1_pay9 (k1_pay28 i) (s.pairs lb) s.ut s.cnt s.cnt }
  else s

/-! ## Whole loads and stores -/

section Ops

variable {α : Type} (d : Dev nD) (E : Set ℕ) {Λ : Labels} {D : Defs nD τ sig (Elt F) Λ}
variable {sp : CoreSpace} {sh : Shape} {e : EltTy} (M : Memref sig .tc sp sh e)

theorem owns_load {X : sh.Idx → Elt F e} {q : PosShare TreeShare} {off : Fin sh.rank → ℕ} {inb : ∀ a, off a + sh.size a ≤ sh.size a}
    {hl : M.view.LoadsAt (Rect.unit off sh.size inb).toLoadRect}
    {k : (sh.Idx → Elt F e) → Prog (TpuEff nD τ sig (Elt F) Λ .tc) α} {Q : α → sProp 𝕄} :
    (owns (d : Thread nD τ) M q X : sProp 𝕄)
      ⊢ iprop((owns (d : Thread nD τ) M q X -∗ wp frame (wpE D 𝒱₀ d none) E (k X) Q)
        -∗ wp frame (wpE D 𝒱₀ d none) E (.op (.load M (Rect.unit off sh.size inb).toLoadRect hl) k) Q) := by
  unfold owns
  iintro ⟨%f, %hf, H⟩ Hk
  iapply (wp_load 𝒱₀ (d : Thread nD τ) none E (m := M) (View.setOn_subset_set _ _)) $$ H
  iintro H
  have e : M.view.readAt (Elt F) (Rect.unit off sh.size inb).toLoadRect f = X :=
    (View.readAt_full M.view f inb).trans hf
  rw [e]
  iapply Hk
  iexists f
  isplitr; · ipureintro; exact hf
  iexact H

theorem owns_store {X w : sh.Idx → Elt F e} {off : Fin sh.rank → ℕ} {inb : ∀ a, off a + sh.size a ≤ sh.size a}
    {hx : (M.access (Rect.unit off sh.size inb)).Stores Finset.univ}
    {hm : (Finset.univ : Finset sh.Idx) = Finset.univ ∨ ∀ a, (Rect.unit off sh.size inb).stride a = 1}
    {k : PUnit → Prog (TpuEff nD τ sig (Elt F) Λ .tc) α} {Q : α → sProp 𝕄} :
    (owns (d : Thread nD τ) M fullShare X : sProp 𝕄)
      ⊢ iprop((owns (d : Thread nD τ) M fullShare w -∗ wp frame (wpE D 𝒱₀ d none) E (k ⟨⟩) Q)
        -∗ wp frame (wpE D 𝒱₀ d none) E (.op (.store M (Rect.unit off sh.size inb) w Finset.univ hx hm) k) Q) := by
  unfold owns
  iintro ⟨%f, %hf, H⟩ Hk
  iapply (wp_store 𝒱₀ (d : Thread nD τ) none E (m := M) (r := Rect.unit off sh.size inb) (Mk := Finset.univ) (View.set_slice_subset _ _)) $$ H
  iintro H
  iapply Hk
  iexists ((M.access (Rect.unit off sh.size inb)).write (Elt F) f w Finset.univ)
  isplitr
  · ipureintro
    have e := View.readAt_full M.view ((M.access (Rect.unit off sh.size inb)).write (Elt F) f w Finset.univ) inb
    rw [← e, View.readAt_rect]
    exact View.read_write_univ (v := M.access (Rect.unit off sh.size inb)) f w
  iexact H

theorem wp_ret_of {b : α} (Q : α → sProp 𝕄) : (Q b : sProp 𝕄) ⊢ wp frame (wpE D 𝒱₀ (d : Thread nD τ) none) E (.ret b) Q := fupd_intro

end Ops

/-! ## The body -/

section Body

variable (d : Dev nD) (E : Set ℕ) (i : grid1.Coords)
  (M1 : Memref sig .tc .vmem S128x100 .f32) (M2 : Memref sig .tc .vmem S128x128 .f32) (M3 : Memref sig .tc .vmem S256x128 .f32) (M4 : Memref sig .tc .vmem S256x128 .f32) (M5 : Memref sig .tc .vmem S256x256 .f32) (M6 : Memref sig .tc .vmem S2560x100 .f32) (M7 : Memref sig .tc .vmem S1x1 .f32) (M8 : Memref sig .tc .vmem S256x128 .f32) (M9 : Memref sig .tc .vmem S128x128 .f32) (M10 : Memref sig .tc .vmem S128x1 .f32) (M11 : Memref sig .tc .vmem S128x50x256 .f32) (M12 : Memref sig .tc .vmem S128x50x256 .f32) (M13 : Memref sig .tc .vmem S256x2560 .f32) (M14 : Memref sig .tc .vmem S256x256 .f32) (M15 : Memref sig .tc .vmem S50x100 .f32) (M16 : Memref sig .tc .vmem S50x100 .f32) (M17 : Memref sig .tc .vmem S128x1 .f32) (M18 : Memref sig .tc .vmem S128x1 .f32)
  (xl : FVec F S128x100 .f32) (xq : FVec F S128x128 .f32) (wq wk : FVec F S256x128 .f32) (g : FVec F S256x256 .f32)
  (lb : FVec F S2560x100 .f32) (o : FVec F S1x1 .f32) (s : St F)

/-- The blocks, the result and the scratch buffers. -/
def held : sProp 𝕄 :=
  iprop(owns (d : Thread nD τ) M1 fullShare xl ∗ owns (d : Thread nD τ) M2 fullShare xq ∗ owns (d : Thread nD τ) M3 fullShare wq ∗ owns (d : Thread nD τ) M4 fullShare wk ∗ owns (d : Thread nD τ) M5 fullShare g ∗ owns (d : Thread nD τ) M6 fullShare lb ∗ owns (d : Thread nD τ) M7 fullShare o ∗ owns (d : Thread nD τ) M8 fullShare s.w ∗ owns (d : Thread nD τ) M9 fullShare s.q ∗ owns (d : Thread nD τ) M10 fullShare s.n ∗ owns (d : Thread nD τ) M11 fullShare s.x0 ∗ owns (d : Thread nD τ) M12 fullShare s.x1 ∗ owns (d : Thread nD τ) M13 fullShare s.sel ∗ owns (d : Thread nD τ) M14 fullShare s.ut ∗ owns (d : Thread nD τ) M15 fullShare s.e0 ∗ owns (d : Thread nD τ) M16 fullShare s.e1 ∗ owns (d : Thread nD τ) M17 fullShare s.cnt ∗ owns (d : Thread nD τ) M18 fullShare s.acc)

/-- What the result's buffer holds after a point. -/
def St.result (s : St F) (o : FVec F S1x1 .f32) : FVec F S1x1 .f32 :=
  if k1_cond3 i = 1#1 then k1_pay10 s.acc s.cnt else o

set_option maxHeartbeats 8000000 in
/-- The first point: whatever the scratch buffers held. -/
theorem body_first (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (hc : Scalar.cmpi .ne (Scalar.extui (Scalar.cmpi .eq (BitVec.ofNat 32 (i 0).val) 0#32) : BitVec 32) 0#32 = 1#1) :
    held d M1 M2 M3 M4 M5 M6 M7 M8 M9 M10 M11 M12 M13 M14 M15 M16 M17 M18 xl xq wq wk g lb o s
      ⊢ wp frame (wpE (defs₀ (F := F)) 𝒱₀ d none) E (cc1__compute_body i M1 h1 M2 h2 M3 h3 M4 h4 M5 h5 M6 h6 M7 h7 M8 h8 M9 h9 M10 h10 M11 h11 M12 h12 M13 h13 M14 h14 M15 h15 M16 h16 M17 h17 M18 h18) fun _ =>
          held d M1 M2 M3 M4 M5 M6 M7 M8 M9 M10 M11 M12 M13 M14 M15 M16 M17 M18 xl xq wq wk g lb (St.result i ((St.start xl xq wq wk).next (BitVec.ofNat 32 (i 0).val) g lb) o) ((St.start xl xq wq wk).next (BitVec.ofNat 32 (i 0).val) g lb) := by
  simp only [cc1__compute_body_eq_skeleton]
  unfold cc1__compute_body_skel
  simp only [dif_pos hc, k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret]
  unfold held St.result St.next
  iintro ⟨H1, H2, H3, H4, H5, H6, H7, H8, H9, H10, H11, H12, H13, H14, H15, H16, H17, H18⟩
  iapply (owns_load d E M15) $$ H15; iintro H15
  iapply (owns_store d E M15) $$ H15; iintro H15
  iapply (owns_load d E M16) $$ H16; iintro H16
  iapply (owns_store d E M16) $$ H16; iintro H16
  iapply (owns_load d E M13) $$ H13; iintro H13
  iapply (owns_store d E M13) $$ H13; iintro H13
  iapply (owns_load d E M14) $$ H14; iintro H14
  iapply (owns_store d E M14) $$ H14; iintro H14
  iapply (owns_load d E M4) $$ H4; iintro H4
  iapply (owns_load d E M3) $$ H3; iintro H3
  iapply (owns_load d E M8) $$ H8; iintro H8
  iapply (owns_store d E M8) $$ H8; iintro H8
  iapply (owns_load d E M2) $$ H2; iintro H2
  iapply (owns_load d E M9) $$ H9; iintro H9
  iapply (owns_store d E M9) $$ H9; iintro H9
  iapply (owns_load d E M10) $$ H10; iintro H10
  iapply (owns_store d E M10) $$ H10; iintro H10
  iapply (owns_load d E M1) $$ H1; iintro H1
  iapply (owns_load d E M15) $$ H15; iintro H15
  iapply (owns_load d E M16) $$ H16; iintro H16
  iapply (owns_load d E M11) $$ H11; iintro H11
  iapply (owns_store d E M11) $$ H11; iintro H11
  iapply (owns_load d E M12) $$ H12; iintro H12
  iapply (owns_store d E M12) $$ H12; iintro H12
  iapply (owns_load d E M17) $$ H17; iintro H17
  iapply (owns_store d E M17) $$ H17; iintro H17
  iapply (owns_load d E M18) $$ H18; iintro H18
  iapply (owns_store d E M18) $$ H18; iintro H18
  iapply (owns_load d E M17) $$ H17; iintro H17
  have e : (Scalar.cmpi .ne (Scalar.extui (Scalar.cmpf .olt (k1_pay6 (k1_pay4 (F := F))) (Scalar.ofBits .f32 0x41800000#32)) : BitVec 32) 0#32 = 1#1) = (St.start xl xq wq wk).wants := rfl
  simp only [e]
  by_cases hw : (St.start xl xq wq wk).wants
  · simp only [if_pos hw]
    iapply (owns_load d E M5) $$ H5; iintro H5
    iapply (owns_load d E M8) $$ H8; iintro H8
    iapply (owns_load d E M9) $$ H9; iintro H9
    iapply (owns_load d E M10) $$ H10; iintro H10
    iapply (owns_load d E M6) $$ H6; iintro H6
    iapply (owns_load d E M13) $$ H13; iintro H13
    iapply (owns_load d E M15) $$ H15; iintro H15
    iapply (owns_load d E M16) $$ H16; iintro H16
    iapply (owns_load d E M11) $$ H11; iintro H11
    iapply (owns_load d E M12) $$ H12; iintro H12
    iapply (owns_load d E M14) $$ H14; iintro H14
    iapply (owns_load d E M17) $$ H17; iintro H17
    iapply (owns_load d E M18) $$ H18; iintro H18
    iapply (owns_load d E M18) $$ H18; iintro H18
    iapply (owns_store d E M18) $$ H18; iintro H18
    iapply (owns_load d E M17) $$ H17; iintro H17
    iapply (owns_load d E M17) $$ H17; iintro H17
    iapply (owns_store d E M17) $$ H17; iintro H17
    by_cases hl : k1_cond3 i = 1#1
    · simp only [if_pos hl, dif_pos hl]
      iapply (owns_load d E M18) $$ H18; iintro H18
      iapply (owns_load d E M17) $$ H17; iintro H17
      iapply (owns_load d E M7) $$ H7; iintro H7
      iapply (owns_store d E M7) $$ H7; iintro H7
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · simp only [if_neg hl, dif_neg hl]
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
  · simp only [if_neg hw]
    by_cases hl : k1_cond3 i = 1#1
    · simp only [if_pos hl, dif_pos hl]
      iapply (owns_load d E M18) $$ H18; iintro H18
      iapply (owns_load d E M17) $$ H17; iintro H17
      iapply (owns_load d E M7) $$ H7; iintro H7
      iapply (owns_store d E M7) $$ H7; iintro H7
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · simp only [if_neg hl, dif_neg hl]
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

set_option maxHeartbeats 8000000 in
/-- A later point. -/
theorem body_later (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (hc : ¬ Scalar.cmpi .ne (Scalar.extui (Scalar.cmpi .eq (BitVec.ofNat 32 (i 0).val) 0#32) : BitVec 32) 0#32 = 1#1) :
    held d M1 M2 M3 M4 M5 M6 M7 M8 M9 M10 M11 M12 M13 M14 M15 M16 M17 M18 xl xq wq wk g lb o s
      ⊢ wp frame (wpE (defs₀ (F := F)) 𝒱₀ d none) E (cc1__compute_body i M1 h1 M2 h2 M3 h3 M4 h4 M5 h5 M6 h6 M7 h7 M8 h8 M9 h9 M10 h10 M11 h11 M12 h12 M13 h13 M14 h14 M15 h15 M16 h16 M17 h17 M18 h18) fun _ =>
          held d M1 M2 M3 M4 M5 M6 M7 M8 M9 M10 M11 M12 M13 M14 M15 M16 M17 M18 xl xq wq wk g lb (St.result i (s.next (BitVec.ofNat 32 (i 0).val) g lb) o) (s.next (BitVec.ofNat 32 (i 0).val) g lb) := by
  simp only [cc1__compute_body_eq_skeleton]
  unfold cc1__compute_body_skel
  simp only [dif_neg hc, k1_part1_eq_skeleton, k1_part2_eq_skeleton, k1_part3_eq_skeleton, k1_part4_eq_skeleton]
  unfold k1_part3_skel k1_part4_skel
  simp only [Prog.lift, Prog.bind_op, Prog.bind_ret, Prog.pure_eq_ret]
  unfold held St.result St.next
  iintro ⟨H1, H2, H3, H4, H5, H6, H7, H8, H9, H10, H11, H12, H13, H14, H15, H16, H17, H18⟩
  iapply (owns_load d E M17) $$ H17; iintro H17
  have e : (Scalar.cmpi .ne (Scalar.extui (Scalar.cmpf .olt (k1_pay6 s.cnt) (Scalar.ofBits .f32 0x41800000#32)) : BitVec 32) 0#32 = 1#1) = s.wants := rfl
  simp only [e]
  by_cases hw : s.wants
  · simp only [if_pos hw]
    iapply (owns_load d E M5) $$ H5; iintro H5
    iapply (owns_load d E M8) $$ H8; iintro H8
    iapply (owns_load d E M9) $$ H9; iintro H9
    iapply (owns_load d E M10) $$ H10; iintro H10
    iapply (owns_load d E M6) $$ H6; iintro H6
    iapply (owns_load d E M13) $$ H13; iintro H13
    iapply (owns_load d E M15) $$ H15; iintro H15
    iapply (owns_load d E M16) $$ H16; iintro H16
    iapply (owns_load d E M11) $$ H11; iintro H11
    iapply (owns_load d E M12) $$ H12; iintro H12
    iapply (owns_load d E M14) $$ H14; iintro H14
    iapply (owns_load d E M17) $$ H17; iintro H17
    iapply (owns_load d E M18) $$ H18; iintro H18
    iapply (owns_load d E M18) $$ H18; iintro H18
    iapply (owns_store d E M18) $$ H18; iintro H18
    iapply (owns_load d E M17) $$ H17; iintro H17
    iapply (owns_load d E M17) $$ H17; iintro H17
    iapply (owns_store d E M17) $$ H17; iintro H17
    by_cases hl : k1_cond3 i = 1#1
    · simp only [if_pos hl, dif_pos hl]
      iapply (owns_load d E M18) $$ H18; iintro H18
      iapply (owns_load d E M17) $$ H17; iintro H17
      iapply (owns_load d E M7) $$ H7; iintro H7
      iapply (owns_store d E M7) $$ H7; iintro H7
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · simp only [if_neg hl, dif_neg hl]
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
  · simp only [if_neg hw]
    by_cases hl : k1_cond3 i = 1#1
    · simp only [if_pos hl, dif_pos hl]
      iapply (owns_load d E M18) $$ H18; iintro H18
      iapply (owns_load d E M17) $$ H17; iintro H17
      iapply (owns_load d E M7) $$ H7; iintro H7
      iapply (owns_store d E M7) $$ H7; iintro H7
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · simp only [if_neg hl, dif_neg hl]
      iapply (wp_ret_of d E _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

end Body

end Cert.Proof.Gather
-- ==== Proof.LossRegion.lean ====
/-
  The loss kernel's call: its grid of 26 points. What the scratch buffers hold before a point is a function of the
  blocks read so far. The last block of labels overhangs its array, so that function also takes what the staging buffer
  held past the array's end, of which nothing is known. The last point writes the mean.
-/
module

public import proofs.«01_k».proof.Proof.LossBody
public import proofs.«01_k».proof.Proof.Gen.KernelIdeal.Launch
public import Idealize.ShloMosaic.Lib.Pipeline.FrameBody
public import Idealize.ShloMosaic.Lib.Pipeline.RegionArrays
public import Idealize.ShloMosaic.Lib.Pipeline.Value

@[expose] public section

noncomputable section

namespace Cert.Proof.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Window)

variable {F : FTy → Type} [FloatOps F] [Named F]

local notation "𝕄" => MT nD τ sig (HIx 1) (Elt F) ℕ UU ℕ

/-! ## The contents along the grid -/

/-- The index of a matrix at row `i` and column `j`. -/
def at2 {n m : ℕ} (i : Fin n) (j : Fin m) : (⟨2, ![n, m]⟩ : Shape).Idx := fun | 0 => i | 1 => j

/-- The arrays the call reads. -/
structure Ins (F : FTy → Type) where
  xl : FVec F S128x100 .f32
  xq : FVec F S128x128 .f32
  wq : FVec F S256x128 .f32
  wk : FVec F S256x128 .f32
  rows : FVec F S6656x256 .f32
  labs : FVec F S65536x100 .f32
  out : FVec F S1x1 .f32

/-- The rows of point `t`. -/
def Ins.rowsAt (B : Ins F) (t : ℕ) : FVec F S256x256 .f32 :=
  fun j => B.rows (at2 (⟨(t * 256 + (j 0 : Fin 256).val) % 6656, Nat.mod_lt _ (by decide)⟩ : Fin 6656) (j 1 : Fin 256))
/-- The labels of point `t`; past the array's end, `D`. -/
def Ins.labsAt (B : Ins F) (D : ℕ → FVec F S2560x100 .f32) (t : ℕ) : FVec F S2560x100 .f32 :=
  fun j => if h : t * 2560 + (j 0 : Fin 2560).val < 65536 then B.labs (at2 (⟨_, h⟩ : Fin 65536) (j 1 : Fin 100)) else D t j
/-- The scratch buffers before point `t` (at the first point, as it prepares them). -/
def Ins.stAt (B : Ins F) (D : ℕ → FVec F S2560x100 .f32) : ℕ → St F
  | 0 => St.start B.xl B.xq B.wq B.wk
  | t + 1 => (B.stAt D t).next (BitVec.ofNat 32 t) (B.rowsAt t) (B.labsAt D t)
/-- The mean. -/
def Ins.mean (B : Ins F) (D : ℕ → FVec F S2560x100 .f32) : FVec F S1x1 .f32 := k1_pay10 (B.stAt D 26).acc (B.stAt D 26).cnt

theorem Ins.stAt_congr (B : Ins F) {D D' : ℕ → FVec F S2560x100 .f32} : ∀ t : ℕ, (∀ u < t, D u = D' u) → B.stAt D t = B.stAt D' t
  | 0, _ => rfl
  | t + 1, h => by
    have h1 := B.stAt_congr t fun u hu => h u (Nat.lt_succ_of_lt hu)
    have h2 : B.labsAt D t = B.labsAt D' t := by
      funext j; unfold Ins.labsAt; rw [h t (Nat.lt_succ_self t)]
    show (B.stAt D t).next _ _ _ = (B.stAt D' t).next _ _ _
    rw [h1, h2]

/-- The scratch buffers at state `s`. -/
abbrev scr (d : Dev nD) (s : St F) : sProp 𝕄 :=
  iprop(owns (d : Thread nD τ) (Memref.whole cc1_scratch0) fullShare s.w ∗ owns (d : Thread nD τ) (Memref.whole cc1_scratch1) fullShare s.q ∗ owns (d : Thread nD τ) (Memref.whole cc1_scratch2) fullShare s.n ∗ owns (d : Thread nD τ) (Memref.whole cc1_scratch3) fullShare s.x0 ∗ owns (d : Thread nD τ) (Memref.whole cc1_scratch4) fullShare s.x1 ∗ owns (d : Thread nD τ) (Memref.whole cc1_scratch5) fullShare s.sel ∗ owns (d : Thread nD τ) (Memref.whole cc1_scratch6) fullShare s.ut ∗ owns (d : Thread nD τ) (Memref.whole cc1_scratch7) fullShare s.e0 ∗ owns (d : Thread nD τ) (Memref.whole cc1_scratch8) fullShare s.e1 ∗ owns (d : Thread nD τ) (Memref.whole cc1_scratch9) fullShare s.cnt ∗ owns (d : Thread nD τ) (Memref.whole cc1_scratch10) fullShare s.acc)

/-- The call's arrays at their contents. -/
def Ins.arr (B : Ins F) (d : Dev nD) : (w : Fin cfg1.W) → Buf (Elt F) ((cfg1.win w).arr.view.loc (d.tc : Thread nD τ))
  | 0 => B.xl
  | 1 => B.xq
  | 2 => B.wq
  | 3 => B.wk
  | 4 => B.rows
  | 5 => B.labs
  | 6 => B.out
  | ⟨_ + 7, h⟩ => absurd h (Nat.not_lt.2 (Nat.le_add_left _ _))

/-- What a point may leave in a staging buffer: of the inputs nothing is asked, the last point leaves the mean. -/
def Ins.leaves (B : Ins F) : (w : Fin cfg1.W) → Fin cfg1.N → (Y X : (cfg1.win w).block.Idx → Elt F (cfg1.win w).elt) → Prop
  | 0 => fun _ _ _ => True
  | 1 => fun _ _ _ => True
  | 2 => fun _ _ _ => True
  | 3 => fun _ _ _ => True
  | 4 => fun _ _ _ => True
  | 5 => fun _ _ _ => True
  | 6 => fun t _ X => t.val = 25 → ∃ D, X = B.mean D
  | ⟨_ + 7, h⟩ => absurd h (Nat.not_lt.2 (Nat.le_add_left _ _))

/-- The call's proof data. -/
def rdat (R : Set (SemLoc sig × HIx 1)) (B : Ins F) (d : Dev nD) : RDat τ (Elt F) (HIx 1) ℕ UU ℕ cfg1 d where
  A := B.arr d
  after := B.leaves
  Φ t := iprop(∃ s : St F, ⌜t.val ≠ 0 → ∃ D, s = B.stAt D t.val⌝ ∗ scr d s)
  q _ := fullShare
  owed _ := 0
  recorded _ := R

section Points

variable (R : Set (SemLoc sig × HIx 1)) (B : Ins F) (d : Dev nD)

theorem coords_val : ∀ t : Fin grid1.N, ((grid1.coords t) 0).val = t.val := by decide

theorem coords_index : ∀ t : Fin grid1.N, win1_4.index t 0 = t.val := by decide +kernel
theorem coords_index5 : ∀ t : Fin grid1.N, win1_5.index t 0 = t.val := by decide +kernel
/-- How many rows of labels point `t` fetches. -/
theorem xsize5_0 : ∀ t : Fin grid1.N, win1_5.xsize (grid1.coords t) 0 = min 2560 (65536 - t.val * 2560) := by decide +kernel
theorem coords_first : ∀ t : Fin grid1.N, t.val = 0 →
    Scalar.cmpi .ne (Scalar.extui (Scalar.cmpi .eq (BitVec.ofNat 32 ((grid1.coords t) 0).val) 0#32) : BitVec 32) 0#32 = 1#1 := by decide +kernel
theorem coords_later : ∀ t : Fin grid1.N, t.val ≠ 0 →
    ¬ Scalar.cmpi .ne (Scalar.extui (Scalar.cmpi .eq (BitVec.ofNat 32 ((grid1.coords t) 0).val) 0#32) : BitVec 32) 0#32 = 1#1 := by decide +kernel
theorem coords_last : ∀ t : Fin grid1.N, t.val = 25 → k1_cond3 (grid1.coords t) = 1#1 := by decide +kernel

theorem fetched_0 (t : Fin cfg1.N) (X : FVec F S128x100 .f32) : (rdat R B d).fetched 0 t X = B.xl := by
  funext j
  unfold RDat.fetched Window.fill
  rw [dif_pos ((Window.moved_iff _ _ _).mpr fun a => (j a).isLt)]
  unfold RDat.blockOf
  rw [View.read_apply]
  show B.xl ((win1_0.rect t).emb _) = B.xl j
  congr 1
  funext a
  refine Fin.ext ((Window.rect_emb_val win1_0 t _ a rfl).trans ?_)
  match a with
  | 0 => exact Nat.zero_add _
  | 1 => exact Nat.zero_add _

theorem fetched_1 (t : Fin cfg1.N) (X : FVec F S128x128 .f32) : (rdat R B d).fetched 1 t X = B.xq := by
  funext j
  unfold RDat.fetched Window.fill
  rw [dif_pos ((Window.moved_iff _ _ _).mpr fun a => (j a).isLt)]
  unfold RDat.blockOf
  rw [View.read_apply]
  show B.xq ((win1_1.rect t).emb _) = B.xq j
  congr 1
  funext a
  refine Fin.ext ((Window.rect_emb_val win1_1 t _ a rfl).trans ?_)
  match a with
  | 0 => exact Nat.zero_add _
  | 1 => exact Nat.zero_add _

theorem fetched_2 (t : Fin cfg1.N) (X : FVec F S256x128 .f32) : (rdat R B d).fetched 2 t X = B.wq := by
  funext j
  unfold RDat.fetched Window.fill
  rw [dif_pos ((Window.moved_iff _ _ _).mpr fun a => (j a).isLt)]
  unfold RDat.blockOf
  rw [View.read_apply]
  show B.wq ((win1_2.rect t).emb _) = B.wq j
  congr 1
  funext a
  refine Fin.ext ((Window.rect_emb_val win1_2 t _ a rfl).trans ?_)
  match a with
  | 0 => exact Nat.zero_add _
  | 1 => exact Nat.zero_add _

theorem fetched_3 (t : Fin cfg1.N) (X : FVec F S256x128 .f32) : (rdat R B d).fetched 3 t X = B.wk := by
  funext j
  unfold RDat.fetched Window.fill
  rw [dif_pos ((Window.moved_iff _ _ _).mpr fun a => (j a).isLt)]
  unfold RDat.blockOf
  rw [View.read_apply]
  show B.wk ((win1_3.rect t).emb _) = B.wk j
  congr 1
  funext a
  refine Fin.ext ((Window.rect_emb_val win1_3 t _ a rfl).trans ?_)
  match a with
  | 0 => exact Nat.zero_add _
  | 1 => exact Nat.zero_add _

theorem fetched_4 (t : Fin cfg1.N) (X : FVec F S256x256 .f32) : (rdat R B d).fetched 4 t X = B.rowsAt t.val := by
  funext j
  unfold RDat.fetched Window.fill
  rw [dif_pos ((Window.moved_iff _ _ _).mpr fun a => (j a).isLt)]
  unfold RDat.blockOf
  rw [View.read_apply]
  show B.rows ((win1_4.rect t).emb _) = B.rows _
  congr 1
  have ht : t.val < 26 := t.isLt
  have hj : (j 0 : Fin 256).val < 256 := (j 0 : Fin 256).isLt
  have e0 : win1_4.index t 0 = t.val := coords_index t
  funext a
  refine Fin.ext ((Window.rect_emb_val win1_4 t _ a rfl).trans ?_)
  match a with
  | 0 =>
    show win1_4.index t 0 * 256 + (j 0 : Fin 256).val = (t.val * 256 + (j 0 : Fin 256).val) % 6656
    rw [e0]; omega
  | 1 => exact Nat.zero_add _

theorem fetched_5 (t : Fin cfg1.N) (X : FVec F S2560x100 .f32) : (rdat R B d).fetched 5 t X = B.labsAt (fun _ => X) t.val := by
  funext j
  unfold RDat.fetched Window.fill
  have ht : t.val < 26 := t.isLt
  have e0 : win1_5.index t 0 = t.val := coords_index5 t
  have hj : (j 0 : Fin 2560).val < 2560 := (j 0 : Fin 2560).isLt
  by_cases h : t.val * 2560 + (j 0 : Fin 2560).val < 65536
  · have hm : win1_5.moved (grid1.coords t) j = true := by
      rw [Window.moved_iff]
      intro a
      match a with
      | 0 => exact Nat.lt_of_lt_of_eq (by omega) (xsize5_0 t).symm
      | 1 => exact (j 1 : Fin 100).isLt
    rw [dif_pos hm]
    unfold RDat.blockOf
    rw [View.read_apply]
    unfold Ins.labsAt
    rw [dif_pos h]
    show B.labs ((win1_5.rect t).emb _) = B.labs _
    congr 1
    funext a
    refine Fin.ext ((Window.rect_emb_val win1_5 t _ a rfl).trans ?_)
    match a with
    | 0 =>
      show win1_5.index t 0 * 2560 + (j 0 : Fin 2560).val = t.val * 2560 + (j 0 : Fin 2560).val
      rw [e0]
    | 1 => exact Nat.zero_add _
  · have hm : ¬ win1_5.moved (grid1.coords t) j = true := by
      rw [Window.moved_iff]
      intro hh
      have h0 : (j 0 : Fin 2560).val < win1_5.xsize (grid1.coords t) 0 := hh 0
      rw [xsize5_0 t] at h0
      omega
    rw [dif_neg hm]
    unfold Ins.labsAt
    rw [dif_neg h]

/-- The staging buffers and the scratch buffers, as a point's triple holds them. -/
abbrev heldAt (t : Fin cfg1.N) (g : FVec F S256x256 .f32) (lb : FVec F S2560x100 .f32) (o : FVec F S1x1 .f32) (xl : FVec F S128x100 .f32)
    (xq : FVec F S128x128 .f32) (wq wk : FVec F S256x128 .f32) (s : St F) : sProp 𝕄 :=
  held d (st1_0 t) (st1_1 t) (st1_2 t) (st1_3 t) (st1_4 t) (st1_5 t) (st1_6 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) xl xq wq wk g lb o s

/-- The windows' staging buffers one by one. -/
theorem stages_eq (t : Fin cfg1.N) (Y : (w : Fin cfg1.W) → (cfg1.win w).block.Idx → Elt F (cfg1.win w).elt) :
    (bigSep Finset.univ fun w : Fin cfg1.W => owns (d : Thread nD τ) ((cfg1.win w).stage (cfg1.slots t w)) fullShare (Y w) : sProp 𝕄)
      = iprop(owns (d : Thread nD τ) (st1_0 t) fullShare (Y 0) ∗ owns (d : Thread nD τ) (st1_1 t) fullShare (Y 1) ∗ owns (d : Thread nD τ) (st1_2 t) fullShare (Y 2) ∗ owns (d : Thread nD τ) (st1_3 t) fullShare (Y 3) ∗ owns (d : Thread nD τ) (st1_4 t) fullShare (Y 4) ∗ owns (d : Thread nD τ) (st1_5 t) fullShare (Y 5) ∗ owns (d : Thread nD τ) (st1_6 t) fullShare (Y 6)) :=
  bigSep_W1 _

theorem phi_intro (t : Fin cfg1.N) (D : ℕ → FVec F S2560x100 .f32) : scr d (B.stAt D (t.val + 1)) ⊢ (rdat R B d).Φ t.succ := by
  show _ ⊢ iprop(∃ s : St F, ⌜t.succ.val ≠ 0 → ∃ D, s = B.stAt D t.succ.val⌝ ∗ scr d s)
  iintro H
  iexists B.stAt D (t.val + 1)
  isplitr
  · ipureintro; exact fun _ => ⟨D, rfl⟩
  iexact H

set_option maxHeartbeats 1000000 in
/-- What a point leaves. -/
theorem left_of_held (t : Fin cfg1.N) (Y : (w : Fin cfg1.W) → (cfg1.win w).block.Idx → Elt F (cfg1.win w).elt) (D : ℕ → FVec F S2560x100 .f32)
    (o : FVec F S1x1 .f32) :
    iprop((rdat R B d).owesAt none t.castSucc
        ∗ heldAt d t (Y 4) (Y 5) (St.result (grid1.coords t) (B.stAt D (t.val + 1)) o) (Y 0) (Y 1) (Y 2) (Y 3) (B.stAt D (t.val + 1)))
      ⊢ iprop((rdat R B d).Φ t.succ ∗ (rdat R B d).owesAt none t.succ
        ∗ bigSep Finset.univ fun w : Fin cfg1.W => iprop(∃ X, ⌜(rdat R B d).after w t (Y w) X⌝ ∗ owns (d : Thread nD τ) ((cfg1.win w).stage (cfg1.slots t w)) fullShare X)) := by
  rw [show (bigSep Finset.univ fun w : Fin cfg1.W => iprop(∃ X, ⌜(rdat R B d).after w t (Y w) X⌝ ∗ owns (d : Thread nD τ) ((cfg1.win w).stage (cfg1.slots t w)) fullShare X))
    = _ from bigSep_W1 _]
  unfold heldAt held
  iintro ⟨HO, Y0, Y1, Y2, Y3, Y4, Y5, Y6, S0, S1, S2, S3, S4, S5, S6, S7, S8, S9, S10⟩
  isplitl [S0 S1 S2 S3 S4 S5 S6 S7 S8 S9 S10]
  · iapply (phi_intro R B d t D)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [HO]; · iexact HO
  isplitl [Y0]
  · iexists Y 0
    isplitr
    · ipureintro; trivial
    iexact Y0
  isplitl [Y1]
  · iexists Y 1
    isplitr
    · ipureintro; trivial
    iexact Y1
  isplitl [Y2]
  · iexists Y 2
    isplitr
    · ipureintro; trivial
    iexact Y2
  isplitl [Y3]
  · iexists Y 3
    isplitr
    · ipureintro; trivial
    iexact Y3
  isplitl [Y4]
  · iexists Y 4
    isplitr
    · ipureintro; trivial
    iexact Y4
  isplitl [Y5]
  · iexists Y 5
    isplitr
    · ipureintro; trivial
    iexact Y5
  iexists St.result (grid1.coords t) (B.stAt D (t.val + 1)) o
  isplitr
  · ipureintro
    intro (ht : t.val = 25)
    refine ⟨D, ?_⟩
    unfold St.result
    rw [if_pos (coords_last t ht), ht]
    rfl
  iexact Y6

set_option maxHeartbeats 1000000 in
/-- Every point. -/
theorem obl : (rdat R B d).BodyObligation defs₀ 𝒱₀ none Set.univ := by
  intro t Y hY
  have h4 : Y 4 = B.rowsAt t.val := by
    obtain ⟨x, hx⟩ := ((rdat R B d).finds_of_fetch (fetch1_4 t) _).mp (hY 4)
    exact hx.trans (fetched_4 R B d t x)
  obtain ⟨x5, h5⟩ : ∃ x : FVec F S2560x100 .f32, Y 5 = B.labsAt (fun _ => x) t.val := by
    obtain ⟨x, hx⟩ := ((rdat R B d).finds_of_fetch (fetch1_5 t) _).mp (hY 5)
    exact ⟨x, hx.trans (fetched_5 R B d t x)⟩
  rw [stages_eq]
  show iprop((∃ s : St F, ⌜t.val ≠ 0 → ∃ D, s = B.stAt D t.val⌝ ∗ scr d s) ∗ (rdat R B d).owesAt none t.castSucc ∗ _)
    ⊢ wp frame (wpE (defs₀ (F := F)) 𝒱₀ d none) Set.univ (bodyAt1 t) _
  iintro ⟨⟨%s, %hs, S0, S1, S2, S3, S4, S5, S6, S7, S8, S9, S10⟩, HO, Y0, Y1, Y2, Y3, Y4, Y5, Y6⟩
  have key : ∃ D, heldAt d t (Y 4) (Y 5) (Y 6) (Y 0) (Y 1) (Y 2) (Y 3) s
      ⊢ wp frame (wpE (defs₀ (F := F)) 𝒱₀ d none) Set.univ (bodyAt1 t) fun _ =>
          heldAt d t (Y 4) (Y 5) (St.result (grid1.coords t) (B.stAt D (t.val + 1)) (Y 6)) (Y 0) (Y 1) (Y 2) (Y 3) (B.stAt D (t.val + 1)) := by
    by_cases ht : t.val = 0
    · have h0 : Y 0 = B.xl := by
        obtain ⟨x, hx⟩ := ((rdat R B d).finds_of_fetch ((fetch1_0 t).mpr (by rw [ht])) _).mp (hY 0)
        exact hx.trans (fetched_0 R B d t x)
      have h1 : Y 1 = B.xq := by
        obtain ⟨x, hx⟩ := ((rdat R B d).finds_of_fetch ((fetch1_1 t).mpr (by rw [ht])) _).mp (hY 1)
        exact hx.trans (fetched_1 R B d t x)
      have h2 : Y 2 = B.wq := by
        obtain ⟨x, hx⟩ := ((rdat R B d).finds_of_fetch ((fetch1_2 t).mpr (by rw [ht])) _).mp (hY 2)
        exact hx.trans (fetched_2 R B d t x)
      have h3 : Y 3 = B.wk := by
        obtain ⟨x, hx⟩ := ((rdat R B d).finds_of_fetch ((fetch1_3 t).mpr (by rw [ht])) _).mp (hY 3)
        exact hx.trans (fetched_3 R B d t x)
      refine ⟨fun _ => x5, ?_⟩
      have e : B.stAt (fun _ => x5) (t.val + 1) = (St.start (Y 0) (Y 1) (Y 2) (Y 3)).next (BitVec.ofNat 32 ((grid1.coords t) 0).val) (Y 4) (Y 5) := by
        rw [h0, h1, h2, h3, h4, h5, coords_val t, ht]; rfl
      rw [e]
      exact body_first d Set.univ (grid1.coords t) (st1_0 t) (st1_1 t) (st1_2 t) (st1_3 t) (st1_4 t) (st1_5 t) (st1_6 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Y 0) (Y 1) (Y 2) (Y 3) (Y 4) (Y 5) (Y 6) s (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (coords_first t ht)
    · obtain ⟨D, hD⟩ := hs ht
      refine ⟨Function.update D t.val x5, ?_⟩
      have e1 : B.stAt (Function.update D t.val x5) t.val = s :=
        (B.stAt_congr t.val fun u hu => Function.update_of_ne (Nat.ne_of_lt hu) _ _).trans hD.symm
      have e : B.stAt (Function.update D t.val x5) (t.val + 1) = s.next (BitVec.ofNat 32 ((grid1.coords t) 0).val) (Y 4) (Y 5) := by
        show (B.stAt (Function.update D t.val x5) t.val).next _ _ (B.labsAt (Function.update D t.val x5) t.val) = _
        rw [e1, h4, h5, coords_val t]
        congr 1
        funext j
        unfold Ins.labsAt
        rw [Function.update_self]
      rw [e]
      exact body_later d Set.univ (grid1.coords t) (st1_0 t) (st1_1 t) (st1_2 t) (st1_3 t) (st1_4 t) (st1_5 t) (st1_6 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7) (Memref.whole cc1_scratch8) (Memref.whole cc1_scratch9) (Memref.whole cc1_scratch10) (Y 0) (Y 1) (Y 2) (Y 3) (Y 4) (Y 5) (Y 6) s (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (coords_later t ht)
  obtain ⟨D, hk⟩ := key
  iapply (wp_mono frame _ _ (fun _ => left_of_held R B d t Y D (Y 6)))
  iapply (wp_frame_l frame _ _)
  isplitl [HO]; · iexact HO
  iapply hk
  unfold heldAt held
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

theorem one_idx (i j : S1x1.Idx) : i = j := by
  funext a
  match a with
  | 0 => exact Subsingleton.elim (α := Fin 1) _ _
  | 1 => exact Subsingleton.elim (α := Fin 1) _ _

/-- The last point. -/
abbrev last1 : Fin grid1.N := ⟨25, by decide⟩

/-- What the result's array holds after the call: the mean. -/
theorem arrAt_6 (G : FVec F S1x1 .f32) (h : (rdat R B d).ArrAt 6 cfg1.N G) :
    ∃ D, G = B.mean D := by
  have h' : (rdat R B d).ArrAt 6 (25 + 1) G := h
  unfold RDat.ArrAt at h'
  rw [dif_pos (show 25 < cfg1.N by decide), if_pos ((flush1_6 ⟨25, by decide⟩).mpr rfl)] at h'
  obtain ⟨G₀, X, -, ⟨Y, -, hX⟩, hG⟩ := h'
  obtain ⟨D, hD⟩ := hX rfl
  refine ⟨D, ?_⟩
  have hw : (win1_6.blk last1).view.read (Elt F) G = win1_6.cut (grid1.coords last1) X := by
    rw [hG]; exact View.read_write_univ _ _
  funext j
  have hj := congrFun hw j
  rw [View.read_apply] at hj
  have e : (win1_6.blk last1).view.emb j = j := one_idx _ _
  rw [e] at hj
  refine Eq.trans ?_ (hj.trans ?_)
  · rfl
  · show X _ = B.mean D j
    rw [hD]
    exact congrArg (B.mean D) (one_idx _ _)

end Points

/-! ## The call as a segment of the program -/

section Segment

variable (R : Dev nD → Set (SemLoc sig × HIx 1)) (B : Dev nD → Ins F)

/-- The call takes no table. -/
abbrev noTab : (p : Fin 1) → (pcfgs (F := F) p).Adm := fun p => (cfgs p).toPCfg_adm

/-- The call's proof data on every device. -/
def rdats : (p : Fin 1) → (d : Dev nD) → RDat τ (Elt F) (HIx 1) ℕ UU ℕ (Pipeline.pin (pcfgs (F := F)) noTab p) d
  | 0, d => rdat (R d) (B d) d
  | ⟨_ + 1, h⟩, _ => absurd h (Nat.not_lt.2 (Nat.le_add_left _ _))

set_option maxHeartbeats 1000000 in
theorem scr_of_rest (d : Dev nD) :
    (Pipeline.scopedRest (Ix := HIx 1) (Name := ℕ) (U := UU) (Lvl := ℕ) (Val := Elt F) spec1 d : sProp 𝕄) ⊢ iprop(∃ s : St F, scr d s) := by
  rw [scopedRest1_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iexists (⟨f0, f1, f2, f3, f4, f5, f6, f7, f8, f9, f10⟩ : St F)
  unfold scr
  simp only [owns_whole_eq]
  isplitl [H0]
  · iexists f0
    isplitr; · ipureintro; rfl
    iexact H0
  isplitl [H1]
  · iexists f1
    isplitr; · ipureintro; rfl
    iexact H1
  isplitl [H2]
  · iexists f2
    isplitr; · ipureintro; rfl
    iexact H2
  isplitl [H3]
  · iexists f3
    isplitr; · ipureintro; rfl
    iexact H3
  isplitl [H4]
  · iexists f4
    isplitr; · ipureintro; rfl
    iexact H4
  isplitl [H5]
  · iexists f5
    isplitr; · ipureintro; rfl
    iexact H5
  isplitl [H6]
  · iexists f6
    isplitr; · ipureintro; rfl
    iexact H6
  isplitl [H7]
  · iexists f7
    isplitr; · ipureintro; rfl
    iexact H7
  isplitl [H8]
  · iexists f8
    isplitr; · ipureintro; rfl
    iexact H8
  isplitl [H9]
  · iexists f9
    isplitr; · ipureintro; rfl
    iexact H9
  iexists f10
  isplitr; · ipureintro; rfl
  iexact H10

set_option maxHeartbeats 1000000 in
theorem rest_of_scr (d : Dev nD) (s : St F) :
    scr d s ⊢ (Pipeline.scopedRest (Ix := HIx 1) (Name := ℕ) (U := UU) (Lvl := ℕ) (Val := Elt F) spec1 d : sProp 𝕄) := by
  rw [scopedRest1_eq]
  unfold scr
  simp only [owns_whole_eq]
  iintro ⟨⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  isplitl [H7]; · iexists f7; iexact H7
  isplitl [H8]; · iexists f8; iexact H8
  isplitl [H9]; · iexists f9; iexact H9
  iexists f10; iexact H10

/-- The call: entered from its arrays, left with them, the result's at the mean. -/
def seg (L : GSem nD τ sig → Finset (HIx 1)) (lv : GSem nD τ sig → HIx 1 → ℕ) :
    Pipeline.RDat.RegionSeg (pcfgs (F := F)) noTab (rdats R B) none defs₀ 𝒱₀ L lv 0 where
  win := winFacts1.to₀
  block_pos := block_pos1
  stage_whole := stage_whole1
  K := PEmpty
  osem k := k.elim
  ho := Pipeline.OwnSemFacts.none _
  hbody d := obl (R d) (B d) d
  hwaits d := Pipeline.RDat.hwaits_of_owed_zero _ _ _ _ _ _ 0 (fun _ _ => rfl) d
  pre d := iprop((rdat (R d) (B d) d).arrays (rdat (R d) (B d) d).A ∗ (rdat (R d) (B d) d).owesAt none 0)
  post d := iprop((rdat (R d) (B d) d).arraysAt cfg1.N ∗ (rdat (R d) (B d) d).owesAt none (Fin.last cfg1.N))
  X _ := iprop(emp)
  Y _ := iprop(emp)
  Z _ := iprop(emp)
  hentry d := by
    rw [Pipeline.ownSems0_none, Pipeline.prefHeld_of_none _ rfl]
    iintro ⟨⟨Ha, HO⟩, -, -⟩
    imodintro
    isplitl [Ha]; · iexact Ha
    isplitr; · iempintro
    isplitl [HO]; · iexact HO
    isplitr <;> iempintro
  hin d := by
    rw [Pipeline.prefHeld_of_none _ rfl]
    refine BI.Entails.trans (?_ : _ ⊢ iprop(∃ s : St F, scr d s)) ?_
    · iintro ⟨-, -, H⟩
      iapply (scr_of_rest d) $$ H
    · show _ ⊢ iprop(∃ s : St F, ⌜(0 : ℕ) ≠ 0 → ∃ D, s = (B d).stAt D 0⌝ ∗ scr d s)
      iintro ⟨%s, H⟩
      iexists s
      isplitr
      · ipureintro; exact fun h => absurd rfl h
      iexact H
  hout d := by
    rw [Pipeline.ownSems0_none]
    show iprop(∃ s : St F, ⌜(Fin.last cfg1.N).val ≠ 0 → ∃ D, s = (B d).stAt D (Fin.last cfg1.N).val⌝ ∗ scr d s) ⊢ _
    iintro ⟨%s, -, H⟩
    isplitr; · iempintro
    isplitr; · iempintro
    iapply (rest_of_scr d s) $$ H
  hexit d := by
    iintro ⟨Ha, HO, -, -⟩
    imodintro
    isplitl [Ha]; · iexact Ha
    iexact HO

end Segment

end Cert.Proof.Gather
-- ==== Proof.Launch.lean ====
/-
  The launch: what the call takes from @main and gives to each SparseCore and to each of its subcores, @main's host
  operations around the two calls, and the run of the whole program. The contents are carried: the gathered rows are
  what the loss kernel's call reads, and at the end the result is the mean it leaves.
-/
module

public import proofs.«01_k».proof.Proof.LossRegion

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v5_scv : Memref Cert.KernelIdeal.sig Kind.scVector Space.hbm Cert.KernelIdeal.S65536x2x128 EltTy.f32)
local notation "iV" => (Memref.whole Cert.KernelIdeal.main_v6_scv : Memref Cert.KernelIdeal.sig Kind.scVector Space.hbm Cert.KernelIdeal.S1x6656 EltTy.i32)
local notation "oV" => (Memref.whole Cert.KernelIdeal.main_v7_scv : Memref Cert.KernelIdeal.sig Kind.scVector Space.hbm Cert.KernelIdeal.S6656x2x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x2x128 EltTy.f32)

abbrev EH : Emb UH (MT nD τ sig (HIx 1) (Elt F) ℕ UU ℕ) := embL

variable (m : (ℓ : Loc nD τ sig) → Buf (Elt F) ℓ) (ρ : Dev nD → PrngReg)

/-! ## The host operations -/

/-- Before the call: the row numbers, and the table and the row numbers as the call takes them. -/
abbrev opsA : List (HloOp τ sig (Elt F)) :=
  [StableHlo.nullary main_v0 (iotaInDim S6656 32 0),
    StableHlo.nullary main_c (constantI S_ 32 10#32),
    StableHlo.unary main_c main_v1 (broadcastInDim S6656 ![] bcast_S_S6656 : (⟨S_, .i32⟩ : BufTy).Contents (Elt F) → (⟨S6656, .i32⟩ : BufTy).Contents (Elt F)),
    StableHlo.binary main_v0 main_v1 main_v2 (muli : (⟨S6656, .i32⟩ : BufTy).Contents (Elt F) → (⟨S6656, .i32⟩ : BufTy).Contents (Elt F) → (⟨S6656, .i32⟩ : BufTy).Contents (Elt F)),
    StableHlo.nullary main_c_0 (constantI S_ 32 65530#32),
    StableHlo.unary main_c_0 main_v3 (broadcastInDim S6656 ![] bcast_S_S6656 : (⟨S_, .i32⟩ : BufTy).Contents (Elt F) → (⟨S6656, .i32⟩ : BufTy).Contents (Elt F)),
    StableHlo.binary main_v2 main_v3 main_v4 (minsi : (⟨S6656, .i32⟩ : BufTy).Contents (Elt F) → (⟨S6656, .i32⟩ : BufTy).Contents (Elt F) → (⟨S6656, .i32⟩ : BufTy).Contents (Elt F)),
    StableHlo.reshape main_arg2 main_v5 (rfl : (.f32 : EltTy) = .f32) shapeCasts_S65536x256_S65536x2x128,
    StableHlo.reshape main_v4 main_v6 (rfl : (.i32 : EltTy) = .i32) shapeCasts_S6656_S1x6656]
/-- Between the calls: the gathered rows, the row labels and the queue's labels as the second call takes them. -/
abbrev opsB : List (HloOp τ sig (Elt F)) :=
  [StableHlo.reshape main_v7 main_v8 (rfl : (.f32 : EltTy) = .f32) shapeCasts_S6656x2x128_S6656x256,
    StableHlo.reshape main_arg1 main_v9 (rfl : (.f32 : EltTy) = .f32) shapeCasts_S128x50x2_S128x100,
    StableHlo.reshape main_arg5 main_v10 (rfl : (.f32 : EltTy) = .f32) shapeCasts_S65536x50x2_S65536x100]
/-- After the second call: the result. -/
abbrev opsC : List (HloOp τ sig (Elt F)) :=
  [StableHlo.reshape main_v11 main_v12 (rfl : (.f32 : EltTy) = .f32) shapeCasts_S1x1_S_]

/-- The second call. -/
abbrev callB : Prog (TpuEff nD τ sig (Elt F) (SparseCore.Sig (ΛP (F := F)) 1) .tc) PUnit :=
  Prog.lift (.customCall (SparseCore.inner (Pipeline.entry (0 : Fin 1))) ())

theorem main_eq (d : Dev nD) : main (F := F) d
    = (StableHlo.seq (opsA (F := F)) >>= fun _ => (K (F := F)).run d 0 >>= fun _ => StableHlo.seq (opsB (F := F)) >>= fun _ =>
        callB (F := F) >>= fun _ => StableHlo.seq (opsC (F := F)) >>= fun _ => pure ⟨⟩) := by
  simp only [main, StableHlo.seq, bind_assoc, pure_bind]

/-- A TensorCore array as a device buffer. -/
abbrev rf (b : Ref sig .tc) : DevRef τ sig := Proc.devRef .tc b
abbrev x' : DevRef τ sig := rf main_v5
abbrev i' : DevRef τ sig := rf main_v6
abbrev o' : DevRef τ sig := rf main_v7

/-- Where device `d` keeps it. -/
abbrev at' (d : Dev nD) (b : Ref sig .tc) : Loc nD τ sig := (SparseCore.T d).loc b

/-- The TensorCore's arrays but for the three the first call takes; all of them. -/
abbrev S18 : Finset (DevRef τ sig) :=
  {rf main_v9, rf main_arg0, rf main_arg3, rf main_arg4, rf main_v8, rf main_v10, rf main_v11, rf main_arg1, rf main_arg2, rf main_arg5, rf main_v12, rf main_v0, rf main_c, rf main_v1, rf main_v2, rf main_c_0, rf main_v3, rf main_v4}
abbrev S21 : Finset (DevRef τ sig) := insert i' (insert x' (insert o' S18))

theorem unscoped_held (d : Dev nD) (W : Valuation τ sig (Elt F)) :
    (unscopedBufs d (fun b => W (Proc.devRef .tc b)) : sProp 𝕄) = StableHlo.held (T d) S21 W := by
  unfold unscopedBufs StableHlo.held
  rw [show (Finset.univ.filter fun b : Ref sig .tc => ¬ b.isScoped)
      = {main_v6, main_v5, main_v7, main_v9, main_arg0, main_arg3, main_arg4, main_v8, main_v10, main_v11, main_arg1, main_arg2, main_arg5, main_v12, main_v0, main_c, main_v1, main_v2, main_c_0, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_21 (d : Dev nD) (W : Valuation τ sig (Elt F)) :
    (StableHlo.held (T d) S21 W : sProp 𝕄)
      = iprop((iLoc d ↦{fullShare} W i') ∗ (xLoc d ↦{fullShare} W x') ∗ (oLoc d ↦{fullShare} W o') ∗ StableHlo.held (T d) S18 W) := by
  unfold StableHlo.held
  rw [SparseCore.bigSep_insert' (by decide), SparseCore.bigSep_insert' (by decide), SparseCore.bigSep_insert' (by decide)]

/-- What the second call leaves alone. -/
abbrev S14 : Finset (DevRef τ sig) :=
  (((((((S21.erase (rf main_v9)).erase (rf main_arg0)).erase (rf main_arg3)).erase (rf main_arg4)).erase (rf main_v8)).erase (rf main_v10)).erase (rf main_v11))

/-- The second call's arrays taken out. -/
theorem held_region (d : Dev nD) (W : Valuation τ sig (Elt F)) :
    (StableHlo.held (T d) S21 W : sProp 𝕄)
      = iprop((at' d main_v9 ↦{fullShare} W (rf main_v9)) ∗ (at' d main_arg0 ↦{fullShare} W (rf main_arg0)) ∗ (at' d main_arg3 ↦{fullShare} W (rf main_arg3)) ∗ (at' d main_arg4 ↦{fullShare} W (rf main_arg4)) ∗ (at' d main_v8 ↦{fullShare} W (rf main_v8)) ∗ (at' d main_v10 ↦{fullShare} W (rf main_v10)) ∗ (at' d main_v11 ↦{fullShare} W (rf main_v11)) ∗ StableHlo.held (T d) S14 W) := by
  unfold StableHlo.held
  rw [SparseCore.bigSep_erase' (show rf main_v9 ∈ S21 by decide),
    SparseCore.bigSep_erase' (show rf main_arg0 ∈ (S21.erase (rf main_v9)) by decide),
    SparseCore.bigSep_erase' (show rf main_arg3 ∈ ((S21.erase (rf main_v9)).erase (rf main_arg0)) by decide),
    SparseCore.bigSep_erase' (show rf main_arg4 ∈ (((S21.erase (rf main_v9)).erase (rf main_arg0)).erase (rf main_arg3)) by decide),
    SparseCore.bigSep_erase' (show rf main_v8 ∈ ((((S21.erase (rf main_v9)).erase (rf main_arg0)).erase (rf main_arg3)).erase (rf main_arg4)) by decide),
    SparseCore.bigSep_erase' (show rf main_v10 ∈ (((((S21.erase (rf main_v9)).erase (rf main_arg0)).erase (rf main_arg3)).erase (rf main_arg4)).erase (rf main_v8)) by decide),
    SparseCore.bigSep_erase' (show rf main_v11 ∈ ((((((S21.erase (rf main_v9)).erase (rf main_arg0)).erase (rf main_arg3)).erase (rf main_arg4)).erase (rf main_v8)).erase (rf main_v10)) by decide)]

/-- The arguments and the result taken out. -/
theorem held_ends (d : Dev nD) (W : Valuation τ sig (Elt F)) :
    (StableHlo.held (T d) S21 W : sProp 𝕄)
      = iprop((at' d main_arg0 ↦{fullShare} W (rf main_arg0)) ∗ (at' d main_arg1 ↦{fullShare} W (rf main_arg1)) ∗ (at' d main_arg2 ↦{fullShare} W (rf main_arg2)) ∗ (at' d main_arg3 ↦{fullShare} W (rf main_arg3)) ∗ (at' d main_arg4 ↦{fullShare} W (rf main_arg4)) ∗ (at' d main_arg5 ↦{fullShare} W (rf main_arg5)) ∗ (at' d main_v12 ↦{fullShare} W (rf main_v12)) ∗ StableHlo.held (T d) (((((((S21.erase (rf main_arg0)).erase (rf main_arg1)).erase (rf main_arg2)).erase (rf main_arg3)).erase (rf main_arg4)).erase (rf main_arg5)).erase (rf main_v12)) W) := by
  unfold StableHlo.held
  rw [SparseCore.bigSep_erase' (show rf main_arg0 ∈ S21 by decide),
    SparseCore.bigSep_erase' (show rf main_arg1 ∈ (S21.erase (rf main_arg0)) by decide),
    SparseCore.bigSep_erase' (show rf main_arg2 ∈ ((S21.erase (rf main_arg0)).erase (rf main_arg1)) by decide),
    SparseCore.bigSep_erase' (show rf main_arg3 ∈ (((S21.erase (rf main_arg0)).erase (rf main_arg1)).erase (rf main_arg2)) by decide),
    SparseCore.bigSep_erase' (show rf main_arg4 ∈ ((((S21.erase (rf main_arg0)).erase (rf main_arg1)).erase (rf main_arg2)).erase (rf main_arg3)) by decide),
    SparseCore.bigSep_erase' (show rf main_arg5 ∈ (((((S21.erase (rf main_arg0)).erase (rf main_arg1)).erase (rf main_arg2)).erase (rf main_arg3)).erase (rf main_arg4)) by decide),
    SparseCore.bigSep_erase' (show rf main_v12 ∈ ((((((S21.erase (rf main_arg0)).erase (rf main_arg1)).erase (rf main_arg2)).erase (rf main_arg3)).erase (rf main_arg4)).erase (rf main_arg5)) by decide)]

/-! ## The contents -/

/-- At the launch; when the first call starts; when it has ended. -/
def V0 (d : Dev nD) : Valuation τ sig (Elt F) := fun b => m (d, b)
def V1 (d : Dev nD) : Valuation τ sig (Elt F) := StableHlo.after opsA (V0 m d)
/-- The table and the row numbers as the call takes them. -/
def tab (d : Dev nD) : Buf (Elt F) (xLoc d) := V1 m d x'
def num (d : Dev nD) : Buf (Elt F) (iLoc d) := V1 m d i'
def V2 (d : Dev nD) : Valuation τ sig (Elt F) := Function.update (V1 m d) o' (rowsOf d (tab m d) (num m d))
/-- When the second call starts. -/
def V3 (d : Dev nD) : Valuation τ sig (Elt F) := StableHlo.after opsB (V2 m d)
/-- The second call's arrays. -/
def ins (d : Dev nD) : Ins F where
  xl := V3 m d (rf main_v9)
  xq := V3 m d (rf main_arg0)
  wq := V3 m d (rf main_arg3)
  wk := V3 m d (rf main_arg4)
  rows := V3 m d (rf main_v8)
  labs := V3 m d (rf main_v10)
  out := V3 m d (rf main_v11)
/-- When it has ended; at the end. -/
def V4 (d : Dev nD) (J : ℕ → FVec F S2560x100 .f32) : Valuation τ sig (Elt F) := Function.update (V3 m d) (rf main_v11) ((ins m d).mean J)
def V5 (d : Dev nD) (J : ℕ → FVec F S2560x100 .f32) : Valuation τ sig (Elt F) := StableHlo.after opsC (V4 m d J)

theorem V2_ne (d : Dev nD) {b : DevRef τ sig} (h : b ≠ o') : V2 m d b = V1 m d b := Function.update_of_ne h _ _
theorem V4_ne (d : Dev nD) (J : ℕ → FVec F S2560x100 .f32) {b : DevRef τ sig} (h : b ≠ rf main_v11) : V4 m d J b = V3 m d b := Function.update_of_ne h _ _
theorem V4_v11 (d : Dev nD) (J : ℕ → FVec F S2560x100 .f32) : V4 m d J (rf main_v11) = (ins m d).mean J := Function.update_self _ _ _
theorem V2_o (d : Dev nD) : V2 m d o' = rowsOf d (tab m d) (num m d) := Function.update_self _ _ _

theorem tab_eq (d : Dev nD) : tab m d = shapeCast S65536x2x128 (m (at' d main_arg2)) shapeCasts_S65536x256_S65536x2x128 := by
  unfold tab V1
  after_results
  rfl
/-- The word at place `k` of the row numbers. -/
def word (k : ℕ) : BitVec 32 := IntOp.minsi (IntOp.muli (BitVec.ofNat 32 k) 10#32) 65530#32
theorem num_eq (d : Dev nD) : num m d
    = (shapeCast S1x6656 (fun k : S6656.Idx => (word (k 0).val : Elt F .i32)) shapeCasts_S6656_S1x6656 : S1x6656.Idx → Elt F .i32) := by
  unfold num V1
  after_results
  rfl
theorem V3_arg0 (d : Dev nD) : V3 m d (rf main_arg0) = m (at' d main_arg0) := by
  unfold V3
  after_results
  rw [V2_ne m d (by decide)]
  unfold V1
  after_results
  rfl
theorem V5_arg0 (d : Dev nD) (J : ℕ → FVec F S2560x100 .f32) : V5 m d J (rf main_arg0) = m (at' d main_arg0) := by
  unfold V5
  after_results
  rw [V4_ne m d J (by decide)]
  exact V3_arg0 m d
theorem V3_arg1 (d : Dev nD) : V3 m d (rf main_arg1) = m (at' d main_arg1) := by
  unfold V3
  after_results
  rw [V2_ne m d (by decide)]
  unfold V1
  after_results
  rfl
theorem V5_arg1 (d : Dev nD) (J : ℕ → FVec F S2560x100 .f32) : V5 m d J (rf main_arg1) = m (at' d main_arg1) := by
  unfold V5
  after_results
  rw [V4_ne m d J (by decide)]
  exact V3_arg1 m d
theorem V3_arg2 (d : Dev nD) : V3 m d (rf main_arg2) = m (at' d main_arg2) := by
  unfold V3
  after_results
  rw [V2_ne m d (by decide)]
  unfold V1
  after_results
  rfl
theorem V5_arg2 (d : Dev nD) (J : ℕ → FVec F S2560x100 .f32) : V5 m d J (rf main_arg2) = m (at' d main_arg2) := by
  unfold V5
  after_results
  rw [V4_ne m d J (by decide)]
  exact V3_arg2 m d
theorem V3_arg3 (d : Dev nD) : V3 m d (rf main_arg3) = m (at' d main_arg3) := by
  unfold V3
  after_results
  rw [V2_ne m d (by decide)]
  unfold V1
  after_results
  rfl
theorem V5_arg3 (d : Dev nD) (J : ℕ → FVec F S2560x100 .f32) : V5 m d J (rf main_arg3) = m (at' d main_arg3) := by
  unfold V5
  after_results
  rw [V4_ne m d J (by decide)]
  exact V3_arg3 m d
theorem V3_arg4 (d : Dev nD) : V3 m d (rf main_arg4) = m (at' d main_arg4) := by
  unfold V3
  after_results
  rw [V2_ne m d (by decide)]
  unfold V1
  after_results
  rfl
theorem V5_arg4 (d : Dev nD) (J : ℕ → FVec F S2560x100 .f32) : V5 m d J (rf main_arg4) = m (at' d main_arg4) := by
  unfold V5
  after_results
  rw [V4_ne m d J (by decide)]
  exact V3_arg4 m d
theorem V3_arg5 (d : Dev nD) : V3 m d (rf main_arg5) = m (at' d main_arg5) := by
  unfold V3
  after_results
  rw [V2_ne m d (by decide)]
  unfold V1
  after_results
  rfl
theorem V5_arg5 (d : Dev nD) (J : ℕ → FVec F S2560x100 .f32) : V5 m d J (rf main_arg5) = m (at' d main_arg5) := by
  unfold V5
  after_results
  rw [V4_ne m d J (by decide)]
  exact V3_arg5 m d
theorem V3_v8 (d : Dev nD) : V3 m d (rf main_v8) = shapeCast S6656x256 (rowsOf d (tab m d) (num m d)) shapeCasts_S6656x2x128_S6656x256 := by
  unfold V3
  after_results
  rw [V2_o]
  rfl
theorem V3_v9 (d : Dev nD) : V3 m d (rf main_v9) = shapeCast S128x100 (m (at' d main_arg1)) shapeCasts_S128x50x2_S128x100 := by
  unfold V3
  after_results
  rw [V2_ne m d (by decide)]
  unfold V1
  after_results
  rfl
theorem V3_v10 (d : Dev nD) : V3 m d (rf main_v10) = shapeCast S65536x100 (m (at' d main_arg5)) shapeCasts_S65536x50x2_S65536x100 := by
  unfold V3
  after_results
  rw [V2_ne m d (by decide)]
  unfold V1
  after_results
  rfl
theorem V5_v12 (d : Dev nD) (J : ℕ → FVec F S2560x100 .f32) : V5 m d J (rf main_v12) = shapeCast S_ ((ins m d).mean J) shapeCasts_S1x1_S_ := by
  unfold V5
  after_results
  rw [V4_v11]
  rfl

theorem word_toNat {k : ℕ} (hk : k < 6656) : (word k).toNat = min (10 * k) 65530 := by
  have h1 : (IntOp.muli (BitVec.ofNat 32 k) 10#32).toNat = 10 * k := by
    show (BitVec.ofNat 32 k * 10#32).toNat = _
    rw [BitVec.toNat_mul, BitVec.toNat_ofNat, BitVec.toNat_ofNat]; omega
  unfold word
  generalize IntOp.muli (BitVec.ofNat 32 k) 10#32 = x at h1
  unfold IntOp.minsi
  have h2 : x.slt 65530#32 = decide (10 * k < 65530) := by
    rw [BitVec.slt_eq_decide, BitVec.toInt_eq_toNat_cond, BitVec.toInt_eq_toNat_cond, h1]
    simp only [BitVec.toNat_ofNat, Nat.reducePow, Nat.reduceMod]
    congr 1
    rw [if_pos (by omega), if_pos (by omega)]
    simp
    omega
  rw [h2]
  by_cases h : 10 * k < 65530
  · simp only [h, decide_true, ↓reduceIte, h1]; omega
  · simp only [h, decide_false, Bool.false_eq_true, ↓reduceIte, BitVec.toNat_ofNat]; omega

theorem num_at (d : Dev nD) (j : S1x6656.Idx) : num m d j = (word (j 1 : Fin 6656).val : Elt F .i32) := by
  rw [num_eq]
  show word _ = word _
  congr 1
  have h := Shape.rowMajor_reshapeEquiv shapeCasts_S6656_S1x6656 j
  have h1 := Shape.rowMajor_val_one (d := ![6656]) (Shape.reshapeEquiv shapeCasts_S6656_S1x6656 j)
  have h2 := Shape.rowMajor_val_two (d := ![1, 6656]) j
  have h0 : (j 0 : Fin 1).val = 0 := Nat.lt_one_iff.mp (j 0 : Fin 1).isLt
  have h3 : (S6656.rowMajor (Shape.reshapeEquiv shapeCasts_S6656_S1x6656 j)).val = (Shape.reshapeEquiv shapeCasts_S6656_S1x6656 j 0).val := h1
  have h4 : (S1x6656.rowMajor j).val = (j 0 : Fin 1).val * 6656 + (j 1 : Fin 6656).val := h2
  rw [h3, h4, h0] at h
  omega

theorem num_lt (d : Dev nD) (j : S1x6656.Idx) : (num m d j : BitVec 32).toNat < 65536 := by
  rw [num_at]
  show (word _).toNat < _
  have hj : (j 1 : Fin 6656).val < 6656 := (j 1 : Fin 6656).isLt
  rw [word_toNat hj]; omega

/-! ## What the handshakes carry -/

/-- SparseCore `c`'s part of the arrays, the result at contents `fo`. -/
abbrev CorePart (d : Dev nD) (fx : Buf (Elt F) (xLoc d)) (fi : Buf (Elt F) (iLoc d)) (c : ℕ) (fo : Buf (Elt F) (oLoc d)) : sProp 𝕄 :=
  iprop((iLoc d ↦[coreI c]{fullShare} fi) ∗ (xLoc d ↦{part 1 fullShare c} fx) ∗ oLoc d ↦[coreO c]{fullShare} fo)

/-- The call gives each SparseCore its part, and each subcore its piece; they come back with the result's rows gathered. -/
def P : (K (F := F)).Pay (nD := nD) (Val := Elt F) (Name := ℕ) (U := UU) where
  st := fun q d c => match q with | 0 => CorePart d (tab m d) (num m d) c.val (V1 m d o')
  dn := fun q d c => match q with | 0 => CorePart d (tab m d) (num m d) c.val (rowsOf d (tab m d) (num m d))
  go := fun q d c i => match q with | 0 => Piece d (tab m d) (num m d) c.val i.val (V1 m d o')
  td := fun q d c i => match q with | 0 => Piece d (tab m d) (num m d) c.val i.val (rowsOf d (tab m d) (num m d))
  x := fun _ _ => iprop(emp)

instance P_storable : (P (F := F) m).IsStorable where
  st q d c := match q with
    | 0 => (inferInstance : BI.Storable (upEmb : UEmb _ 𝕄) (CorePart d (tab m d) (num m d) c.val (V1 m d o')))
  dn q d c := match q with
    | 0 => (inferInstance : BI.Storable (upEmb : UEmb _ 𝕄) (CorePart d (tab m d) (num m d) c.val (rowsOf d (tab m d) (num m d))))
  go q d c i := match q with
    | 0 => (inferInstance : BI.Storable (upEmb : UEmb _ 𝕄) (Piece d (tab m d) (num m d) c.val i.val (V1 m d o')))
  td q d c i := match q with
    | 0 => (inferInstance : BI.Storable (upEmb : UEmb _ 𝕄) (Piece d (tab m d) (num m d) c.val i.val (rowsOf d (tab m d) (num m d))))

/-- A SparseCore's part is its subcores' pieces. -/
theorem corePart_pieces (d : Dev nD) (fx : Buf (Elt F) (xLoc d)) (fi : Buf (Elt F) (iLoc d)) (c : ℕ) (fo : Buf (Elt F) (oLoc d)) :
    (CorePart d fx fi c fo : sProp 𝕄) = bigSep Finset.univ fun i : Fin 16 => Piece d fx fi c i.val fo := by
  unfold CorePart Piece share
  rw [bigSep_sep', bigSep_sep', deal_tiles_I, deal_tiles_O, pts_part Finset.univ fx 15 (part 1 fullShare c)]
/-- The arrays are the two SparseCores' parts. -/
theorem coreParts (d : Dev nD) (fx : Buf (Elt F) (xLoc d)) (fi : Buf (Elt F) (iLoc d)) (fo : Buf (Elt F) (oLoc d)) :
    (iprop((iLoc d ↦{fullShare} fi) ∗ (xLoc d ↦{fullShare} fx) ∗ oLoc d ↦{fullShare} fo) : sProp 𝕄)
      = bigSep Finset.univ fun c : Fin 2 => CorePart d fx fi c.val fo := by
  unfold CorePart
  rw [bigSep_sep', bigSep_sep', deal_cores_I, deal_cores_O, pts_part Finset.univ fx 1 fullShare]

/-! ## The obligations of the launch -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _)
          oV (Memref.isWhole_whole _) sV (Memref.isWhole_whole _) cc0_scoped1 rV (Memref.isWhole_whole _) cc0_scoped3 cc0_scoped4 cc0_scoped5) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task d (coordsV ⟨_, hci.1⟩ ⟨_, hci.2⟩) (tab m d) (num m d) hF (num_lt m d) (V1 m d o') O W hO).trans (wp_mono frame _ _ fun _ => waits_weaken)

theorem vecSplit : (K (F := F)).VecSplit' (P m) 0 := by
  intro d c
  show CorePart d (tab m d) (num m d) c.val (V1 m d o') ⊢ |={Set.univ}=> iprop(
      (bigSep Finset.univ fun i : Fin 16 => Piece d (tab m d) (num m d) c.val i.val (V1 m d o'))
      ∗ ((bigSep Finset.univ fun i : Fin 16 => Piece d (tab m d) (num m d) c.val i.val (rowsOf d (tab m d) (num m d)))
          -∗ CorePart d (tab m d) (num m d) c.val (rowsOf d (tab m d) (num m d))))
  rw [corePart_pieces, corePart_pieces]
  iintro H; imodintro
  isplitl [H]; · iexact H
  iintro H; iexact H

theorem bigSep_nothing {I : Type} (s : Finset I) : (bigSep s fun _ => iprop(emp)) = (iprop(emp) : sProp 𝕄) := bigSep_emp_const s

/-- The embedding of the pipeline's ghost state. -/
abbrev EP : Emb (UR sig nD τ) (MT nD τ sig (HIx 1) (Elt F) ℕ UU ℕ) := (Emb.inl : Emb (UR sig nD τ) (UR sig nD τ × Counters)).trans embR
instance : (EP (F := F)).LandsIn (upEmb : UEmb _ 𝕄) := by unfold EP embR; infer_instance

def u₀ : UU := (initOf (K (F := F)).hsCells (K (F := F)).hsToks,
  (initOf (Pipeline.cells cfgs cellOf_inj) (Pipeline.launchToks cfgs cellOf_inj), 1))

/-- What device `d`'s TensorCore has of the pipeline's ghost state. -/
abbrev G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs (EP (F := F)) cellOf_inj) $$ HP with ⟨HC, HT⟩
  imodintro
  isplitl [HH]; · iexact HH
  isplitl [HC HT]
  · rw [bigSep_sep']
    isplitl [HC]
    · rw [show (bigSep Finset.univ fun d : Dev nD => (Pipeline.cellsGhost cfgs (EP (F := F)) 0 d : sProp 𝕄))
        = bigSep Finset.univ fun d : Dev nD => bigSep Finset.univ fun p : Fin 1 => Pipeline.cellsGhost cfgs EP p d from
        bigSep_congr fun d _ => (bigSep_univ_of_subsingleton (Φ := fun p => Pipeline.cellsGhost cfgs (EP (F := F)) p d) (0 : Fin 1)).symm]
      iexact HC
    · rw [show (bigSep Finset.univ fun d : Dev nD => (Pipeline.toksInit cfgs (EP (F := F)) 0 d : sProp 𝕄))
        = bigSep Finset.univ fun d : Dev nD => bigSep Finset.univ fun p : Fin 1 => Pipeline.toksInit cfgs EP p d from
        bigSep_congr fun d _ => (bigSep_univ_of_subsingleton (Φ := fun p => Pipeline.toksInit cfgs (EP (F := F)) p d) (0 : Fin 1)).symm]
      iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

theorem st_eq (d : Dev nD) : (bigSep Finset.univ fun c : Fin ((K (F := F)).nCore 0) => (P m).st 0 d c)
    = iprop((iLoc d ↦{fullShare} num m d) ∗ (xLoc d ↦{fullShare} tab m d) ∗ oLoc d ↦{fullShare} V1 m d o') :=
  (coreParts d (tab m d) (num m d) (V1 m d o')).symm
theorem dn_eq (d : Dev nD) : (bigSep Finset.univ fun c : Fin ((K (F := F)).nCore 0) => (P m).dn 0 d c)
    = iprop((iLoc d ↦{fullShare} num m d) ∗ (xLoc d ↦{fullShare} tab m d) ∗ oLoc d ↦{fullShare} rowsOf d (tab m d) (num m d)) :=
  (coreParts d (tab m d) (num m d) (rowsOf d (tab m d) (num m d))).symm

theorem opsA_bufs : ∀ op ∈ opsA (F := F), op.bufs ⊆ S21 := by
  intro op hop
  simp only [opsA, List.mem_cons, List.not_mem_nil, or_false] at hop
  rcases hop with rfl | rfl | rfl | rfl | rfl | rfl | rfl | rfl | rfl
  · exact show ({Proc.devRef .tc (main_v0 : Ref sig .tc)} : Finset (DevRef τ sig)) ⊆ S21 by decide
  · exact show ({Proc.devRef .tc (main_c : Ref sig .tc)} : Finset (DevRef τ sig)) ⊆ S21 by decide
  · exact show ({Proc.devRef .tc (main_c : Ref sig .tc), Proc.devRef .tc (main_v1 : Ref sig .tc)} : Finset (DevRef τ sig)) ⊆ S21 by decide
  · exact show ({Proc.devRef .tc (main_v0 : Ref sig .tc), Proc.devRef .tc (main_v1 : Ref sig .tc), Proc.devRef .tc (main_v2 : Ref sig .tc)} : Finset (DevRef τ sig)) ⊆ S21 by decide
  · exact show ({Proc.devRef .tc (main_c_0 : Ref sig .tc)} : Finset (DevRef τ sig)) ⊆ S21 by decide
  · exact show ({Proc.devRef .tc (main_c_0 : Ref sig .tc), Proc.devRef .tc (main_v3 : Ref sig .tc)} : Finset (DevRef τ sig)) ⊆ S21 by decide
  · exact show ({Proc.devRef .tc (main_v2 : Ref sig .tc), Proc.devRef .tc (main_v3 : Ref sig .tc), Proc.devRef .tc (main_v4 : Ref sig .tc)} : Finset (DevRef τ sig)) ⊆ S21 by decide
  · exact show ({Proc.devRef .tc (main_arg2 : Ref sig .tc), Proc.devRef .tc (main_v5 : Ref sig .tc)} : Finset (DevRef τ sig)) ⊆ S21 by decide
  · exact show ({Proc.devRef .tc (main_v4 : Ref sig .tc), Proc.devRef .tc (main_v6 : Ref sig .tc)} : Finset (DevRef τ sig)) ⊆ S21 by decide
theorem opsA_fresh : ∀ op ∈ opsA (F := F), op.fresh = ∅ := by
  intro op hop
  simp only [opsA, List.mem_cons, List.not_mem_nil, or_false] at hop
  rcases hop with rfl | rfl | rfl | rfl | rfl | rfl | rfl | rfl | rfl <;> rfl
theorem opsB_bufs : ∀ op ∈ opsB (F := F), op.bufs ⊆ S21 := by
  intro op hop
  simp only [opsB, List.mem_cons, List.not_mem_nil, or_false] at hop
  rcases hop with rfl | rfl | rfl
  · exact show ({Proc.devRef .tc (main_v7 : Ref sig .tc), Proc.devRef .tc (main_v8 : Ref sig .tc)} : Finset (DevRef τ sig)) ⊆ S21 by decide
  · exact show ({Proc.devRef .tc (main_arg1 : Ref sig .tc), Proc.devRef .tc (main_v9 : Ref sig .tc)} : Finset (DevRef τ sig)) ⊆ S21 by decide
  · exact show ({Proc.devRef .tc (main_arg5 : Ref sig .tc), Proc.devRef .tc (main_v10 : Ref sig .tc)} : Finset (DevRef τ sig)) ⊆ S21 by decide
theorem opsB_fresh : ∀ op ∈ opsB (F := F), op.fresh = ∅ := by
  intro op hop
  simp only [opsB, List.mem_cons, List.not_mem_nil, or_false] at hop
  rcases hop with rfl | rfl | rfl <;> rfl
theorem opsC_bufs : ∀ op ∈ opsC (F := F), op.bufs ⊆ S21 := by
  intro op hop
  simp only [opsC, List.mem_cons, List.not_mem_nil, or_false] at hop
  subst hop; exact show ({Proc.devRef .tc (main_v11 : Ref sig .tc), Proc.devRef .tc (main_v12 : Ref sig .tc)} : Finset (DevRef τ sig)) ⊆ S21 by decide
theorem opsC_fresh : ∀ op ∈ opsC (F := F), op.fresh = ∅ := by
  intro op hop
  simp only [opsC, List.mem_cons, List.not_mem_nil, or_false] at hop
  subst hop; rfl

theorem held_V2 (d : Dev nD) : (StableHlo.held (T d) S21 (V2 m d) : sProp 𝕄)
    = iprop((iLoc d ↦{fullShare} num m d) ∗ (xLoc d ↦{fullShare} tab m d) ∗ (oLoc d ↦{fullShare} rowsOf d (tab m d) (num m d)) ∗ StableHlo.held (T d) S18 (V1 m d)) := by
  rw [held_21, V2_o, V2_ne m d (show i' ≠ o' by decide), V2_ne m d (show x' ≠ o' by decide)]
  have h : (StableHlo.held (T d) S18 (V2 m d) : sProp 𝕄) = StableHlo.held (T d) S18 (V1 m d) := by
    unfold StableHlo.held
    exact bigSep_congr fun b hb => by rw [V2_ne m d (fun e => absurd (e ▸ hb) (show o' ∉ S18 by decide))]
  rw [h]
  rfl

end Cert.Proof.Gather
-- ==== Proof.Main.lean ====
/-
  @main's run: the second call under the SparseCore program's handlers, the host operations around the two calls, and
  how the whole program ends.
-/
module

public import proofs.«01_k».proof.Proof.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The second call -/

/-- The waits the TensorCore may have recorded once the first call has ended. -/
def past (d : Dev nD) : Set (SemLoc sig × HIx 1) := {p | (K (F := F)).lev (T d, p.1) p.2 ≤ 8 * SparseCore.Cfg.Blocks.fst (Q := 1) (N := 1) 1}

theorem share_full (R : Set (SemLoc sig × HIx 1)) (B : Ins F) (d : Dev nD) : ∀ w, (rdat R B d).share w = fullShare
  | 0 => rfl
  | 1 => rfl
  | 2 => rfl
  | 3 => rfl
  | 4 => rfl
  | 5 => rfl
  | 6 => rfl
  | ⟨_ + 7, h⟩ => absurd h (Nat.not_lt.2 (Nat.le_add_left _ _))

/-- The second call's arrays, one by one. -/
theorem arrays_pts (R : Set (SemLoc sig × HIx 1)) (B : Ins F) (d : Dev nD) :
    ((rdat R B d).arrays (rdat R B d).A : sProp 𝕄) = iprop((at' d main_v9 ↦{fullShare} B.xl) ∗ (at' d main_arg0 ↦{fullShare} B.xq) ∗ (at' d main_arg3 ↦{fullShare} B.wq) ∗ (at' d main_arg4 ↦{fullShare} B.wk) ∗ (at' d main_v8 ↦{fullShare} B.rows) ∗ (at' d main_v10 ↦{fullShare} B.labs) ∗ (at' d main_v11 ↦{fullShare} B.out)) :=
  (Pipeline.RDat.arrays_eq pcfgs noTab (rdats (fun _ => R) (fun _ => B)) (p := 0) d arr_whole1 (share_full R B d) (rdat R B d).A).trans
    (bigSep_W1 _)

theorem arraysAt_each (R : Set (SemLoc sig × HIx 1)) (B : Ins F) (d : Dev nD) :
    ((rdat R B d).arraysAt cfg1.N : sProp 𝕄) = iprop((∃ X : Buf (Elt F) (at' d main_v9), ⌜(rdat R B d).ArrAt 0 cfg1.N X⌝ ∗ at' d main_v9 ↦{fullShare} X) ∗ (∃ X : Buf (Elt F) (at' d main_arg0), ⌜(rdat R B d).ArrAt 1 cfg1.N X⌝ ∗ at' d main_arg0 ↦{fullShare} X) ∗ (∃ X : Buf (Elt F) (at' d main_arg3), ⌜(rdat R B d).ArrAt 2 cfg1.N X⌝ ∗ at' d main_arg3 ↦{fullShare} X) ∗ (∃ X : Buf (Elt F) (at' d main_arg4), ⌜(rdat R B d).ArrAt 3 cfg1.N X⌝ ∗ at' d main_arg4 ↦{fullShare} X) ∗ (∃ X : Buf (Elt F) (at' d main_v8), ⌜(rdat R B d).ArrAt 4 cfg1.N X⌝ ∗ at' d main_v8 ↦{fullShare} X) ∗ (∃ X : Buf (Elt F) (at' d main_v10), ⌜(rdat R B d).ArrAt 5 cfg1.N X⌝ ∗ at' d main_v10 ↦{fullShare} X) ∗ (∃ X : Buf (Elt F) (at' d main_v11), ⌜(rdat R B d).ArrAt 6 cfg1.N X⌝ ∗ at' d main_v11 ↦{fullShare} X)) :=
  (Pipeline.RDat.arraysAt_eq pcfgs noTab (rdats (fun _ => R) (fun _ => B)) (p := 0) d arr_whole1 (share_full R B d) cfg1.N).trans
    (bigSep_W1 _)

/-- They are left as they were, the result at the mean. -/
theorem arraysAt_pts (R : Set (SemLoc sig × HIx 1)) (B : Ins F) (d : Dev nD) :
    ((rdat R B d).arraysAt cfg1.N : sProp 𝕄) ⊢ iprop((at' d main_v9 ↦{fullShare} B.xl) ∗ (at' d main_arg0 ↦{fullShare} B.xq) ∗ (at' d main_arg3 ↦{fullShare} B.wq) ∗ (at' d main_arg4 ↦{fullShare} B.wk) ∗ (at' d main_v8 ↦{fullShare} B.rows) ∗ (at' d main_v10 ↦{fullShare} B.labs) ∗ ∃ J, (at' d main_v11 ↦{fullShare} B.mean J)) := by
  refine (Entails.of_eq (arraysAt_each R B d)).trans ?_
  iintro ⟨⟨%G0, %h0, A0⟩, ⟨%G1, %h1, A1⟩, ⟨%G2, %h2, A2⟩, ⟨%G3, %h3, A3⟩, ⟨%G4, %h4, A4⟩, ⟨%G5, %h5, A5⟩, ⟨%G6, %h6, A6⟩⟩
  obtain rfl : G0 = B.xl := (congrFun ((rdat R B d).ArrAt_in 0 rfl cfg1.N) G0).mp h0
  obtain rfl : G1 = B.xq := (congrFun ((rdat R B d).ArrAt_in 1 rfl cfg1.N) G1).mp h1
  obtain rfl : G2 = B.wq := (congrFun ((rdat R B d).ArrAt_in 2 rfl cfg1.N) G2).mp h2
  obtain rfl : G3 = B.wk := (congrFun ((rdat R B d).ArrAt_in 3 rfl cfg1.N) G3).mp h3
  obtain rfl : G4 = B.rows := (congrFun ((rdat R B d).ArrAt_in 4 rfl cfg1.N) G4).mp h4
  obtain rfl : G5 = B.labs := (congrFun ((rdat R B d).ArrAt_in 5 rfl cfg1.N) G5).mp h5
  obtain ⟨J, hJ⟩ := arrAt_6 R B d G6 h6
  isplitl [A0]; · iexact A0
  isplitl [A1]; · iexact A1
  isplitl [A2]; · iexact A2
  isplitl [A3]; · iexact A3
  isplitl [A4]; · iexact A4
  isplitl [A5]; · iexact A5
  iexists J
  rw [← hJ]
  iexact A6

set_option maxHeartbeats 1000000 in
theorem region (d : Dev nD) (Q : PUnit → sProp 𝕄) :
    iprop((iprop(boundary (d.tc : Thread nD τ) ∗ (seg (past (F := F)) (ins m) (K (F := F)).L (K (F := F)).lev).post d) -∗ Q ⟨⟩)
        ∗ boundary (d.tc : Thread nD τ) ∗ (seg (past (F := F)) (ins m) (K (F := F)).L (K (F := F)).lev).pre d ∗ levAts (K (F := F)).L (K (F := F)).lev ∗ G d)
      ⊢ wp frame (wpE ((K (F := F)).defs (D (F := F))) 𝒱 (SparseCore.T d) none) Set.univ (callB (F := F)) Q := by
  iintro ⟨Hk, Hb, Hp, Hl, Hg, Ht⟩
  iapply ((K (F := F)).wp_liftProg (D (F := F)) 𝒱 (SparseCore.T d) Set.univ none
    (Prog.lift (.customCall (Pipeline.entry (0 : Fin 1)) ()) : Prog (TpuEff nD τ sig (Elt F) (ΛP (F := F)) .tc) PUnit) Q)
  iapply (Pipeline.RDat.RegionSeg.wp pcfgs noTab (rdats (past (F := F)) (ins m)) none cellOf_inj EP defs₀ 𝒱₀
    (K (F := F)).L (K (F := F)).lev (seg (past (F := F)) (ins m) (K (F := F)).L (K (F := F)).lev) d none (fun _ h => nomatch h) Prog.ret Q)
  isplitl [Hk]
  · iintro H
    rw [show (Prog.ret ⟨⟩ : Prog (TpuEff nD τ sig (Elt F) (ΛP (F := F)) .tc) PUnit) = pure ⟨⟩ from rfl, wp_pure]
    imodintro
    iapply Hk; iexact H
  isplitl [Hb]; · iexact Hb
  isplitl [Hp]; · iexact Hp
  isplitl [Hl]; · iexact Hl
  isplitl [Hg]; · iexact Hg
  iexact Ht

/-- What @main leaves of its arrays: the arguments as they were, the result from the mean. -/
def FIN (d : Dev nD) : sProp 𝕄 :=
  iprop(∃ J, (at' d main_arg0 ↦{fullShare} m (at' d main_arg0)) ∗ (at' d main_arg1 ↦{fullShare} m (at' d main_arg1)) ∗ (at' d main_arg2 ↦{fullShare} m (at' d main_arg2)) ∗ (at' d main_arg3 ↦{fullShare} m (at' d main_arg3)) ∗ (at' d main_arg4 ↦{fullShare} m (at' d main_arg4)) ∗ (at' d main_arg5 ↦{fullShare} m (at' d main_arg5)) ∗ (at' d main_v12 ↦{fullShare} V5 m d J (rf main_v12)))

theorem fin_of_held (d : Dev nD) (J : ℕ → FVec F S2560x100 .f32) :
    (StableHlo.held (d.tc : Thread nD τ) S21 (StableHlo.after opsC (V4 m d J)) : sProp 𝕄) ⊢ FIN m d := by
  rw [show StableHlo.after opsC (V4 m d J) = V5 m d J from rfl]
  rw [held_ends, V5_arg0, V5_arg1, V5_arg2, V5_arg3, V5_arg4, V5_arg5]
  unfold FIN
  iintro ⟨A0, A1, A2, A3, A4, A5, A6, -⟩
  iexists J
  isplitl [A0]; · iexact A0
  isplitl [A1]; · iexact A1
  isplitl [A2]; · iexact A2
  isplitl [A3]; · iexact A3
  isplitl [A4]; · iexact A4
  isplitl [A5]; · iexact A5
  iexact A6

theorem held_V4 (d : Dev nD) (J : ℕ → FVec F S2560x100 .f32) :
    (StableHlo.held (T d) S21 (V4 m d J) : sProp 𝕄)
      = iprop((at' d main_v9 ↦{fullShare} (ins m d).xl) ∗ (at' d main_arg0 ↦{fullShare} (ins m d).xq) ∗ (at' d main_arg3 ↦{fullShare} (ins m d).wq) ∗ (at' d main_arg4 ↦{fullShare} (ins m d).wk) ∗ (at' d main_v8 ↦{fullShare} (ins m d).rows) ∗ (at' d main_v10 ↦{fullShare} (ins m d).labs) ∗ (at' d main_v11 ↦{fullShare} (ins m d).mean J) ∗ StableHlo.held (T d) S14 (V3 m d)) := by
  rw [held_region, V4_v11, V4_ne m d J (b := rf main_v9) (by decide), V4_ne m d J (b := rf main_arg0) (by decide), V4_ne m d J (b := rf main_arg3) (by decide), V4_ne m d J (b := rf main_arg4) (by decide), V4_ne m d J (b := rf main_v8) (by decide), V4_ne m d J (b := rf main_v10) (by decide),
    StableHlo.held_congr (T d) (S := S14) (V := V4 m d J) (V' := V3 m d) fun b hb => V4_ne m d J fun h => absurd (h ▸ hb) (by decide)]
  rfl

theorem pre_of (d : Dev nD) :
    iprop((∃ W, ⌜(K (F := F)).WBelow (T d) W (8 * SparseCore.Cfg.Blocks.fst (Q := 1) (N := 1) 1)⌝ ∗ owes (T d) ((K (F := F)).Otc d 1) W)
        ∗ (at' d main_v9 ↦{fullShare} V3 m d (rf main_v9)) ∗ (at' d main_arg0 ↦{fullShare} V3 m d (rf main_arg0)) ∗ (at' d main_arg3 ↦{fullShare} V3 m d (rf main_arg3)) ∗ (at' d main_arg4 ↦{fullShare} V3 m d (rf main_arg4)) ∗ (at' d main_v8 ↦{fullShare} V3 m d (rf main_v8)) ∗ (at' d main_v10 ↦{fullShare} V3 m d (rf main_v10)) ∗ (at' d main_v11 ↦{fullShare} V3 m d (rf main_v11)))
      ⊢ ((seg (past (F := F)) (ins m) (K (F := F)).L (K (F := F)).lev).pre d : sProp 𝕄) := by
  show _ ⊢ iprop((rdat (past d) (ins m d) d).arrays (rdat (past d) (ins m d) d).A ∗ (rdat (past d) (ins m d) d).owesAt none 0)
  rw [arrays_pts]
  iintro ⟨⟨%W, %hW, HO⟩, A0, A1, A2, A3, A4, A5, A6⟩
  isplitr [HO]
  · isplitl [A0]; · iexact A0
    isplitl [A1]; · iexact A1
    isplitl [A2]; · iexact A2
    isplitl [A3]; · iexact A3
    isplitl [A4]; · iexact A4
    isplitl [A5]; · iexact A5
    iexact A6
  unfold Pipeline.RDat.owesAt Pipeline.owesWithin
  iexists W
  isplitr
  · ipureintro
    exact fun p hp => Or.inl (hW p hp)
  rw [show (K (F := F)).Otc d 1 = 0 from Finset.sum_eq_zero fun q _ => if_neg (by omega)]
  iexact HO

theorem of_post (d : Dev nD) :
    ((seg (past (F := F)) (ins m) (K (F := F)).L (K (F := F)).lev).post d : sProp 𝕄)
      ⊢ iprop((∃ W, ⌜(K (F := F)).WBelow (T d) W (8 * SparseCore.Cfg.Blocks.fst (Q := 1) (N := 1) 1)⌝ ∗ owes (T d) ((K (F := F)).Otc d 1) W)
        ∗ (at' d main_v9 ↦{fullShare} (ins m d).xl) ∗ (at' d main_arg0 ↦{fullShare} (ins m d).xq) ∗ (at' d main_arg3 ↦{fullShare} (ins m d).wq) ∗ (at' d main_arg4 ↦{fullShare} (ins m d).wk) ∗ (at' d main_v8 ↦{fullShare} (ins m d).rows) ∗ (at' d main_v10 ↦{fullShare} (ins m d).labs) ∗ ∃ J, (at' d main_v11 ↦{fullShare} (ins m d).mean J)) := by
  show iprop((rdat (past d) (ins m d) d).arraysAt cfg1.N ∗ (rdat (past d) (ins m d) d).owesAt none (Fin.last cfg1.N)) ⊢ _
  unfold Pipeline.RDat.owesAt Pipeline.owesWithin
  iintro ⟨HA, ⟨%W, %hW, HO⟩⟩
  isplitl [HO]
  · iexists W
    isplitr
    · ipureintro
      intro p hp
      rcases hW hp with h | ⟨w, s, rfl⟩
      · exact h
      · exact Nat.zero_le _
    rw [show (K (F := F)).Otc d 1 = 0 from Finset.sum_eq_zero fun q _ => if_neg (by omega)]
    iexact HO
  iapply (arraysAt_pts (past d) (ins m d) d) $$ HA

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) S21 (V0 m d) from unscoped_held d (V0 m d), main_eq]
  iintro ⟨#Hctx, Hst, ⟨Hb, Hheld, Hts, -⟩, HG⟩
  ihave #Hlev := ((K (F := F)).ctx_levAts (EH := EH) (P := P m) κ) $$ Hctx
  iapply (StableHlo.wp_seq 𝒱 none Set.univ d S21 _ (opsA (F := F)) opsA_bufs opsA_fresh (V0 m d)) $$ [Hb Hheld]
  · isplitl [Hb]; · iexact Hb
    iexact Hheld
  iintro ⟨Hb, Hheld⟩
  ihave Hh := (Entails.of_eq (show (StableHlo.held (T d) S21 (StableHlo.after opsA (V0 m d)) : sProp 𝕄) = _ from held_21 d (V1 m d))) $$ Hheld
  icases Hh with ⟨Hi, Hx, Ho, Hrest⟩
  rw [wp_bind]
  iapply ((K (F := F)).wp_run (D (F := F)) 𝒱 (EH := EH) (P := P m) κ d 0) $$ [Hst Hi Hx Ho Hb Hts Hrest HG]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq m d)) $$ Hdn
  icases Hdn' with ⟨Hi, Hx, Ho⟩
  iapply (StableHlo.wp_seq 𝒱 none Set.univ d S21 _ (opsB (F := F)) opsB_bufs opsB_fresh (V2 m d)) $$ [Hb Hi Hx Ho Hrest]
  · isplitl [Hb]; · iexact Hb
    rw [held_V2]
    isplitl [Hi]; · iexact Hi
    isplitl [Hx]; · iexact Hx
    isplitl [Ho]; · iexact Ho
    iexact Hrest
  iintro ⟨Hb, Hheld⟩
  ihave Hh := (Entails.of_eq (show (StableHlo.held (T d) S21 (StableHlo.after opsB (V2 m d)) : sProp 𝕄) = _ from held_region d (V3 m d))) $$ Hheld
  icases Hh with ⟨A0, A1, A2, A3, A4, A5, A6, Hrest⟩
  unfold SparseCore.Cfg.tcSt
  icases Hst with ⟨HW, Hst⟩
  rw [wp_bind]
  iapply (region m d) $$ [Hb HW A0 A1 A2 A3 A4 A5 A6 Hrest Hst Hts HG]
  isplitr [Hb HW A0 A1 A2 A3 A4 A5 A6 HG]
  · iintro ⟨Hb, Hp⟩
    ihave Hp' := (of_post m d) $$ Hp
    icases Hp' with ⟨HW, A0, A1, A2, A3, A4, A5, %J, A6⟩
    iapply (StableHlo.wp_seq 𝒱 none Set.univ d S21 _ (opsC (F := F)) opsC_bufs opsC_fresh (V4 m d J)) $$ [Hb A0 A1 A2 A3 A4 A5 A6 Hrest]
    · isplitl [Hb]; · iexact Hb
      rw [held_V4]
      isplitl [A0]; · iexact A0
      isplitl [A1]; · iexact A1
      isplitl [A2]; · iexact A2
      isplitl [A3]; · iexact A3
      isplitl [A4]; · iexact A4
      isplitl [A5]; · iexact A5
      isplitl [A6]; · iexact A6
      iexact Hrest
    iintro ⟨Hb, Hheld⟩
    rw [wp_pure]; imodintro
    isplitl [HW Hst]
    · isplitl [HW]; · iexact HW
      iexact Hst
    isplitl [Hheld]
    · iapply (fin_of_held m d J) $$ Hheld
    isplitl [Hb] <;> iassumption
  isplitl [Hb]; · iexact Hb
  isplitl [HW A0 A1 A2 A3 A4 A5 A6]
  · iapply (pre_of m d)
    isplitl [HW]; · iexact HW
    isplitl [A0]; · iexact A0
    isplitl [A1]; · iexact A1
    isplitl [A2]; · iexact A2
    isplitl [A3]; · iexact A3
    isplitl [A4]; · iexact A4
    isplitl [A5]; · iexact A5
    iexact A6
  isplitr; · iexact Hlev
  iexact HG

def fq (d : Dev nD) (s' : Phys nD τ sig (Elt F)) : Prop :=
  s'.mem.mem (at' d main_arg0) = m (at' d main_arg0) ∧ s'.mem.mem (at' d main_arg1) = m (at' d main_arg1) ∧ s'.mem.mem (at' d main_arg2) = m (at' d main_arg2) ∧ s'.mem.mem (at' d main_arg3) = m (at' d main_arg3) ∧ s'.mem.mem (at' d main_arg4) = m (at' d main_arg4) ∧ s'.mem.mem (at' d main_arg5) = m (at' d main_arg5) ∧ ∃ J, s'.mem.mem (at' d main_v12) = V5 m d J (rf main_v12)

set_option maxRecDepth 16384 in
theorem hfin (d : Dev nD) (s' : Phys nD τ sig (Elt F)) : iprop(FIN m d ∗ SI s') ⊢ (⌜fq m d s'⌝ : sProp 𝕄) := by
  unfold FIN
  iintro ⟨⟨%J, A0, A1, A2, A3, A4, A5, A6⟩, HSI⟩
  ihave H := (persistent_entails_right (SI_pointsTo_agree (st := s') (ℓ := at' d main_arg0) (I := Finset.univ) (q := fullShare) (f := m (at' d main_arg0)))) $$ [HSI A0]
  · isplitl [HSI] <;> iassumption
  icases H with ⟨%h0, HSI, -⟩
  ihave H := (persistent_entails_right (SI_pointsTo_agree (st := s') (ℓ := at' d main_arg1) (I := Finset.univ) (q := fullShare) (f := m (at' d main_arg1)))) $$ [HSI A1]
  · isplitl [HSI] <;> iassumption
  icases H with ⟨%h1, HSI, -⟩
  ihave H := (persistent_entails_right (SI_pointsTo_agree (st := s') (ℓ := at' d main_arg2) (I := Finset.univ) (q := fullShare) (f := m (at' d main_arg2)))) $$ [HSI A2]
  · isplitl [HSI] <;> iassumption
  icases H with ⟨%h2, HSI, -⟩
  ihave H := (persistent_entails_right (SI_pointsTo_agree (st := s') (ℓ := at' d main_arg3) (I := Finset.univ) (q := fullShare) (f := m (at' d main_arg3)))) $$ [HSI A3]
  · isplitl [HSI] <;> iassumption
  icases H with ⟨%h3, HSI, -⟩
  ihave H := (persistent_entails_right (SI_pointsTo_agree (st := s') (ℓ := at' d main_arg4) (I := Finset.univ) (q := fullShare) (f := m (at' d main_arg4)))) $$ [HSI A4]
  · isplitl [HSI] <;> iassumption
  icases H with ⟨%h4, HSI, -⟩
  ihave H := (persistent_entails_right (SI_pointsTo_agree (st := s') (ℓ := at' d main_arg5) (I := Finset.univ) (q := fullShare) (f := m (at' d main_arg5)))) $$ [HSI A5]
  · isplitl [HSI] <;> iassumption
  icases H with ⟨%h5, HSI, -⟩
  ihave H := (SI_pointsTo_agree (st := s') (ℓ := at' d main_v12) (I := Finset.univ) (q := fullShare) (f := V5 m d J (rf main_v12))) $$ [HSI A6]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), J, funext fun i => h6 i (Finset.mem_univ i)⟩

/-- How the program ends: its arguments as they were, the result the mean, every semaphore at zero. -/
def QC : PUnit × MemSt nD τ sig (Elt F) → Prop := fun r =>
  (∀ d : Dev nD, r.2.mem (at' d main_arg0) = m (at' d main_arg0) ∧ r.2.mem (at' d main_arg1) = m (at' d main_arg1) ∧ r.2.mem (at' d main_arg2) = m (at' d main_arg2) ∧ r.2.mem (at' d main_arg3) = m (at' d main_arg3) ∧ r.2.mem (at' d main_arg4) = m (at' d main_arg4) ∧ r.2.mem (at' d main_arg5) = m (at' d main_arg5) ∧ ∃ J, r.2.mem (at' d main_v12) = V5 m d J (rf main_v12)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Gather
-- ==== Proof.Picked.lean ====
/-
  What the gather leaves, as a function of the argument: row `k` is the table's row `min (10 k) 65530`, so every tenth
  row in turn, and past the last of those the last of them again.
-/
module

public import proofs.«01_k».proof.Proof.Launch
public import Idealize.ShloMosaic.Lib.Pointwise.Index

@[expose] public section

noncomputable section

namespace Cert.Proof

open Idealize.ShloMosaic

theorem row_lt (k : ℕ) : min (10 * k) 65530 < 65536 := by omega

/-- Every tenth row of a table of 65536 rows of 256, then the last of these rows again and again, 6656 rows in all. -/
def picked {α : Type} (a : (⟨2, ![65536, 256]⟩ : Shape).Idx → α) : (⟨2, ![6656, 256]⟩ : Shape).Idx → α :=
  fun j => a (ix2 (⟨min (10 * (j 0).val) 65530, row_lt _⟩ : Fin 65536) (j 1 : Fin 256))

namespace Gather

open Cert.KernelIdeal Cert.KernelIdeal.Gen

variable {F : FTy → Type} [FloatOps F] [Named F]
variable (m : (ℓ : Loc nD τ sig) → Buf (Elt F) ℓ)

/-- The table's row of two halves that an element of the result, as a row of 256, comes from. -/
theorem source_eq (j : S6656x256.Idx) (r : Fin 65536) (hr : r.val = min (10 * (j 0 : Fin 6656).val) 65530) (p : Fin 2) (hp : p.val = (j 1 : Fin 256).val / 128)
    (q : Fin 128) (hq : q.val = (j 1 : Fin 256).val % 128) :
    Shape.reshapeEquiv shapeCasts_S65536x256_S65536x2x128 (ix3 r p q : S65536x2x128.Idx)
      = (ix2 (⟨min (10 * (j 0 : Fin 6656).val) 65530, row_lt _⟩ : Fin 65536) (j 1 : Fin 256) : S65536x256.Idx) :=
  Shape.reshapeEquiv_eq_of_rowMajor _ (by
    rw [Shape.rowMajor_val_three, Shape.rowMajor_val_two]
    show min (10 * (j 0 : Fin 6656).val) 65530 * 256 + (j 1 : Fin 256).val = (r.val * 2 + p.val) * 128 + q.val
    omega)

theorem place_eq (j : S6656x256.Idx) : ∃ p : Fin 2, ∃ q : Fin 128, p.val = (j 1 : Fin 256).val / 128 ∧ q.val = (j 1 : Fin 256).val % 128
    ∧ Shape.reshapeEquiv shapeCasts_S6656x2x128_S6656x256 j = (ix3 (j 0 : Fin 6656) p q : S6656x2x128.Idx) := by
  have h1 : (j 1 : Fin 256).val < 256 := (j 1 : Fin 256).isLt
  refine ⟨⟨(j 1 : Fin 256).val / 128, by omega⟩, ⟨(j 1 : Fin 256).val % 128, by omega⟩, rfl, rfl, Shape.reshapeEquiv_eq_of_rowMajor _ ?_⟩
  rw [Shape.rowMajor_val_three, Shape.rowMajor_val_two]
  show ((j 0 : Fin 6656).val * 2 + (j 1 : Fin 256).val / 128) * 128 + (j 1 : Fin 256).val % 128 = (j 0 : Fin 6656).val * 256 + (j 1 : Fin 256).val
  omega

/-- Row `k` of the rows gathered is the table's row at number `k`. -/
theorem rowsOf_at (d : Dev nD) (fx : Buf (Elt F) (xLoc d)) (fi : Buf (Elt F) (iLoc d)) (k : Fin 6656) (p : Fin 2) (q : Fin 128)
    (hk : (fi (ix2 (0 : Fin 1) k : S1x6656.Idx) : BitVec 32).toNat < 65536) :
    rowsOf d fx fi (ix3 k p q : S6656x2x128.Idx) = fx (ix3 (⟨_, hk⟩ : Fin 65536) p q : S65536x2x128.Idx) := by
  unfold rowsOf
  refine congrArg fx (funext fun (b : Fin 3) => ?_)
  have e : ∀ i : S1x6656.Idx, (i 1 : Fin 6656) = k → i = ix2 (0 : Fin 1) k := fun i hi => funext fun (a : Fin 2) => by
    match a with
    | ⟨0, _⟩ => exact Subsingleton.elim (α := Fin 1) _ _
    | ⟨1, _⟩ => exact hi
  match b with
  | ⟨0, _⟩ =>
    refine Fin.ext ?_
    have h : ∀ i : S1x6656.Idx, (i 1 : Fin 6656) = k → (fi i : BitVec 32).toNat % 65536 = (fi (ix2 (0 : Fin 1) k : S1x6656.Idx) : BitVec 32).toNat := fun i hi => by
      rw [e i hi]
      exact Nat.mod_eq_of_lt hk
    exact h _ rfl
  | ⟨1, _⟩ => rfl
  | ⟨2, _⟩ => rfl

/-- The rows gathered, read as rows of 256, are the rows picked from the argument. -/
theorem V3_picked (d : Dev nD) : V3 m d (rf main_v8) = (picked (m (at' d main_arg2) : S65536x256.Idx → Elt F .f32) : S6656x256.Idx → Elt F .f32) := by
  rw [V3_v8]
  refine funext fun (j : S6656x256.Idx) => ?_
  obtain ⟨p, q, hp, hq, hj⟩ := place_eq j
  show rowsOf d (tab m d) (num m d) (Shape.reshapeEquiv shapeCasts_S6656x2x128_S6656x256 j) = _
  rw [hj]
  refine (rowsOf_at d (tab m d) (num m d) (j 0 : Fin 6656) p q (num_lt m d _)).trans ?_
  refine (congrFun (tab_eq m d) _).trans ?_
  refine congrArg (m (at' d main_arg2)) (source_eq j _ ?_ p hp q hq)
  have h := num_at m d (ix2 (0 : Fin 1) (j 0 : Fin 6656))
  exact (congrArg BitVec.toNat h).trans (word_toNat (j 0 : Fin 6656).isLt)

end Gather

end Cert.Proof

end
-- ==== Proof.Maths.lean ====
/-
  The mathematics that the loss needs, apart from any program: the similarity of two label pairs computed two ways, and
  the first sixteen of a row's positives counted two ways.
-/
module

public import Idealize.ShloMosaic.PureOps
public import Idealize.ShloMosaic.PureOps.Ideal
public import Mathlib.Algebra.BigOperators.Fin
public import Mathlib.Tactic.Ring
public import Mathlib.Tactic.FieldSimp
public import Mathlib.Tactic.Positivity
public import Mathlib.Tactic.Linarith

@[expose] public section

noncomputable section

namespace Cert.Proof.Loss

open Idealize.ShloMosaic

/-! ## The literals -/

/-- The smallest divisor of a cosine. -/
def eps : ℝ := 11258999 / 2 ^ 50

/-- The smallest divisor of a label pair in the kernel. -/
def tiny : ℝ := 12379400 / 2 ^ 90

theorem lit_eps : Ideal.ofBits .f32 841731191#32 = ((eps : ℝ) : EReal) := by
  simp [Ideal.ofBits, Ideal.ieee, eps, -EReal.coe_mul]; norm_num

theorem lit_tiny : Ideal.ofBits .f32 507307272#32 = ((tiny : ℝ) : EReal) := by
  simp [Ideal.ofBits, Ideal.ieee, tiny, -EReal.coe_mul]; norm_num

theorem lit_sixteen : Ideal.ofBits .f32 1098907648#32 = ((16 : ℝ) : EReal) := by
  simp [Ideal.ofBits, Ideal.ieee, -EReal.coe_mul]; norm_num

theorem lit_fifty : Ideal.ofBits .f32 1112014848#32 = ((50 : ℝ) : EReal) := by
  simp [Ideal.ofBits, Ideal.ieee, -EReal.coe_mul]; norm_num

theorem lit_top : Ideal.ofBits .f32 2139095040#32 = ⊤ := by
  simp [Ideal.ofBits, Ideal.ieee]

/-! ## The cosine of two pairs -/

/-- As the kernel has it: each pair divided by its length, then the product. -/
def pairK (x0 x1 y0 y1 : EReal) : EReal :=
  max (x0 * Ideal.div 1 (max (Ideal.sqrt (x0 * x0 + x1 * x1)) (Ideal.ofBits .f32 507307272#32))
        * (y0 * Ideal.div 1 (max (Ideal.sqrt (y0 * y0 + y1 * y1)) (Ideal.ofBits .f32 507307272#32)))
      + x1 * Ideal.div 1 (max (Ideal.sqrt (x0 * x0 + x1 * x1)) (Ideal.ofBits .f32 507307272#32))
        * (y1 * Ideal.div 1 (max (Ideal.sqrt (y0 * y0 + y1 * y1)) (Ideal.ofBits .f32 507307272#32))))
    (-(x0 * Ideal.div 1 (max (Ideal.sqrt (x0 * x0 + x1 * x1)) (Ideal.ofBits .f32 507307272#32))
        * (y0 * Ideal.div 1 (max (Ideal.sqrt (y0 * y0 + y1 * y1)) (Ideal.ofBits .f32 507307272#32)))
      + x1 * Ideal.div 1 (max (Ideal.sqrt (x0 * x0 + x1 * x1)) (Ideal.ofBits .f32 507307272#32))
        * (y1 * Ideal.div 1 (max (Ideal.sqrt (y0 * y0 + y1 * y1)) (Ideal.ofBits .f32 507307272#32)))))

/-- As the reference has it: the product divided by the lengths. -/
def pairR (x0 x1 y0 y1 : EReal) : EReal :=
  max (Ideal.div (y0 * x0 + y1 * x1) (max (Ideal.sqrt (x0 * x0 + x1 * x1) * Ideal.sqrt (y0 * y0 + y1 * y1)) (Ideal.ofBits .f32 841731191#32)))
    (-Ideal.div (y0 * x0 + y1 * x1) (max (Ideal.sqrt (x0 * x0 + x1 * x1) * Ideal.sqrt (y0 * y0 + y1 * y1)) (Ideal.ofBits .f32 841731191#32)))

theorem sqrt_real {r : ℝ} (h : 0 ≤ r) : Ideal.sqrt (r : EReal) = ((Real.sqrt r : ℝ) : EReal) := by
  rw [Ideal.sqrt_coe, if_neg (not_lt.mpr h)]

theorem div_real (a : ℝ) {b : ℝ} (h : 0 < b) : Ideal.div (a : EReal) (b : EReal) = ((a / b : ℝ) : EReal) := by
  have h' : (b : EReal) ≠ 0 := by exact_mod_cast h.ne'
  rw [Ideal.div, if_neg h', ← EReal.coe_inv, ← EReal.coe_mul, div_eq_mul_inv]

theorem max_real (a b : ℝ) : max (a : EReal) (b : EReal) = ((max a b : ℝ) : EReal) := (EReal.coe_strictMono.monotone.map_max).symm

theorem eps_pos : 0 < eps := by unfold eps; positivity

theorem tiny_pos : 0 < tiny := by unfold tiny; positivity

theorem tiny_le {a : ℝ} (h : eps ≤ a) : tiny ≤ Real.sqrt a := by
  refine Real.le_sqrt_of_sq_le (le_trans ?_ h)
  unfold tiny eps
  norm_num

theorem eps_le {a b : ℝ} (ha : eps ≤ a) (hb : eps ≤ b) : eps ≤ Real.sqrt a * Real.sqrt b := by
  have h : Real.sqrt eps * Real.sqrt eps ≤ Real.sqrt a * Real.sqrt b :=
    mul_le_mul (Real.sqrt_le_sqrt ha) (Real.sqrt_le_sqrt hb) (Real.sqrt_nonneg _) (Real.sqrt_nonneg _)
  rwa [Real.mul_self_sqrt eps_pos.le] at h

/-- For real pairs, each zero or of a square length of at least `eps`, the two are the same. -/
theorem pair_eq (x0 x1 y0 y1 : ℝ) (hx : x0 * x0 + x1 * x1 = 0 ∨ eps ≤ x0 * x0 + x1 * x1) (hy : y0 * y0 + y1 * y1 = 0 ∨ eps ≤ y0 * y0 + y1 * y1) :
    pairK x0 x1 y0 y1 = pairR x0 x1 y0 y1 := by
  have hx0 : 0 ≤ x0 * x0 + x1 * x1 := add_nonneg (mul_self_nonneg _) (mul_self_nonneg _)
  have hy0 : 0 ≤ y0 * y0 + y1 * y1 := add_nonneg (mul_self_nonneg _) (mul_self_nonneg _)
  have m1 : 0 < max (Real.sqrt (x0 * x0 + x1 * x1)) tiny := lt_max_of_lt_right tiny_pos
  have m2 : 0 < max (Real.sqrt (y0 * y0 + y1 * y1)) tiny := lt_max_of_lt_right tiny_pos
  have m3 : 0 < max (Real.sqrt (x0 * x0 + x1 * x1) * Real.sqrt (y0 * y0 + y1 * y1)) eps := lt_max_of_lt_right eps_pos
  have key : x0 * (1 / max (Real.sqrt (x0 * x0 + x1 * x1)) tiny) * (y0 * (1 / max (Real.sqrt (y0 * y0 + y1 * y1)) tiny))
        + x1 * (1 / max (Real.sqrt (x0 * x0 + x1 * x1)) tiny) * (y1 * (1 / max (Real.sqrt (y0 * y0 + y1 * y1)) tiny))
      = (y0 * x0 + y1 * x1) / max (Real.sqrt (x0 * x0 + x1 * x1) * Real.sqrt (y0 * y0 + y1 * y1)) eps := by
    rcases hx with hx | hx
    · have e0 : x0 = 0 := by nlinarith [mul_self_nonneg x0, mul_self_nonneg x1]
      have e1 : x1 = 0 := by nlinarith [mul_self_nonneg x0, mul_self_nonneg x1]
      subst e0 e1; simp
    rcases hy with hy | hy
    · have e0 : y0 = 0 := by nlinarith [mul_self_nonneg y0, mul_self_nonneg y1]
      have e1 : y1 = 0 := by nlinarith [mul_self_nonneg y0, mul_self_nonneg y1]
      subst e0 e1; simp
    rw [max_eq_left (tiny_le hx), max_eq_left (tiny_le hy), max_eq_left (eps_le hx hy)]
    have p1 : Real.sqrt (x0 * x0 + x1 * x1) ≠ 0 := (lt_of_lt_of_le tiny_pos (tiny_le hx)).ne'
    have p2 : Real.sqrt (y0 * y0 + y1 * y1) ≠ 0 := (lt_of_lt_of_le tiny_pos (tiny_le hy)).ne'
    field_simp
  unfold pairK pairR
  have one : (1 : EReal) = ((1 : ℝ) : EReal) := rfl
  rw [lit_eps, lit_tiny, one]
  simp only [← EReal.coe_mul, ← EReal.coe_add]
  rw [sqrt_real hx0, sqrt_real hy0]
  simp only [← EReal.coe_mul, max_real]
  rw [div_real _ m1, div_real _ m2, div_real _ m3]
  simp only [← EReal.coe_mul, ← EReal.coe_add, ← EReal.coe_neg, max_real]
  rw [key]

theorem sq_top {x0 x1 : EReal} (h : x0 = ⊤ ∨ x0 = ⊥) : x0 * x0 + x1 * x1 = ⊤ := by
  have e : x0 * x0 = ⊤ := by rcases h with rfl | rfl <;> rfl
  rw [e]
  refine EReal.top_add_of_ne_bot fun hb => ?_
  induction x1 using EReal.rec with
  | bot => exact absurd hb (by decide)
  | coe r => exact EReal.coe_ne_bot (r * r) ((EReal.coe_mul r r).trans hb)
  | top => exact absurd hb (by decide)

/-- A pair that holds an infinity is far from every real one, in both. -/
theorem pair_far (x0 x1 : EReal) (y0 y1 : ℝ) (hx : x0 * x0 + x1 * x1 = ⊤) : pairK x0 x1 y0 y1 = pairR x0 x1 y0 y1 := by
  have hK : pairK x0 x1 y0 y1 = 0 := by
    unfold pairK
    rw [hx]
    have e : Ideal.div 1 (max (Ideal.sqrt ⊤) (Ideal.ofBits .f32 507307272#32)) = 0 := by
      show Ideal.div 1 (max ⊤ _) = 0
      rw [max_eq_left le_top]
      unfold Ideal.div
      rw [if_neg EReal.top_ne_zero, EReal.inv_top, mul_zero]
    simp only [e, mul_zero, zero_mul, add_zero, neg_zero, max_self]
  have hR : Ideal.div ((y0 : EReal) * x0 + (y1 : EReal) * x1) (max (Ideal.sqrt (x0 * x0 + x1 * x1) * Ideal.sqrt ((y0 : EReal) * y0 + (y1 : EReal) * y1)) (Ideal.ofBits .f32 841731191#32)) = 0 := by
    have hy0 : 0 ≤ y0 * y0 + y1 * y1 := add_nonneg (mul_self_nonneg _) (mul_self_nonneg _)
    rw [hx, lit_eps, ← EReal.coe_mul, ← EReal.coe_mul, ← EReal.coe_add, sqrt_real hy0]
    by_cases h : y0 * y0 + y1 * y1 = 0
    · have h0 : y0 = 0 := by nlinarith [mul_self_nonneg y0, mul_self_nonneg y1]
      have h1 : y1 = 0 := by nlinarith [mul_self_nonneg y0, mul_self_nonneg y1]
      subst h0; subst h1
      have e0 : (eps : EReal) ≠ 0 := EReal.coe_ne_zero.mpr (ne_of_gt eps_pos)
      simp only [EReal.coe_zero, zero_mul, add_zero, mul_zero, Real.sqrt_zero]
      rw [max_eq_right (EReal.coe_nonneg.mpr eps_pos.le)]
      unfold Ideal.div
      rw [if_neg e0, zero_mul]
    · have hp : 0 < Real.sqrt (y0 * y0 + y1 * y1) := Real.sqrt_pos.mpr (lt_of_le_of_ne hy0 (Ne.symm h))
      have e : Ideal.sqrt ⊤ * ((Real.sqrt (y0 * y0 + y1 * y1) : ℝ) : EReal) = ⊤ := EReal.top_mul_coe_of_pos hp
      rw [e, max_eq_left le_top]
      unfold Ideal.div
      rw [if_neg EReal.top_ne_zero, EReal.inv_top, mul_zero]
  rw [hK]
  unfold pairR
  rw [hR, neg_zero, max_self]

/-- The two agree of a pair of any values and a real one, if the squares of each add up to zero or to `eps` at least. -/
theorem pair_same (x0 x1 : EReal) (y0 y1 : ℝ) (hx : x0 * x0 + x1 * x1 = 0 ∨ Ideal.ofBits .f32 841731191#32 ≤ x0 * x0 + x1 * x1)
    (hy : (y0 : EReal) * y0 + (y1 : EReal) * y1 = 0 ∨ Ideal.ofBits .f32 841731191#32 ≤ (y0 : EReal) * y0 + (y1 : EReal) * y1) :
    pairK x0 x1 y0 y1 = pairR x0 x1 y0 y1 := by
  by_cases h0 : x0 = ⊤ ∨ x0 = ⊥
  · exact pair_far x0 x1 y0 y1 (sq_top h0)
  by_cases h1 : x1 = ⊤ ∨ x1 = ⊥
  · exact pair_far x0 x1 y0 y1 ((add_comm _ _).trans (sq_top h1))
  obtain ⟨h0a, h0b⟩ := not_or.mp h0
  obtain ⟨h1a, h1b⟩ := not_or.mp h1
  lift x0 to ℝ using ⟨h0a, h0b⟩
  lift x1 to ℝ using ⟨h1a, h1b⟩
  have hr : ∀ u v : ℝ, ((u : EReal) * u + (v : EReal) * v = 0 ∨ Ideal.ofBits .f32 841731191#32 ≤ (u : EReal) * u + (v : EReal) * v) → u * u + v * v = 0 ∨ eps ≤ u * u + v * v := by
    intro u v h
    rw [lit_eps, ← EReal.coe_mul, ← EReal.coe_mul, ← EReal.coe_add] at h
    exact h.imp EReal.coe_eq_zero.mp EReal.coe_le_coe_iff.mp
  exact pair_eq x0 x1 y0 y1 (hr _ _ hx) (hr _ _ hy)

/-! ## The first sixteen -/

section Select

variable (p : ℕ → Prop) [DecidablePred p]

/-- How many of the numbers below `n` are positives. -/
def before (n : ℕ) : ℕ := ((Finset.range n).filter p).card

/-- A positive among the first sixteen. -/
def early (s : ℕ) : Prop := p s ∧ before p s < 16

instance : DecidablePred (early p) := fun s => inferInstanceAs (Decidable (p s ∧ before p s < 16))

/-- How many of those are below `n`. -/
def taken (n : ℕ) : ℕ := ((Finset.range n).filter (early p)).card

theorem before_succ (n : ℕ) : before p (n + 1) = before p n + if p n then 1 else 0 := by
  unfold before
  rw [Finset.range_add_one, Finset.filter_insert]
  split
  · rw [Finset.card_insert_of_notMem (by simp)]
  · rfl

theorem taken_succ (n : ℕ) : taken p (n + 1) = taken p n + if early p n then 1 else 0 := by
  unfold taken
  rw [Finset.range_add_one, Finset.filter_insert]
  split
  · rw [Finset.card_insert_of_notMem (by simp)]
  · rfl

theorem taken_eq (n : ℕ) : taken p n = min 16 (before p n) := by
  induction n with
  | zero => rfl
  | succ n ih =>
    rw [taken_succ, before_succ, ih]
    by_cases h : p n <;> by_cases h' : before p n < 16 <;> simp [early, h, h'] <;> omega

/-- Counting on from `a`. -/
theorem before_add (a n : ℕ) : before p (a + n) = before p a + before (fun j => p (a + j)) n := by
  induction n with
  | zero => simp [before]
  | succ n ih => rw [← Nat.add_assoc, before_succ, before_succ, ih, Nat.add_assoc]

/-- A chunk's test: with `taken p a` counted so far, the positive `a + j` is taken if the positives of the chunk before it leave room. -/
theorem early_iff (a j : ℕ) : early p (a + j) ↔ p (a + j) ∧ taken p a + before (fun j => p (a + j)) j < 16 := by
  unfold early
  rw [before_add, taken_eq]
  constructor <;> rintro ⟨h, h'⟩ <;> exact ⟨h, by omega⟩

/-- With sixteen taken no more are. -/
theorem not_early {a s : ℕ} (h : 16 ≤ taken p a) (hs : a ≤ s) : ¬ early p s := by
  obtain ⟨j, rfl⟩ := Nat.exists_eq_add_of_le hs
  rw [early_iff]
  rintro ⟨_, h'⟩
  omega

end Select

/-- The order in which the reference goes through the numbers: first the positives, each kind in its own order. -/
def key (n : ℕ) (p : Fin n → Prop) [DecidablePred p] (s : Fin n) : ℕ := if p s then s.val else n + s.val

theorem key_inj {n : ℕ} (p : Fin n → Prop) [DecidablePred p] : Function.Injective (key n p) := by
  intro s t h
  unfold key at h
  split at h <;> split at h <;> refine Fin.ext ?_ <;> omega

/-- Where an increasing order of the keys puts a number: behind as many as have a smaller key. -/
theorem place_eq_card {n : ℕ} (k : Fin n → ℕ) (σ : Fin n → Fin n) (hσ : Function.Bijective σ) (hord : ∀ i j : Fin n, i < j → k (σ i) < k (σ j))
    (i : Fin n) : i.val = (Finset.univ.filter fun t => k t < k (σ i)).card := by
  have h : (Finset.univ.filter fun t => k t < k (σ i)) = (Finset.Iio i).image σ := by
    ext t
    obtain ⟨j, rfl⟩ := hσ.2 t
    simp only [Finset.mem_filter, Finset.mem_univ, true_and, Finset.mem_image, Finset.mem_Iio]
    constructor
    · intro hlt
      refine ⟨j, ?_, rfl⟩
      rcases lt_trichotomy j i with h | h | h
      · exact h
      · subst h; exact absurd hlt (lt_irrefl _)
      · exact absurd (hord i j h) (not_lt.mpr hlt.le)
    · rintro ⟨j', hj', e⟩
      rw [← hσ.1 e]
      exact hord _ _ hj'
  rw [h, Finset.card_image_of_injective _ hσ.1, Fin.card_Iio]

/-- The first sixteen in that order, with the positives' terms alone, are the first sixteen positives. -/
theorem sum_first {n : ℕ} (hn : 16 ≤ n) (p : ℕ → Prop) [DecidablePred p] (σ : Fin n → Fin n) (hσ : Function.Bijective σ)
    (hord : ∀ i j : Fin n, i < j → key n (fun s => p s.val) (σ i) < key n (fun s => p s.val) (σ j)) (f : Fin n → EReal) :
    (∑ i : Fin 16, if p (σ (i.castLE hn)).val then f (σ (i.castLE hn)) else 0) = ∑ s : Fin n, if early p s.val then f s else 0 := by
  classical
  have h1 : (∑ i : Fin 16, if p (σ (i.castLE hn)).val then f (σ (i.castLE hn)) else 0)
      = ∑ i : Fin n, if i.val < 16 ∧ p (σ i).val then f (σ i) else 0 := by
    rw [← Finset.sum_filter_add_sum_filter_not Finset.univ (fun i : Fin n => i.val < 16)]
    rw [Finset.sum_eq_zero (s := Finset.univ.filter fun i : Fin n => ¬ i.val < 16) (fun i hi => if_neg fun h => (Finset.mem_filter.mp hi).2 h.1), add_zero]
    refine Finset.sum_bij (fun i _ => i.castLE hn) (fun i _ => ?_) (fun i _ j _ h => ?_) (fun j hj => ?_) (fun i _ => ?_)
    · exact Finset.mem_filter.mpr ⟨Finset.mem_univ _, i.isLt⟩
    · exact Fin.castLE_injective hn h
    · exact ⟨⟨j.val, (Finset.mem_filter.mp hj).2⟩, Finset.mem_univ _, rfl⟩
    · have hi : (i.castLE hn).val < 16 := i.isLt
      simp only [hi, true_and]
  rw [h1]
  refine (Function.Bijective.sum_comp hσ (fun s : Fin n => if early p s.val then f s else 0) ▸ ?_)
  refine Finset.sum_congr rfl fun i _ => ?_
  by_cases hp : p (σ i).val
  · have hc : i.val = before p (σ i).val := by
      rw [place_eq_card _ σ hσ hord i]
      unfold before
      refine Finset.card_bij (fun t _ => t.val) (fun t ht => ?_) (fun t _ u _ h => Fin.ext h) (fun v hv => ?_)
      · have ht' := (Finset.mem_filter.mp ht).2
        have hl := t.isLt
        have hl' := (σ i).isLt
        unfold key at ht'
        rw [if_pos hp] at ht'
        split at ht'
        · next h => exact Finset.mem_filter.mpr ⟨Finset.mem_range.mpr ht', h⟩
        · omega
      · have hv' := Finset.mem_filter.mp hv
        have hlt := Finset.mem_range.mp hv'.1
        refine ⟨⟨v, hlt.trans (σ i).isLt⟩, Finset.mem_filter.mpr ⟨Finset.mem_univ _, ?_⟩, rfl⟩
        unfold key
        rw [if_pos hp, if_pos hv'.2]
        exact hlt
    simp only [early, hp, and_true, true_and, hc]
  · simp only [early, hp, and_false, false_and]

/-- A sum over the numbers below `a + n`, as one over those below `a` and one over the `n` after them. -/
theorem sum_chunk (f : ℕ → EReal) (a n : ℕ) : (∑ s ∈ Finset.range (a + n), f s) = (∑ s ∈ Finset.range a, f s) + ∑ j : Fin n, f (a + j.val) := by
  rw [Finset.sum_range_add, ← Finset.sum_range (fun j => f (a + j))]

end Cert.Proof.Loss

end
-- ==== Proof.LossAt.lean ====
/-
  The TensorCore call's values, one at a time: what each step of its body makes of its operands at an index, over the
  extended reals.
-/
module

public import proofs.«01_k».proof.Proof.LossBody
public import proofs.«01_k».proof.Proof.Maths
public import Idealize.ShloMosaic.Lib.Pointwise

@[expose] public section

set_option maxRecDepth 16384

noncomputable section

namespace Cert.Proof.Loss

open Cert.KernelIdeal Cert.KernelIdeal.Gen
open Idealize.ShloMosaic

/-! ## Bits -/

theorem ofBool_one (q : Prop) [Decidable q] : BitVec.ofBool (decide q) = 1#1 ↔ q := by
  by_cases h : q <;> simp [h]

theorem andi_one (a b : BitVec 1) : IntOp.andi a b = 1#1 ↔ a = 1#1 ∧ b = 1#1 := by
  revert a b; decide

theorem bit_value (b : BitVec 1) : FloatOps.sitofp (F := Ideal) FTy.f32 (BitVec.setWidth 32 b) = if b = 1#1 then (1 : EReal) else 0 := by
  have h : b = 0#1 ∨ b = 1#1 := by revert b; decide
  rcases h with rfl | rfl
  · show (((BitVec.setWidth 32 0#1).toInt : ℝ) : EReal) = _
    have e : (BitVec.setWidth 32 0#1).toInt = 0 := by decide
    rw [e]; simp
  · show (((BitVec.setWidth 32 1#1).toInt : ℝ) : EReal) = _
    have e : (BitVec.setWidth 32 1#1).toInt = 1 := by decide
    rw [e]; simp

theorem select_eq {α : Type} (c : BitVec 1) (x y : α) : Scalar.select c x y = if c = 1#1 then x else y := by
  have h : c = 0#1 ∨ c = 1#1 := by revert c; decide
  rcases h with rfl | rfl <;> simp [Scalar.select]

theorem cmp_eq_one (x y : BitVec 32) : IntOp.cmpi .eq x y = 1#1 ↔ x = y := by
  unfold IntOp.cmpi
  exact (ofBool_one _).trans Iff.rfl

theorem word_eq (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

theorem slt_iff (a b : ℕ) (ha : a < 2 ^ 31) (hb : b < 2 ^ 31) : IntOp.cmpi .slt (BitVec.ofNat 32 a) (BitVec.ofNat 32 b) = 1#1 ↔ a < b := by
  show BitVec.ofBool (BitVec.slt (BitVec.ofNat 32 a) (BitVec.ofNat 32 b)) = 1#1 ↔ _
  unfold BitVec.slt
  rw [ofBool_one, BitVec.toInt_eq_toNat_cond, BitVec.toInt_eq_toNat_cond]
  simp only [BitVec.toNat_ofNat]
  omega

/-! ## The samples' losses -/

/-- The loss of a sample, `r` before it is normalised, against a query of direction `q` and length `n`. -/
def el (q : Fin 128 → EReal) (n : EReal) (r : Fin 128 → EReal) : EReal :=
  0 - Ideal.log (Ideal.logistic (Ideal.div (Ideal.div
        (∑ d, q d * Ideal.div (r d) (max (Ideal.sqrt (∑ e, r e * r e)) (Ideal.ofBits FTy.f32 841731191#32)))
        (max (n * Ideal.sqrt (∑ d, Ideal.div (r d) (max (Ideal.sqrt (∑ e, r e * r e)) (Ideal.ofBits FTy.f32 841731191#32))
              * Ideal.div (r d) (max (Ideal.sqrt (∑ e, r e * r e)) (Ideal.ofBits FTy.f32 841731191#32))))
          (Ideal.ofBits FTy.f32 841731191#32)))
      (Ideal.ofBits FTy.f32 1056964608#32)) + Ideal.ofBits FTy.f32 730643660#32)

theorem pay24_at (g : FVec Ideal S256x256 .f32) (w : FVec Ideal S256x128 .f32) (q : FVec Ideal S128x128 .f32) (n : FVec Ideal S128x1 .f32)
    (b : Fin 128) (j : Fin 256) :
    k1_pay24 (F := Ideal) g w q n (ix2 b j) = el (fun d => q (ix2 b d)) (n (ix2 b 0)) (fun d => ∑ k : Fin 256, g (ix2 j k) * w (ix2 k d)) := by
  pointwise [k1_pay24]
  rfl

theorem pay16_at (wk wq : FVec Ideal S256x128 .f32) (k : Fin 256) (d : Fin 128) :
    k1_pay16 (F := Ideal) (k1_pay15 (F := Ideal) wk) wq (ix2 k d)
      = Ideal.ofBits FTy.f32 1065336439#32 * wk (ix2 k d) + Ideal.ofBits FTy.f32 981668463#32 * wq (ix2 k d) := by
  pointwise [k1_pay16, k1_pay15]

/-- A query's direction. -/
def qdir (xq : FVec Ideal S128x128 .f32) (b : Fin 128) (d : Fin 128) : EReal :=
  Ideal.div (xq (ix2 b d)) (max (Ideal.sqrt (∑ e, xq (ix2 b e) * xq (ix2 b e))) (Ideal.ofBits FTy.f32 841731191#32))

theorem pay18_at (xq : FVec Ideal S128x128 .f32) (b d : Fin 128) : k1_pay18 (F := Ideal) xq (ix2 b d) = qdir xq b d := by
  pointwise [k1_pay17, k1_pay18, qdir]

theorem pay19_at (xq : FVec Ideal S128x128 .f32) (b : Fin 128) :
    k1_pay19 (F := Ideal) xq (ix2 b 0) = Ideal.sqrt (∑ d, qdir xq b d * qdir xq b d) := by
  pointwise [k1_pay17, k1_pay19, qdir]

/-! ## The matrices that pick entries -/

theorem pay11_at (l : Fin 50) (c : Fin 100) : k1_pay11 (F := Ideal) (ix2 l c) = if c.val = 2 * l.val then (1 : EReal) else 0 := by
  pointwise [k1_pay11]
  rw [bit_value]
  refine if_congr ?_ rfl rfl
  rw [cmp_eq_one]
  have e : IntOp.muli (2#32) (BitVec.ofNat 32 l.val) = BitVec.ofNat 32 (2 * l.val) := (BitVec.ofNat_mul 2 l.val).symm
  rw [e]
  exact word_eq _ _ (by omega) (by omega)

theorem pay12_at (l : Fin 50) (c : Fin 100) : k1_pay12 (F := Ideal) (ix2 l c) = if c.val = 2 * l.val + 1 then (1 : EReal) else 0 := by
  pointwise [k1_pay12]
  rw [bit_value]
  refine if_congr ?_ rfl rfl
  rw [cmp_eq_one]
  have e : IntOp.addi (IntOp.muli (2#32) (BitVec.ofNat 32 l.val)) 1#32 = BitVec.ofNat 32 (2 * l.val + 1) := by
    rw [BitVec.ofNat_add, BitVec.ofNat_mul]; rfl
  rw [e]
  exact word_eq _ _ (by omega) (by omega)

theorem pay13_at (j : Fin 256) (r : Fin 2560) : k1_pay13 (F := Ideal) (ix2 j r) = if r.val = 10 * j.val then (1 : EReal) else 0 := by
  pointwise [k1_pay13]
  rw [bit_value]
  refine if_congr ?_ rfl rfl
  rw [cmp_eq_one]
  have e : IntOp.muli (10#32) (BitVec.ofNat 32 j.val) = BitVec.ofNat 32 (10 * j.val) := (BitVec.ofNat_mul 10 j.val).symm
  rw [e]
  exact word_eq _ _ (by omega) (by omega)

theorem pay14_at (x j : Fin 256) : k1_pay14 (F := Ideal) (ix2 x j) = if x.val < j.val then (1 : EReal) else 0 := by
  pointwise [k1_pay14]
  rw [bit_value]
  exact if_congr (slt_iff _ _ (by omega) (by omega)) rfl rfl

theorem pay28_at (t : ℕ) (ht : t < 26) (b : Fin 128) (j : Fin 256) : k1_pay28 (BitVec.ofNat 32 t) (ix2 b j) = 1#1 ↔ t * 256 + j.val < 6554 := by
  pointwise [k1_pay28]
  have e : IntOp.addi (Scalar.muli (BitVec.ofNat 32 t) 256#32) (BitVec.ofNat 32 j.val) = BitVec.ofNat 32 (t * 256 + j.val) := by
    rw [BitVec.ofNat_add, BitVec.ofNat_mul]; rfl
  rw [e]
  exact slt_iff _ _ (by omega) (by omega)

/-- A sum that picks one term. -/
theorem sum_pick {n : ℕ} (f : Fin n → EReal) (c : ℕ) (hc : c < n) : (∑ x : Fin n, f x * (if x.val = c then (1 : EReal) else 0)) = f ⟨c, hc⟩ := by
  rw [Finset.sum_eq_single (⟨c, hc⟩ : Fin n)]
  · simp
  · intro x _ hx
    rw [if_neg fun h => hx (Fin.ext h), mul_zero]
  · intro h; exact absurd (Finset.mem_univ _) h

theorem sum_pick' {n : ℕ} (f : Fin n → EReal) (c : ℕ) (hc : c < n) : (∑ x : Fin n, (if x.val = c then (1 : EReal) else 0) * f x) = f ⟨c, hc⟩ := by
  rw [← sum_pick f c hc]
  exact Finset.sum_congr rfl fun x _ => mul_comm _ _

/-! ## The similarity -/

/-- A query's labels. -/
def lab0 (xl : FVec Ideal S128x100 .f32) (b : Fin 128) (l : Fin 50) : EReal := xl (ix2 b (⟨2 * l.val, by omega⟩ : Fin 100))
def lab1 (xl : FVec Ideal S128x100 .f32) (b : Fin 128) (l : Fin 50) : EReal := xl (ix2 b (⟨2 * l.val + 1, by omega⟩ : Fin 100))

/-- A pair's scale. -/
def scale (x0 x1 : EReal) : EReal := Ideal.div 1 (max (Ideal.sqrt (x0 * x0 + x1 * x1)) (Ideal.ofBits .f32 507307272#32))

theorem pay2_at (xl : FVec Ideal S128x100 .f32) (b : Fin 128) (l : Fin 50) (j : Fin 256) :
    k1_pay2 (F := Ideal) (k1_pay21 (F := Ideal) xl (k1_pay11 (F := Ideal))) (k1_pay23 (F := Ideal) xl (k1_pay11 (F := Ideal)) (k1_pay12 (F := Ideal))) (ix3 b l j)
      = lab0 xl b l * scale (lab0 xl b l) (lab1 xl b l) := by
  pointwise [k1_pay2, k1_pay1, k1_pay20, k1_pay21, k1_pay22, k1_pay23]
  simp only [pay11_at, pay12_at]
  rw [sum_pick (fun x => xl (ix2 b x)) (2 * l.val) (by omega), sum_pick (fun x => xl (ix2 b x)) (2 * l.val + 1) (by omega)]
  rfl

theorem pay3_at (xl : FVec Ideal S128x100 .f32) (b : Fin 128) (l : Fin 50) (j : Fin 256) :
    k1_pay3 (F := Ideal) (k1_pay22 (F := Ideal) xl (k1_pay12 (F := Ideal))) (k1_pay23 (F := Ideal) xl (k1_pay11 (F := Ideal)) (k1_pay12 (F := Ideal))) (ix3 b l j)
      = lab1 xl b l * scale (lab0 xl b l) (lab1 xl b l) := by
  pointwise [k1_pay3, k1_pay1, k1_pay20, k1_pay21, k1_pay22, k1_pay23]
  simp only [pay11_at, pay12_at]
  rw [sum_pick (fun x => xl (ix2 b x)) (2 * l.val) (by omega), sum_pick (fun x => xl (ix2 b x)) (2 * l.val + 1) (by omega)]
  rfl

/-- A finite entry comes through the test for infinities as it is. -/
theorem entry (a : FVec Ideal S2560x100 .f32) (j : Fin 256) (c : Fin 100)
    (ha : a (ix2 (⟨10 * j.val, by omega⟩ : Fin 2560) c) ≠ ⊤ ∧ a (ix2 (⟨10 * j.val, by omega⟩ : Fin 2560) c) ≠ ⊥) :
    (∑ x : Fin 2560, Scalar.select (IntOp.xori (FloatOps.weird (a (ix2 x c))) 1#1) (k1_pay13 (F := Ideal) (ix2 j x) * a (ix2 x c)) (0 : EReal))
      = a (ix2 (⟨10 * j.val, by omega⟩ : Fin 2560) c) := by
  rw [Finset.sum_eq_single (⟨10 * j.val, by omega⟩ : Fin 2560)]
  · have hw : FloatOps.weird (a (ix2 (⟨10 * j.val, by omega⟩ : Fin 2560) c)) = 0#1 := by
      show BitVec.ofBool (decide (a (ix2 (⟨10 * j.val, by omega⟩ : Fin 2560) c) = ⊤ ∨ a (ix2 (⟨10 * j.val, by omega⟩ : Fin 2560) c) = ⊥)) = 0#1
      rw [decide_eq_false (by rintro (h | h); exacts [ha.1 h, ha.2 h])]
      rfl
    rw [hw, pay13_at, if_pos rfl, one_mul]
    rfl
  · intro x _ hx
    rw [pay13_at, if_neg fun h => hx (Fin.ext h), zero_mul, select_eq, ite_self]
  · intro h; exact absurd (Finset.mem_univ _) h

/-- How alike the labels of query `b` and those in row `r` of `labs` are. -/
def alike (xl : FVec Ideal S128x100 .f32) (y0 y1 : Fin 50 → EReal) (b : Fin 128) : EReal :=
  (∑ l : Fin 50, pairK (lab0 xl b l) (lab1 xl b l) (y0 l) (y1 l)) * Named.named (F := Ideal) κ "inv_l" (φ := .f32) 1017370378#32

theorem pay29_at (xl : FVec Ideal S128x100 .f32) (a : FVec Ideal S2560x100 .f32) (b : Fin 128) (j : Fin 256)
    (ha : ∀ c : Fin 100, a (ix2 (⟨10 * j.val, by omega⟩ : Fin 2560) c) ≠ ⊤ ∧ a (ix2 (⟨10 * j.val, by omega⟩ : Fin 2560) c) ≠ ⊥) :
    k1_pay29 (F := Ideal) (k1_pay25 (F := Ideal) a) (k1_pay26 (F := Ideal) a) (k1_pay27 (F := Ideal)) (k1_pay13 (F := Ideal)) (k1_pay11 (F := Ideal)) (k1_pay12 (F := Ideal))
        (k1_pay2 (F := Ideal) (k1_pay21 (F := Ideal) xl (k1_pay11 (F := Ideal))) (k1_pay23 (F := Ideal) xl (k1_pay11 (F := Ideal)) (k1_pay12 (F := Ideal))))
        (k1_pay3 (F := Ideal) (k1_pay22 (F := Ideal) xl (k1_pay12 (F := Ideal))) (k1_pay23 (F := Ideal) xl (k1_pay11 (F := Ideal)) (k1_pay12 (F := Ideal)))) (ix2 b j) = 1#1
      ↔ Ideal.ofBits FTy.f32 1056964608#32 ≤ alike xl (fun l => a (ix2 (⟨10 * j.val, by omega⟩ : Fin 2560) (⟨2 * l.val, by omega⟩ : Fin 100)))
          (fun l => a (ix2 (⟨10 * j.val, by omega⟩ : Fin 2560) (⟨2 * l.val + 1, by omega⟩ : Fin 100))) b := by
  generalize hX0 : k1_pay2 (F := Ideal) (k1_pay21 (F := Ideal) xl (k1_pay11 (F := Ideal))) (k1_pay23 (F := Ideal) xl (k1_pay11 (F := Ideal)) (k1_pay12 (F := Ideal))) = X0
  generalize hX1 : k1_pay3 (F := Ideal) (k1_pay22 (F := Ideal) xl (k1_pay12 (F := Ideal))) (k1_pay23 (F := Ideal) xl (k1_pay11 (F := Ideal)) (k1_pay12 (F := Ideal))) = X1
  have e0 : ∀ l : Fin 50, X0 (ix3 b l j) = lab0 xl b l * scale (lab0 xl b l) (lab1 xl b l) := fun l => hX0 ▸ pay2_at xl b l j
  have e1 : ∀ l : Fin 50, X1 (ix3 b l j) = lab1 xl b l * scale (lab0 xl b l) (lab1 xl b l) := fun l => hX1 ▸ pay3_at xl b l j
  generalize hS : k1_pay13 (F := Ideal) = S
  generalize hE0 : k1_pay11 (F := Ideal) = E0
  generalize hE1 : k1_pay12 (F := Ideal) = E1
  have s0 : ∀ l : Fin 50, (∑ x : Fin 100, E0 (ix2 l x) * ∑ r : Fin 2560, Scalar.select (IntOp.xori (FloatOps.weird (a (ix2 r x))) 1#1) (S (ix2 j r) * a (ix2 r x)) (0 : EReal))
      = a (ix2 (⟨10 * j.val, by omega⟩ : Fin 2560) (⟨2 * l.val, by omega⟩ : Fin 100)) := fun l => by
    subst hS hE0
    simp only [pay11_at]
    rw [sum_pick' _ (2 * l.val) (by omega)]
    exact entry a j _ (ha _)
  have s1 : ∀ l : Fin 50, (∑ x : Fin 100, E1 (ix2 l x) * ∑ r : Fin 2560, Scalar.select (IntOp.xori (FloatOps.weird (a (ix2 r x))) 1#1) (S (ix2 j r) * a (ix2 r x)) (0 : EReal))
      = a (ix2 (⟨10 * j.val, by omega⟩ : Fin 2560) (⟨2 * l.val + 1, by omega⟩ : Fin 100)) := fun l => by
    subst hS hE1
    simp only [pay12_at]
    rw [sum_pick' _ (2 * l.val + 1) (by omega)]
    exact entry a j _ (ha _)
  pointwise [k1_pay29, k1_pay25, k1_pay26, k1_pay27]
  rw [ofBool_one]
  simp only [s0, s1, e0, e1]
  exact Iff.rfl

/-! ## Which samples are taken, and the sums -/

theorem taken_word (n : ℕ) (c : ℕ) : ((c : ℕ) : EReal) + ((n : ℕ) : EReal) < Ideal.ofBits FTy.f32 1098907648#32 ↔ c + n < 16 := by
  rw [lit_sixteen, ← Nat.cast_add]
  have e : ((16 : ℝ) : EReal) = ((16 : ℕ) : EReal) := by rw [← EReal.coe_natCast]; norm_num
  rw [e, EReal.natCast_lt_iff]

theorem sum_before (p : ℕ → Prop) [DecidablePred p] (j : ℕ) (hj : j ≤ 256) :
    (∑ x : Fin 256, (if p x.val then (1 : EReal) else 0) * (if x.val < j then (1 : EReal) else 0)) = ((before p j : ℕ) : EReal) := by
  have h : ∀ x : Fin 256, (if p x.val then (1 : EReal) else 0) * (if x.val < j then (1 : EReal) else 0) = if x.val < j ∧ p x.val then (1 : EReal) else 0 := fun x => by
    by_cases h1 : p x.val <;> by_cases h2 : x.val < j <;> simp [h1, h2]
  simp only [h]
  rw [Fin.sum_univ_eq_sum_range (fun x => if x < j ∧ p x then (1 : EReal) else 0) 256, before, Finset.natCast_card_filter]
  rw [← Finset.sum_filter, ← Finset.sum_filter]
  refine Finset.sum_congr (Finset.ext fun x => ?_) fun _ _ => rfl
  simp only [Finset.mem_filter, Finset.mem_range]
  constructor
  · rintro ⟨_, h1, h2⟩; exact ⟨h1, h2⟩
  · rintro ⟨h1, h2⟩; exact ⟨by omega, h1, h2⟩

theorem pay7_at (v88 v90 : IVec S128x256 1) (c : FVec Ideal S128x1 .f32) (b : Fin 128) (j : Fin 256) (p : ℕ → Prop) [DecidablePred p] (k : ℕ)
    (hp : ∀ x : Fin 256, (v90 (ix2 b x) = 1#1 ∧ v88 (ix2 b x) = 1#1) ↔ p x.val) (hc : c (ix2 b 0) = ((k : ℕ) : EReal)) :
    k1_pay7 (F := Ideal) v88 v90 (k1_pay14 (F := Ideal)) c (ix2 b j) = 1#1 ↔ p j.val ∧ k + before p j.val < 16 := by
  pointwise [k1_pay7]
  rw [andi_one, andi_one, ofBool_one, hp j, hc]
  have e : ∀ x : Fin 256, FloatOps.sitofp (F := Ideal) FTy.f32 (BitVec.setWidth 32 (IntOp.andi (v90 (ix2 b x)) (v88 (ix2 b x)))) = if p x.val then (1 : EReal) else 0 := fun x => by
    rw [bit_value]
    exact if_congr ((andi_one _ _).trans (hp x)) rfl rfl
  simp only [e, pay14_at]
  rw [sum_before p j.val (by omega), taken_word]

theorem pay8_at (v47 : FVec Ideal S128x256 .f32) (v88 v90 : IVec S128x256 1) (u : FVec Ideal S256x256 .f32) (c a : FVec Ideal S128x1 .f32) (b : Fin 128) :
    k1_pay8 (F := Ideal) v47 v88 v90 u c a (ix2 b 0) = a (ix2 b 0) + ∑ x : Fin 256, if k1_pay7 (F := Ideal) v88 v90 u c (ix2 b x) = 1#1 then v47 (ix2 b x) else 0 := by
  pointwise [k1_pay8]
  simp only [select_eq]

theorem pay9_at (v88 v90 : IVec S128x256 1) (u : FVec Ideal S256x256 .f32) (c a : FVec Ideal S128x1 .f32) (b : Fin 128) :
    k1_pay9 (F := Ideal) v88 v90 u c a (ix2 b 0) = a (ix2 b 0) + ∑ x : Fin 256, if k1_pay7 (F := Ideal) v88 v90 u c (ix2 b x) = 1#1 then (1 : EReal) else 0 := by
  pointwise [k1_pay9]
  simp only [bit_value]

theorem pay10_at (a c : FVec Ideal S128x1 .f32) :
    k1_pay10 (F := Ideal) a c (ix2 0 0) = Ideal.div (∑ b : Fin 128, Ideal.div (a (ix2 b 0)) (max (c (ix2 b 0)) 1)) (Ideal.ofBits FTy.f32 1124073472#32) := by
  pointwise [k1_pay10]
  refine congrArg (fun z => Ideal.div z _) (Finset.sum_congr rfl fun b _ => ?_)
  exact Fin.sum_univ_one _

theorem pay4_at (b : Fin 128) : k1_pay4 (F := Ideal) (ix2 b 0) = (0 : EReal) := by
  pointwise [k1_pay4]

theorem pay5_at (b : Fin 128) : k1_pay5 (F := Ideal) (ix2 b 0) = (0 : EReal) := by
  pointwise [k1_pay5]

/-- The point goes on exactly if some row has fewer than sixteen. -/
theorem wants_iff (s : Gather.St Ideal) (k : Fin 128 → ℕ) (hk : ∀ b : Fin 128, s.cnt (ix2 b 0) = ((k b : ℕ) : EReal)) : s.wants ↔ ∃ b, k b < 16 := by
  unfold Gather.St.wants
  have h1 : ∀ x : BitVec 1, (Scalar.cmpi .ne (Scalar.extui x : BitVec 32) 0#32 = 1#1) ↔ x = 1#1 := by decide
  rw [h1]
  show BitVec.ofBool (decide (k1_pay6 (F := Ideal) s.cnt < Ideal.ofBits FTy.f32 1098907648#32)) = 1#1 ↔ _
  rw [ofBool_one]
  pointwise [k1_pay6]
  rw [Finset.fold_min_lt, lit_top, lit_sixteen]
  have e : ((16 : ℝ) : EReal) = ((16 : ℕ) : EReal) := by rw [← EReal.coe_natCast]; norm_num
  rw [e]
  constructor
  · rintro (h | ⟨x, _, h⟩)
    · exact absurd h not_top_lt
    · rw [hk, EReal.natCast_lt_iff] at h
      exact ⟨_, h⟩
  · rintro ⟨b, h⟩
    refine Or.inr ⟨(b, 0), Finset.mem_univ _, ?_⟩
    show s.cnt (ix2 b 0) < _
    rw [hk, EReal.natCast_lt_iff]
    exact h

end Cert.Proof.Loss

end
-- ==== Proof.LossValue.lean ====
/-
  The mean that the TensorCore call leaves, as a function of the arrays it reads: of each query the first sixteen samples
  whose labels are alike enough, their losses averaged. The last block's rows past the array's end do not matter.
-/
module

public import proofs.«01_k».proof.Proof.LossRegion
public import proofs.«01_k».proof.Proof.LossAt

@[expose] public section

set_option maxRecDepth 16384

noncomputable section

namespace Cert.Proof.Loss

open Cert.KernelIdeal Cert.KernelIdeal.Gen
open Cert.Proof.Gather (St Ins at2)
open Idealize.ShloMosaic

variable (B : Ins Ideal)

/-- Whether sample `s` is one of query `b`'s positives. -/
def near (b : Fin 128) (s : ℕ) : Prop :=
  ∃ h : s < 6554, Ideal.ofBits FTy.f32 1056964608#32 ≤ alike B.xl (fun l => B.labs (ix2 (⟨10 * s, by omega⟩ : Fin 65536) (⟨2 * l.val, by omega⟩ : Fin 100)))
    (fun l => B.labs (ix2 (⟨10 * s, by omega⟩ : Fin 65536) (⟨2 * l.val + 1, by omega⟩ : Fin 100))) b

instance (b : Fin 128) : DecidablePred (near B b) := fun _ => Classical.propDecidable _

/-- The loss of sample `s` against query `b`. -/
def loss (b : Fin 128) (s : ℕ) : EReal :=
  el (qdir B.xq b) (Ideal.sqrt (∑ d, qdir B.xq b d * qdir B.xq b d)) (fun d => ∑ k : Fin 256, B.rows (ix2 (⟨s % 6656, Nat.mod_lt _ (by decide)⟩ : Fin 6656) k)
    * (Ideal.ofBits FTy.f32 1065336439#32 * B.wk (ix2 k d) + Ideal.ofBits FTy.f32 981668463#32 * B.wq (ix2 k d)))

/-- What the points leave as the first one prepared it. -/
structure Kept (s : St Ideal) : Prop where
  w : s.w = k1_pay16 (F := Ideal) (k1_pay15 (F := Ideal) B.wk) B.wq
  q : s.q = k1_pay18 (F := Ideal) B.xq
  n : s.n = k1_pay19 (F := Ideal) B.xq
  x0 : s.x0 = k1_pay2 (F := Ideal) (k1_pay21 (F := Ideal) B.xl (k1_pay11 (F := Ideal))) (k1_pay23 (F := Ideal) B.xl (k1_pay11 (F := Ideal)) (k1_pay12 (F := Ideal)))
  x1 : s.x1 = k1_pay3 (F := Ideal) (k1_pay22 (F := Ideal) B.xl (k1_pay12 (F := Ideal))) (k1_pay23 (F := Ideal) B.xl (k1_pay11 (F := Ideal)) (k1_pay12 (F := Ideal)))
  sel : s.sel = k1_pay13 (F := Ideal)
  ut : s.ut = k1_pay14 (F := Ideal)
  e0 : s.e0 = k1_pay11 (F := Ideal)
  e1 : s.e1 = k1_pay12 (F := Ideal)

theorem Kept.next {s : St Ideal} (h : Kept B s) (i : BitVec 32) (g : FVec Ideal S256x256 .f32) (lb : FVec Ideal S2560x100 .f32) : Kept B (s.next i g lb) := by
  unfold St.next
  split
  · exact ⟨h.w, h.q, h.n, h.x0, h.x1, h.sel, h.ut, h.e0, h.e1⟩
  · exact h

variable (D : ℕ → FVec Ideal S2560x100 .f32)

theorem kept_at : ∀ t : ℕ, Kept B (B.stAt D t)
  | 0 => ⟨rfl, rfl, rfl, rfl, rfl, rfl, rfl, rfl, rfl⟩
  | t + 1 => (kept_at t).next B _ _ _

theorem at2_eq {n m : ℕ} (i : Fin n) (j : Fin m) : at2 i j = ix2 i j := funext fun (a : Fin 2) => by
  match a with
  | ⟨0, _⟩ => rfl
  | ⟨1, _⟩ => rfl

/-- A row of a block of labels that lies in the array. -/
theorem labs_row (t : ℕ) (j : Fin 256) (h : t * 256 + j.val < 6554) (c : Fin 100) :
    B.labsAt D t (ix2 (⟨10 * j.val, by omega⟩ : Fin 2560) c) = B.labs (ix2 (⟨10 * (t * 256 + j.val), by omega⟩ : Fin 65536) c) := by
  have h' : t * 2560 + 10 * j.val < 65536 := by omega
  have e : B.labsAt D t (ix2 (⟨10 * j.val, by omega⟩ : Fin 2560) c) = B.labs (at2 (⟨t * 2560 + 10 * j.val, h'⟩ : Fin 65536) c) := dif_pos h'
  rw [e, at2_eq]
  congr 2
  exact Fin.ext (by show t * 2560 + 10 * j.val = 10 * (t * 256 + j.val); omega)

theorem tenth_lt (s : Fin 6554) : 10 * s.val < 65536 := by omega

/-- The samples' labels are real. -/
def RealLabels : Prop :=
  ∀ s : Fin 6554, ∀ c : Fin 100, B.labs (ix2 (⟨10 * s.val, tenth_lt s⟩ : Fin 65536) c) ≠ ⊤ ∧ B.labs (ix2 (⟨10 * s.val, tenth_lt s⟩ : Fin 65536) c) ≠ ⊥

variable (hfin : RealLabels B)

include hfin in
/-- The mask of point `t`. -/
theorem mask_at (t : ℕ) (ht : t < 26) (b : Fin 128) (x : Fin 256) :
    ((B.stAt D t).pairs (B.labsAt D t) (ix2 b x) = 1#1 ∧ k1_pay28 (BitVec.ofNat 32 t) (ix2 b x) = 1#1) ↔ near B b (256 * t + x.val) := by
  have k := kept_at B D t
  rw [pay28_at t ht b x]
  unfold St.pairs near
  rw [k.sel, k.e0, k.e1, k.x0, k.x1]
  constructor
  · rintro ⟨h1, h2⟩
    rw [pay29_at B.xl (B.labsAt D t) b x (fun c => by rw [labs_row B D t x h2 c]; exact hfin ⟨t * 256 + x.val, h2⟩ c)] at h1
    refine ⟨by omega, ?_⟩
    simp only [labs_row B D t x h2, Nat.mul_comm t 256] at h1
    exact h1
  · rintro ⟨h, h1⟩
    have h2 : t * 256 + x.val < 6554 := by omega
    refine ⟨?_, h2⟩
    rw [pay29_at B.xl (B.labsAt D t) b x (fun c => by rw [labs_row B D t x h2 c]; exact hfin ⟨t * 256 + x.val, h2⟩ c)]
    simp only [labs_row B D t x h2, Nat.mul_comm t 256]
    exact h1

/-- The losses of point `t`. -/
theorem loss_at (t : ℕ) (ht : t < 26) (b : Fin 128) (x : Fin 256) :
    k1_pay24 (F := Ideal) (B.rowsAt t) (B.stAt D t).w (B.stAt D t).q (B.stAt D t).n (ix2 b x) = loss B b (256 * t + x.val) := by
  have k := kept_at B D t
  rw [pay24_at, k.w, k.q, k.n]
  unfold loss
  simp only [pay16_at, pay18_at, pay19_at]
  have e : ∀ c : Fin 256, B.rowsAt t (ix2 x c) = B.rows (ix2 (⟨(256 * t + x.val) % 6656, Nat.mod_lt _ (by decide)⟩ : Fin 6656) c) := fun c => by
    show B.rows (at2 (⟨(t * 256 + x.val) % 6656, _⟩ : Fin 6656) c) = _
    rw [at2_eq]
    congr 2
    exact Fin.ext (by show (t * 256 + x.val) % 6656 = (256 * t + x.val) % 6656; rw [Nat.mul_comm])
  simp only [e]

theorem taken_cast (p : ℕ → Prop) [DecidablePred p] (n : ℕ) : ((taken p n : ℕ) : EReal) = ∑ s ∈ Finset.range n, if early p s then (1 : EReal) else 0 := by
  rw [taken, Finset.natCast_card_filter]

include hfin in
/-- What has been counted and added before point `t`. -/
theorem state_at : ∀ t : ℕ, t ≤ 26 → ∀ b : Fin 128, (B.stAt D t).cnt (ix2 b 0) = ((taken (near B b) (256 * t) : ℕ) : EReal)
    ∧ (B.stAt D t).acc (ix2 b 0) = ∑ s ∈ Finset.range (256 * t), if early (near B b) s then loss B b s else 0
  | 0, _, b => by
    constructor
    · refine (pay4_at b).trans ?_
      show (0 : EReal) = ((taken (near B b) 0 : ℕ) : EReal)
      simp [taken]
    · refine (pay5_at b).trans ?_
      simp
  | t + 1, ht, b => by
    have ih := state_at t (by omega)
    obtain ⟨ic, ia⟩ := ih b
    have k := kept_at B D t
    rw [taken_cast, Nat.mul_succ, sum_chunk, sum_chunk, ← taken_cast, ← ic, ← ia]
    show ((B.stAt D t).next _ _ _).cnt _ = _ ∧ ((B.stAt D t).next _ _ _).acc _ = _
    unfold St.next
    by_cases hw : (B.stAt D t).wants
    · rw [if_pos hw]
      have h7 : ∀ x : Fin 256, k1_pay7 (F := Ideal) (k1_pay28 (BitVec.ofNat 32 t)) ((B.stAt D t).pairs (B.labsAt D t)) (B.stAt D t).ut (B.stAt D t).cnt (ix2 b x) = 1#1
          ↔ early (near B b) (256 * t + x.val) := fun x => by
        rw [k.ut, early_iff]
        exact pay7_at _ _ _ b x (fun j => near B b (256 * t + j)) _ (fun y => mask_at B D hfin t (by omega) b y) ic
      constructor
      · refine (pay9_at _ _ _ _ _ b).trans ?_
        refine congrArg (_ + ·) (Finset.sum_congr rfl fun x _ => if_congr (h7 x) rfl rfl)
      · refine (pay8_at _ _ _ _ _ _ b).trans ?_
        refine congrArg (_ + ·) (Finset.sum_congr rfl fun x _ => ?_)
        rw [loss_at B D t (by omega) b x]
        exact if_congr (h7 x) rfl rfl
    · rw [if_neg hw]
      have h16 : 16 ≤ taken (near B b) (256 * t) := by
        by_contra h
        exact hw ((wants_iff _ (fun b => taken (near B b) (256 * t)) fun b => (ih b).1).mpr ⟨b, by omega⟩)
      have hn : ∀ x : Fin 256, ¬ early (near B b) (256 * t + x.val) := fun x => not_early _ h16 (by omega)
      constructor
      · rw [Finset.sum_eq_zero fun x _ => if_neg (hn x), add_zero]
      · rw [Finset.sum_eq_zero fun x _ => if_neg (hn x), add_zero]

/-- Past the last sample nothing is taken. -/
theorem sum_samples (b : Fin 128) (f : ℕ → EReal) :
    (∑ s ∈ Finset.range 6656, if early (near B b) s then f s else 0) = ∑ s : Fin 6554, if early (near B b) s.val then f s.val else 0 := by
  have h0 : (∑ j : Fin 102, if early (near B b) (6554 + j.val) then f (6554 + j.val) else 0) = 0 := Finset.sum_eq_zero fun j _ => if_neg fun h => by
    obtain ⟨hs, _⟩ := h.1
    omega
  have h1 := sum_chunk (fun s => if early (near B b) s then f s else 0) 6554 102
  have e : 6554 + 102 = 6656 := by norm_num
  rw [h0, add_zero, e] at h1
  have h2 := Finset.sum_range (n := 6554) (fun s => if early (near B b) s then f s else 0)
  rw [h1, h2]

include hfin in
/-- The mean. -/
theorem mean_at : B.mean D (ix2 0 0)
    = Ideal.div (∑ b : Fin 128, Ideal.div (∑ s : Fin 6554, if early (near B b) s.val then loss B b s.val else 0)
        (max (∑ s : Fin 6554, if early (near B b) s.val then (1 : EReal) else 0) 1)) (Ideal.ofBits FTy.f32 1124073472#32) := by
  unfold Ins.mean
  rw [pay10_at]
  have h : ∀ b : Fin 128, Ideal.div ((B.stAt D 26).acc (ix2 b 0)) (max ((B.stAt D 26).cnt (ix2 b 0)) 1)
      = Ideal.div (∑ s : Fin 6554, if early (near B b) s.val then loss B b s.val else 0)
        (max (∑ s : Fin 6554, if early (near B b) s.val then (1 : EReal) else 0) 1) := fun b => by
    obtain ⟨hc, ha⟩ := state_at B D hfin 26 le_rfl b
    have e : 256 * 26 = 6656 := by norm_num
    rw [e] at hc ha
    rw [hc, ha, taken_cast, sum_samples, sum_samples B b fun _ => 1]
  simp only [h]

end Cert.Proof.Loss

end
-- ==== Proof.RefValue.lean ====
/-
  The reference's mean, as the same kind of sum: its sort brings the positives of a query to the front, in their own order.
-/
module

public import proofs.«01_k».proof.Proof.LossAt
public import proofs.«01_k».proof.Proof.Gen.ReferenceIdeal.Run
public import Idealize.ShloMosaic.Lib.Pointwise
public import Idealize.ShloMosaic.Lib.SortFacts

@[expose] public section

set_option maxRecDepth 16384

noncomputable section

namespace Cert.Proof.Loss

open Cert.ReferenceIdeal Cert.ReferenceIdeal.Value
open Idealize.ShloMosaic

/-! ## Gathers and the sort at an index -/

theorem gather_labels {α : Type} (x : S65536x50x2.Idx → α) (idx : IVec S6554x1 32) (s : Fin 6554) (l : Fin 50) (c : Fin 2) (r : Fin 65536)
    (hr : (idx (ix2 s 0)).toInt = r.val) :
    Host.gather gather_S65536x50x2_S6554x1_S6554x50x2_12_0_n_n_0_1_1502 x idx (ix3 s l c) = x (ix3 r l c) := by
  unfold Host.gather
  refine congrArg x (funext fun (a : Fin 3) => Fin.ext ?_)
  have hsi : ∀ k, GatherDims.siIdx gather_S65536x50x2_S6554x1_S6554x50x2_12_0_n_n_0_1_1502 (ix3 s l c) k = ix2 s 0 := fun k => funext fun (b : Fin 2) => by
    match b with
    | ⟨0, _⟩ => rfl
    | ⟨1, _⟩ => exact Subsingleton.elim (α := Fin 1) _ _
  match a with
  | ⟨0, _⟩ =>
    show min (idx (GatherDims.siIdx gather_S65536x50x2_S6554x1_S6554x50x2_12_0_n_n_0_1_1502 (ix3 s l c) _)).toInt.toNat (65536 - 1) + 0 + 0 = r.val
    rw [hsi, hr]
    have := r.isLt
    omega
  | ⟨1, _⟩ => show 0 + 0 + l.val = l.val; omega
  | ⟨2, _⟩ => show 0 + 0 + c.val = c.val; omega

theorem gather_rows {α : Type} (x : S65536x128.Idx → α) (idx : IVec S6554x1 32) (s : Fin 6554) (d : Fin 128) (r : Fin 65536)
    (hr : (idx (ix2 s 0)).toInt = r.val) :
    Host.gather gather_S65536x128_S6554x1_S6554x128_1_0_n_n_0_1_1128 x idx (ix2 s d) = x (ix2 r d) := by
  unfold Host.gather
  refine congrArg x (funext fun (a : Fin 2) => Fin.ext ?_)
  have hsi : ∀ k, GatherDims.siIdx gather_S65536x128_S6554x1_S6554x128_1_0_n_n_0_1_1128 (ix2 s d) k = ix2 s 0 := fun k => funext fun (b : Fin 2) => by
    match b with
    | ⟨0, _⟩ => rfl
    | ⟨1, _⟩ => exact Subsingleton.elim (α := Fin 1) _ _
  match a with
  | ⟨0, _⟩ =>
    show min (idx (GatherDims.siIdx gather_S65536x128_S6554x1_S6554x128_1_0_n_n_0_1_1128 (ix2 s d) _)).toInt.toNat (65536 - 1) + 0 + 0 = r.val
    rw [hsi, hr]
    have := r.isLt
    omega
  | ⟨1, _⟩ => show 0 + 0 + d.val = d.val; omega

theorem gather_picked {α : Type} (x : S6554x128.Idx → α) (idx : IVec S2048x1 32) (s : Fin 2048) (d : Fin 128) (r : Fin 6554)
    (hr : (idx (ix2 s 0)).toInt = r.val) :
    Host.gather gather_S6554x128_S2048x1_S2048x128_1_0_n_n_0_1_1128 x idx (ix2 s d) = x (ix2 r d) := by
  unfold Host.gather
  refine congrArg x (funext fun (a : Fin 2) => Fin.ext ?_)
  have hsi : ∀ k, GatherDims.siIdx gather_S6554x128_S2048x1_S2048x128_1_0_n_n_0_1_1128 (ix2 s d) k = ix2 s 0 := fun k => funext fun (b : Fin 2) => by
    match b with
    | ⟨0, _⟩ => rfl
    | ⟨1, _⟩ => exact Subsingleton.elim (α := Fin 1) _ _
  match a with
  | ⟨0, _⟩ =>
    show min (idx (GatherDims.siIdx gather_S6554x128_S2048x1_S2048x128_1_0_n_n_0_1_1128 (ix2 s d) _)).toInt.toNat (6554 - 1) + 0 + 0 = r.val
    rw [hsi, hr]
    have := r.isLt
    omega
  | ⟨1, _⟩ => show 0 + 0 + d.val = d.val; omega

theorem gather_mask {α : Type} (x : S128x6554.Idx → α) (idx : IVec S128x16x1 32) (b : Fin 128) (i : Fin 16) (r : Fin 6554)
    (hr : (idx (ix3 b i 0)).toInt = r.val) :
    Host.gather gather_S128x6554_S128x16x1_S128x16_n_1_0_0_1_2_11 x idx (ix2 b i) = x (ix2 b r) := by
  unfold Host.gather
  refine congrArg x (funext fun (a : Fin 2) => Fin.ext ?_)
  have hsi : ∀ k, GatherDims.siIdx gather_S128x6554_S128x16x1_S128x16_n_1_0_0_1_2_11 (ix2 b i) k = ix3 b i 0 := fun k => funext fun (c : Fin 3) => by
    match c with
    | ⟨0, _⟩ => rfl
    | ⟨1, _⟩ => rfl
    | ⟨2, _⟩ => exact Subsingleton.elim (α := Fin 1) _ _
  match a with
  | ⟨0, _⟩ => show 0 + b.val + 0 = b.val; omega
  | ⟨1, _⟩ =>
    show min (idx (GatherDims.siIdx gather_S128x6554_S128x16x1_S128x16_n_1_0_0_1_2_11 (ix2 b i) _)).toInt.toNat (6554 - 1) + 0 + 0 = r.val
    rw [hsi, hr]
    have := r.isLt
    omega

/-- What the sort leaves in second place is where the keys come from. -/
theorem sort_at (x y : S128x6554.Idx → BitVec 32) (b : Fin 128) (i : Fin 6554) :
    (Host.sort2 S128x6554 1 comparator_i32_i32_d1 x y).2 (ix2 b i)
      = y (ix2 b (sortedFrom (fun k k' : Fin 6554 => comparator_i32_i32_d1 (x (ix2 b k), y (ix2 b k)) (x (ix2 b k'), y (ix2 b k')) == 1#1) i)) := by
  have al : ∀ k : Fin 6554, Shape.Idx.along (s := S128x6554) (ix2 b i) (1 : Fin 2) k = ix2 b k := fun k => funext fun (a : Fin 2) => by
    match a with
    | ⟨0, _⟩ => rfl
    | ⟨1, _⟩ => rfl
  unfold Host.sort2
  have hd : (1 : ℕ) < S128x6554.rank := by decide
  rw [dif_pos hd]
  show y (Shape.Idx.along (s := S128x6554) (ix2 b i) (1 : Fin 2) _) = _
  refine congrArg y ((al _).trans (congrArg (ix2 b) ?_))
  show sortedFrom (fun k k' : Fin 6554 => comparator_i32_i32_d1
      (x (Shape.Idx.along (s := S128x6554) (ix2 b i) (1 : Fin 2) k), y (Shape.Idx.along (s := S128x6554) (ix2 b i) (1 : Fin 2) k))
      (x (Shape.Idx.along (s := S128x6554) (ix2 b i) (1 : Fin 2) k'), y (Shape.Idx.along (s := S128x6554) (ix2 b i) (1 : Fin 2) k')) == 1#1) i = _
  exact congrArg (fun B => sortedFrom B i) (funext fun k => funext fun k' => by rw [al, al])

/-! ## Words -/

theorem toInt_word (n : ℕ) (h : n < 2 ^ 31) : (BitVec.ofNat 32 n).toInt = n := by
  rw [BitVec.toInt_eq_toNat_cond]
  simp only [BitVec.toNat_ofNat]
  omega

theorem not_neg (n : ℕ) (h : n < 2 ^ 31) : IntOp.cmpi .slt (BitVec.ofNat 32 n) 0#32 = 0#1 := by
  show BitVec.ofBool (BitVec.slt (BitVec.ofNat 32 n) 0#32) = 0#1
  have e : BitVec.slt (BitVec.ofNat 32 n) 0#32 = false := by
    unfold BitVec.slt
    rw [toInt_word n h]
    exact decide_eq_false (by show ¬ (n : ℤ) < 0; omega)
  rw [e]; rfl

theorem in_bounds (n k : ℕ) (h : n ≤ k) (hk : k < 2 ^ 31) :
    IntOp.andi (IntOp.cmpi .sge (BitVec.ofNat 32 n) 0#32) (IntOp.cmpi .sle (BitVec.ofNat 32 n) (BitVec.ofNat 32 k)) = 1#1 := by
  rw [andi_one]
  constructor
  · show BitVec.ofBool (BitVec.sle 0#32 (BitVec.ofNat 32 n)) = 1#1
    unfold BitVec.sle
    rw [ofBool_one, toInt_word n (by omega)]
    show (0 : ℤ) ≤ n
    omega
  · show BitVec.ofBool (BitVec.sle (BitVec.ofNat 32 n) (BitVec.ofNat 32 k)) = 1#1
    unfold BitVec.sle
    rw [ofBool_one, toInt_word n (by omega), toInt_word k hk]
    omega

theorem fold_one {ι : Type} (f : ι → BitVec 1) (S : Finset ι) (h : ∀ x, f x = 1#1) : Finset.fold IntOp.andi 1#1 f S = 1#1 := by
  classical
  induction S using Finset.induction_on with
  | empty => rfl
  | insert a S ha ih => rw [Finset.fold_insert ha, ih, h a]; rfl

variable (V : Valuation τ sig (Elt Ideal))

/-! ## The samples -/

theorem every_tenth (s : Fin 6554) : res_main_call2_v5 V (ix2 s 0) = BitVec.ofNat 32 (10 * s.val) := by
  pointwise [res_main_call2_v5, res_main_v20]
  have e : IntOp.addi (0#32) (IntOp.muli (10#32) (BitVec.ofNat 32 s.val)) = BitVec.ofNat 32 (10 * s.val) := by
    rw [BitVec.ofNat_mul]
    exact BitVec.zero_add _
  rw [e, not_neg _ (by omega)]
  rfl

theorem every_tenth' (s : Fin 6554) : res_main_call3_v5 V (ix2 s 0) = BitVec.ofNat 32 (10 * s.val) := every_tenth V s

theorem all_in (x : S6554x1.Idx) : IntOp.andi (IntOp.cmpi .sge (res_main_call2_v5 V x) 0#32) (IntOp.cmpi .sle (res_main_call2_v5 V x) 65535#32) = 1#1 := by
  idx_vars x
  obtain rfl : x1 = 0 := Subsingleton.elim (α := Fin 1) _ _
  rw [every_tenth]
  exact in_bounds (10 * x0.val) 65535 (by omega) (by omega)

/-- The labels of the samples. -/
theorem v21_at (s : Fin 6554) (l : Fin 50) (c : Fin 2) :
    res_main_v21 V (ix3 s l c) = V (Proc.devRef .tc main_arg5) (ix3 (⟨10 * s.val, by omega⟩ : Fin 65536) l c) := by
  pointwise [res_main_v21]
  refine (congrArg (fun c => Scalar.select c _ _) (fold_one _ _ (all_in V))).trans ?_
  rw [select_eq, if_pos rfl]
  refine gather_labels _ _ s l c ⟨10 * s.val, by omega⟩ ?_
  rw [every_tenth]
  exact toInt_word _ (by omega)

/-- A query's positives. -/
def nearR (b : Fin 128) (s : ℕ) : Prop :=
  ∃ h : s < 6554, Ideal.ofBits FTy.f32 1056964608#32 ≤ Ideal.div (∑ l : Fin 50, pairR (V (Proc.devRef .tc main_arg1) (ix3 b l 0)) (V (Proc.devRef .tc main_arg1) (ix3 b l 1))
    (V (Proc.devRef .tc main_arg5) (ix3 (⟨10 * s, by omega⟩ : Fin 65536) l 0)) (V (Proc.devRef .tc main_arg5) (ix3 (⟨10 * s, by omega⟩ : Fin 65536) l 1)))
    (Ideal.ofBits FTy.f32 1112014848#32)

instance (b : Fin 128) : DecidablePred (nearR V b) := fun _ => Classical.propDecidable _

theorem v40_at (b : Fin 128) (s : Fin 6554) : res_main_v40 V (ix2 b s) = 1#1 ↔ nearR V b s.val := by
  pointwise [res_main_v40]
  rw [ofBool_one]
  simp only [Fin.sum_univ_two, v21_at]
  exact ⟨fun h => ⟨s.isLt, h⟩, fun ⟨_, h⟩ => h⟩

/-! ## The order -/

theorem v46_at (b : Fin 128) (s : Fin 6554) : res_main_v46 V (ix2 b s) = BitVec.ofNat 32 (key 6554 (fun s => nearR V b s.val) s) := by
  pointwise [res_main_v46, res_main_v41]
  rw [select_eq]
  unfold key
  by_cases h : nearR V b s.val
  · rw [if_pos ((v40_at V b s).mpr h), if_pos h]
  · rw [if_neg fun h' => h ((v40_at V b s).mp h'), if_neg h, BitVec.ofNat_add]
    rfl

/-- Where the reference's sort takes its numbers from. -/
def order (b : Fin 128) : Fin 6554 → Fin 6554 :=
  sortedFrom fun k k' => decide (key 6554 (fun s => nearR V b s.val) k < key 6554 (fun s => nearR V b s.val) k')

theorem key_lt {p : Fin 6554 → Prop} [DecidablePred p] (s : Fin 6554) : key 6554 p s < 13108 := by
  unfold key
  split <;> omega

theorem order_bij (b : Fin 128) : Function.Bijective (order V b) := ⟨sortedFrom_injective _, sortedFrom_surjective _⟩

theorem order_lt (b : Fin 128) (i j : Fin 6554) (h : i < j) :
    key 6554 (fun s => nearR V b s.val) (order V b i) < key 6554 (fun s => nearR V b s.val) (order V b j) := by
  have h1 := sortedFrom_noInversion (fun k k' => decide (key 6554 (fun s => nearR V b s.val) k < key 6554 (fun s => nearR V b s.val) k'))
    (fun k k' => decide (key 6554 (fun s => nearR V b s.val) k < key 6554 (fun s => nearR V b s.val) k'))
    (fun a c h => by
      have := of_decide_eq_true h
      exact decide_eq_false (by omega))
    (fun _ _ h => h)
    (fun a c e h1 h2 => by
      have h1' := of_decide_eq_false h1
      have h2' := of_decide_eq_false h2
      exact decide_eq_false (by omega)) i j h
  have h2 : ¬ key 6554 (fun s => nearR V b s.val) (order V b j) < key 6554 (fun s => nearR V b s.val) (order V b i) := of_decide_eq_false h1
  have h3 : order V b i ≠ order V b j := fun e => (ne_of_lt h) ((order_bij V b).1 e)
  have h4 : key 6554 (fun s => nearR V b s.val) (order V b i) ≠ key 6554 (fun s => nearR V b s.val) (order V b j) :=
    fun e => h3 (key_inj (fun s : Fin 6554 => nearR V b s.val) e)
  exact lt_of_le_of_ne (not_lt.mp h2) h4

theorem bit_cases (w : BitVec 1) (h : ¬ w = 1#1) : w = 0#1 := by revert h; revert w; decide

theorem v48_at (b : Fin 128) (i : Fin 16) : res_main_v48 V (ix2 b i) = BitVec.ofNat 32 (order V b (i.castLE (by decide))).val := by
  pointwise [res_main_v48]
  refine (sort_at _ _ b _).trans ?_
  have e : (fun k k' : Fin 6554 => comparator_i32_i32_d1 (res_main_v46 V (ix2 b k), res_main_call7_v0 V (ix2 b k)) (res_main_v46 V (ix2 b k'), res_main_call7_v0 V (ix2 b k')) == 1#1)
      = fun k k' => decide (key 6554 (fun s => nearR V b s.val) k < key 6554 (fun s => nearR V b s.val) k') := by
    funext k k'
    unfold comparator_i32_i32_d1
    have h := slt_iff (key 6554 (fun s => nearR V b s.val) k) (key 6554 (fun s => nearR V b s.val) k')
      (lt_trans (key_lt k) (by decide)) (lt_trans (key_lt k') (by decide))
    rw [← v46_at, ← v46_at] at h
    rw [Bool.eq_iff_iff, beq_iff_eq, decide_eq_true_iff]
    exact h
  rw [e]
  pointwise [res_main_call7_v0]
  rfl

theorem c8_at (b : Fin 128) (i : Fin 16) : res_main_call8_v5 V (ix3 b i 0) = BitVec.ofNat 32 (order V b (i.castLE (by decide))).val := by
  have hl := (order V b (i.castLE (by decide))).isLt
  pointwise [res_main_call8_v5]
  rw [v48_at, not_neg _ (by omega)]
  rfl

theorem c9_at (b : Fin 128) (i : Fin 16) :
    res_main_call9_v5 V (ix2 (⟨b.val * 16 + i.val, by omega⟩ : Fin 2048) 0) = BitVec.ofNat 32 (order V b (i.castLE (by decide))).val := by
  have hl := (order V b (i.castLE (by decide))).isLt
  pointwise [res_main_call9_v5, res_main_v51]
  rw [v48_at, not_neg _ (by omega)]
  rfl

/-- The weight of a place: one for a positive, none for another. -/
theorem v50_at (b : Fin 128) (i : Fin 16) : res_main_v50 V (ix2 b i) = if nearR V b (order V b (i.castLE (by decide))).val then (1 : EReal) else 0 := by
  pointwise [res_main_v50]
  rw [fold_one, select_eq, if_pos rfl]
  · rw [gather_mask _ _ b i (order V b (i.castLE (by decide))) (by rw [c8_at]; exact toInt_word _ (by have := (order V b (i.castLE (by decide))).isLt; omega))]
    have e := v40_at V b (order V b (i.castLE (by decide)))
    show (((res_main_v40 V (ix2 b (order V b (i.castLE (by decide)))) : BitVec 1).toNat : ℝ) : EReal) = _
    by_cases h : nearR V b (order V b (i.castLE (by decide))).val
    · rw [if_pos h, e.mpr h]; simp
    · have e0 : (res_main_v40 V (ix2 b (order V b (i.castLE (by decide)))) : BitVec 1) = 0#1 := bit_cases _ fun q => h (e.mp q)
      rw [if_neg h, e0]; simp
  · intro x
    idx_vars x
    obtain rfl : x2 = 0 := Subsingleton.elim (α := Fin 1) _ _
    rw [c8_at]
    exact in_bounds _ 6553 (by have := (order V b (i.castLE (by decide))).isLt; omega) (by omega)

/-- A sample before it is normalised, from the rows and the two weights. -/
def row (x : S65536x256.Idx → EReal) (wk wq : S256x128.Idx → EReal) (s : Fin 6554) (d : Fin 128) : EReal :=
  ∑ k : Fin 256, x (ix2 (⟨10 * s.val, by omega⟩ : Fin 65536) k) * (Ideal.ofBits FTy.f32 1065336439#32 * wk (ix2 k d) + Ideal.ofBits FTy.f32 981668463#32 * wq (ix2 k d))

def rowR (s : Fin 6554) : Fin 128 → EReal :=
  row (V (Proc.devRef .tc main_arg2)) (V (Proc.devRef .tc main_arg4)) (V (Proc.devRef .tc main_arg3)) s

theorem v5_at (s : Fin 6554) (d : Fin 128) : res_main_v5 V (ix2 (⟨10 * s.val, by omega⟩ : Fin 65536) d) = rowR V s d := by
  pointwise [res_main_v5]
  rfl

theorem v15_at (b d : Fin 128) : res_main_v15 V (ix2 b d) = qdir (V (Proc.devRef .tc main_arg0)) b d := by
  pointwise [res_main_v15, qdir]

/-- The samples picked. -/
theorem v53_at (b : Fin 128) (i : Fin 16) (d : Fin 128) : res_main_v53 V (ix3 b i d)
    = Ideal.div (rowR V (order V b (i.castLE (by decide))) d)
        (max (Ideal.sqrt (∑ e, rowR V (order V b (i.castLE (by decide))) e * rowR V (order V b (i.castLE (by decide))) e)) (Ideal.ofBits FTy.f32 841731191#32)) := by
  have hl := (order V b (i.castLE (by decide))).isLt
  pointwise [res_main_v53]
  rw [fold_one, select_eq, if_pos rfl]
  · rw [gather_picked _ _ _ d (order V b (i.castLE (by decide))) (by rw [c9_at]; exact toInt_word _ (by omega))]
    pointwise
    rw [fold_one, select_eq, if_pos rfl]
    · rw [gather_rows _ _ (order V b (i.castLE (by decide))) d ⟨10 * (order V b (i.castLE (by decide))).val, by omega⟩ (by rw [every_tenth']; exact toInt_word _ (by omega))]
      pointwise
      simp only [v5_at]
    · exact all_in V
  · intro x
    idx_vars x
    obtain rfl : x1 = 0 := Subsingleton.elim (α := Fin 1) _ _
    obtain ⟨b', i', rfl⟩ : ∃ (b' : Fin 128) (i' : Fin 16), x0 = ⟨b'.val * 16 + i'.val, by omega⟩ :=
      ⟨⟨x0.val / 16, by omega⟩, ⟨x0.val % 16, by omega⟩, Fin.ext (by show x0.val = x0.val / 16 * 16 + x0.val % 16; omega)⟩
    rw [c9_at]
    exact in_bounds _ 6553 (by have := (order V b' (i'.castLE (by decide))).isLt; omega) (by omega)

/-! ## The mean -/

/-- The loss of sample `s` against query `b`. -/
def lossR (b : Fin 128) (s : Fin 6554) : EReal :=
  el (qdir (V (Proc.devRef .tc main_arg0)) b) (Ideal.sqrt (∑ d, qdir (V (Proc.devRef .tc main_arg0)) b d * qdir (V (Proc.devRef .tc main_arg0)) b d)) (rowR V s)

/-- The mean of the losses. -/
def meanR : EReal :=
  Ideal.div (∑ b : Fin 128, Ideal.div (∑ s : Fin 6554, if early (nearR V b) s.val then lossR V b s else 0)
    (max (∑ s : Fin 6554, if early (nearR V b) s.val then (1 : EReal) else 0) 1)) (Ideal.ofBits FTy.f32 1124073472#32)

theorem mul_weight (x : EReal) (p : Prop) [Decidable p] : x * (if p then (1 : EReal) else 0) = if p then x else 0 := by
  split <;> simp

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = (fun _ => meanR (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (run m ρ)
  funext j
  pointwise
  simp only [v53_at, v50_at, v15_at, mul_weight]
  generalize StableHlo.launchContents m c = V
  have e : ∀ b : Fin 128, ∀ s : Fin 6554, -Ideal.log (Ideal.div 1 (1 + Ideal.exp (-Ideal.div (Ideal.div (∑ d, qdir (V (Proc.devRef .tc main_arg0)) b d
        * Ideal.div (rowR V s d) (max (Ideal.sqrt (∑ e, rowR V s e * rowR V s e)) (Ideal.ofBits FTy.f32 841731191#32)))
      (max (Ideal.sqrt (∑ d, Ideal.div (rowR V s d) (max (Ideal.sqrt (∑ e, rowR V s e * rowR V s e)) (Ideal.ofBits FTy.f32 841731191#32))
            * Ideal.div (rowR V s d) (max (Ideal.sqrt (∑ e, rowR V s e * rowR V s e)) (Ideal.ofBits FTy.f32 841731191#32)))
          * Ideal.sqrt (∑ d, qdir (V (Proc.devRef .tc main_arg0)) b d * qdir (V (Proc.devRef .tc main_arg0)) b d))
        (Ideal.ofBits FTy.f32 841731191#32))) (Ideal.ofBits FTy.f32 1056964608#32))) + Ideal.ofBits FTy.f32 730643660#32) = lossR V b s := by
    intro b s
    unfold lossR el
    rw [zero_sub, mul_comm (Ideal.sqrt (∑ d, Ideal.div _ _ * _))]
    rfl
  simp only [e]
  unfold meanR
  have h : ∀ b : Fin 128, ∀ f : Fin 6554 → EReal,
      (∑ i : Fin 16, if nearR V b (order V b (i.castLE (by decide))).val then f (order V b (i.castLE (by decide))) else 0) = ∑ s : Fin 6554, if early (nearR V b) s.val then f s else 0 :=
    fun b f => sum_first (by decide) (nearR V b) (order V b) (order_bij V b) (order_lt V b) f
  have h1 := fun b => h b (lossR V b)
  have h2 := fun b => h b fun _ => 1
  simp only [h1, h2]

end Cert.Proof.Loss

end
-- ==== Proof.Pre.lean ====
/-
  What the precondition says of the labels.
-/
module

public import proofs.«01_k».proof.Proof.LossAt
public import proofs.«01_k».proof.Proof.Gen.Pre_labels_apart_from_zero
public import Idealize.ShloMosaic.Lib.Pointwise
public import Idealize.ShloMosaic.Lib.ReduceAll

@[expose] public section

set_option maxRecDepth 16384

noncomputable section

namespace Cert.Proof.Loss

open Cert.Pre_labels_apart_from_zero
open Idealize.ShloMosaic

theorem either (p q : Prop) [Decidable p] [Decidable q] (h : IntOp.ori (BitVec.ofBool (decide p)) (BitVec.ofBool (decide q)) = 1#1) : p ∨ q := by
  by_cases hp : p
  · exact Or.inl hp
  · refine Or.inr (by_contra fun hq => ?_)
    rw [decide_eq_false hp, decide_eq_false hq] at h
    exact absurd h (by decide)

theorem real_of_lt (x : EReal) (h : max x (-x) < ⊤) : x ≠ ⊤ ∧ x ≠ ⊥ := by
  constructor
  · rintro rfl
    exact absurd (lt_of_le_of_lt (le_max_left _ _) h) (lt_irrefl _)
  · rintro rfl
    exact absurd (lt_of_le_of_lt (le_max_right _ _) h) (by rw [EReal.neg_bot]; exact lt_irrefl _)

/-- The samples' labels are real, and the squares of a pair of labels add up to zero or to `eps` at least. -/
theorem pre_read (a0 : S128x128.Idx → EReal) (a1 : S128x50x2.Idx → EReal) (a2 : S65536x256.Idx → EReal) (a3 a4 : S256x128.Idx → EReal) (a5 : S65536x50x2.Idx → EReal)
    (h : fn (F := Ideal) a0 a1 a2 a3 a4 a5 = fun _ => 1#1) :
    (∀ (s : Fin 6554) (l : Fin 50) (c : Fin 2), a5 (ix3 (⟨10 * s.val, by omega⟩ : Fin 65536) l c) ≠ ⊤ ∧ a5 (ix3 (⟨10 * s.val, by omega⟩ : Fin 65536) l c) ≠ ⊥)
    ∧ (∀ (b : Fin 128) (l : Fin 50), a1 (ix3 b l 0) * a1 (ix3 b l 0) + a1 (ix3 b l 1) * a1 (ix3 b l 1) = 0
        ∨ Ideal.ofBits .f32 841731191#32 ≤ a1 (ix3 b l 0) * a1 (ix3 b l 0) + a1 (ix3 b l 1) * a1 (ix3 b l 1))
    ∧ (∀ (s : Fin 6554) (l : Fin 50), a5 (ix3 (⟨10 * s.val, by omega⟩ : Fin 65536) l 0) * a5 (ix3 (⟨10 * s.val, by omega⟩ : Fin 65536) l 0) + a5 (ix3 (⟨10 * s.val, by omega⟩ : Fin 65536) l 1) * a5 (ix3 (⟨10 * s.val, by omega⟩ : Fin 65536) l 1) = 0
        ∨ Ideal.ofBits .f32 841731191#32 ≤ a5 (ix3 (⟨10 * s.val, by omega⟩ : Fin 65536) l 0) * a5 (ix3 (⟨10 * s.val, by omega⟩ : Fin 65536) l 0) + a5 (ix3 (⟨10 * s.val, by omega⟩ : Fin 65536) l 1) * a5 (ix3 (⟨10 * s.val, by omega⟩ : Fin 65536) l 1)) := by
  have h' := congrFun h (Shape.Idx.first (by decide : 0 < S_.numel))
  unfold fn fn_part1 fn_part2 at h'
  dsimp only at h'
  obtain ⟨h12, h3⟩ := IntOp.andi_eq_one.1 h'
  obtain ⟨h1, h2⟩ := IntOp.andi_eq_one.1 h12
  have k1 := fun s l c => Host.reduce_andi_all _ _ _ _ _ h1 (ix3 s l c)
  have k2 := fun b l => Host.reduce_andi_all _ _ _ _ _ h2 (ix2 b l)
  have k3 := fun s l => Host.reduce_andi_all _ _ _ _ _ h3 (ix2 s l)
  refine ⟨fun s l c => ?_, fun b l => ?_, fun s l => ?_⟩
  · have k := k1 s l c
    revert k
    pointwise
    rw [ofBool_one, lit_top]
    exact fun k => real_of_lt _ k
  · have k := k2 b l
    revert k
    pointwise
    exact either _ _
  · have k := k3 s l
    revert k
    pointwise
    exact either _ _

end Cert.Proof.Loss

end
-- ==== Proof.Same.lean ====
/-
  Kernel and reference have the same mean: the same labels, rows and weights go into both, and a query's positives are
  the same samples in both, since the cosines of two pairs of labels agree.
-/
module

public import proofs.«01_k».proof.Proof.Picked
public import proofs.«01_k».proof.Proof.LossValue
public import proofs.«01_k».proof.Proof.RefValue
public import proofs.«01_k».proof.Proof.Pre

@[expose] public section

set_option maxRecDepth 16384

noncomputable section

namespace Cert.Proof.Loss

open Cert.KernelIdeal Cert.KernelIdeal.Gen Cert.Proof.Gather
open Idealize.ShloMosaic

/-! ## What the kernel's second call reads -/

theorem cast_lo (x : S128x50x2.Idx → EReal) (b : Fin 128) (l : Fin 50) :
    shapeCast S128x100 x shapeCasts_S128x50x2_S128x100 (ix2 b (⟨2 * l.val, by omega⟩ : Fin 100)) = x (ix3 b l 0) := by
  pointwise
  congr 2
  exact Fin.ext (by show 2 * l.val % 2 = 0; omega)

theorem cast_hi (x : S128x50x2.Idx → EReal) (b : Fin 128) (l : Fin 50) :
    shapeCast S128x100 x shapeCasts_S128x50x2_S128x100 (ix2 b (⟨2 * l.val + 1, by omega⟩ : Fin 100)) = x (ix3 b l 1) := by
  pointwise
  congr 2
  exact Fin.ext (by show (2 * l.val + 1) % 2 = 1; omega)

theorem queue_at (x : S65536x50x2.Idx → EReal) (r : Fin 65536) (c : Fin 100) :
    shapeCast S65536x100 x shapeCasts_S65536x50x2_S65536x100 (ix2 r c) = x (ix3 r (⟨c.val / 2, by omega⟩ : Fin 50) (⟨c.val % 2, by omega⟩ : Fin 2)) := by
  pointwise

theorem queue_lo (x : S65536x50x2.Idx → EReal) (r : Fin 65536) (l : Fin 50) :
    shapeCast S65536x100 x shapeCasts_S65536x50x2_S65536x100 (ix2 r (⟨2 * l.val, by omega⟩ : Fin 100)) = x (ix3 r l 0) := by
  pointwise
  congr 2
  exact Fin.ext (by show 2 * l.val % 2 = 0; omega)

theorem queue_hi (x : S65536x50x2.Idx → EReal) (r : Fin 65536) (l : Fin 50) :
    shapeCast S65536x100 x shapeCasts_S65536x50x2_S65536x100 (ix2 r (⟨2 * l.val + 1, by omega⟩ : Fin 100)) = x (ix3 r l 1) := by
  pointwise
  congr 2
  exact Fin.ext (by show (2 * l.val + 1) % 2 = 1; omega)

theorem early_congr {p q : ℕ → Prop} [hp : DecidablePred p] [hq : DecidablePred q] (h : ∀ n, p n ↔ q n) (s : ℕ) : early p s ↔ early q s := by
  obtain rfl : p = q := funext fun n => propext (h n)
  obtain rfl : hp = hq := Subsingleton.elim _ _
  exact Iff.rfl

/-! ## The two means -/

variable (m : (ℓ : Loc nD τ sig) → Buf (Elt Ideal) ℓ) (d : Dev nD)

/-- The arguments, as arrays of extended reals. -/
abbrev A0 : S128x128.Idx → EReal := m (at' d main_arg0)
abbrev A1 : S128x50x2.Idx → EReal := m (at' d main_arg1)
abbrev A2 : S65536x256.Idx → EReal := m (at' d main_arg2)
abbrev A3 : S256x128.Idx → EReal := m (at' d main_arg3)
abbrev A4 : S256x128.Idx → EReal := m (at' d main_arg4)
abbrev A5 : S65536x50x2.Idx → EReal := m (at' d main_arg5)

theorem xl_lo (b : Fin 128) (l : Fin 50) : lab0 (ins m d).xl b l = A1 m d (ix3 b l 0) :=
  (congrFun (V3_v9 m d) _).trans (cast_lo (A1 m d) b l)

theorem xl_hi (b : Fin 128) (l : Fin 50) : lab1 (ins m d).xl b l = A1 m d (ix3 b l 1) :=
  (congrFun (V3_v9 m d) _).trans (cast_hi (A1 m d) b l)

theorem labs_at (r : Fin 65536) (c : Fin 100) : (ins m d).labs (ix2 r c) = A5 m d (ix3 r (⟨c.val / 2, by omega⟩ : Fin 50) (⟨c.val % 2, by omega⟩ : Fin 2)) :=
  (congrFun (V3_v10 m d) _).trans (queue_at (A5 m d) r c)

theorem labs_lo (r : Fin 65536) (l : Fin 50) : (ins m d).labs (ix2 r (⟨2 * l.val, by omega⟩ : Fin 100)) = A5 m d (ix3 r l 0) :=
  (congrFun (V3_v10 m d) _).trans (queue_lo (A5 m d) r l)

theorem labs_hi (r : Fin 65536) (l : Fin 50) : (ins m d).labs (ix2 r (⟨2 * l.val + 1, by omega⟩ : Fin 100)) = A5 m d (ix3 r l 1) :=
  (congrFun (V3_v10 m d) _).trans (queue_hi (A5 m d) r l)

theorem rows_at (s : Fin 6554) (k : Fin 256) :
    (ins m d).rows (ix2 (⟨s.val % 6656, Nat.mod_lt _ (by decide)⟩ : Fin 6656) k) = A2 m d (ix2 (⟨10 * s.val, by omega⟩ : Fin 65536) k) := by
  refine (congrFun (V3_picked m d) _).trans ?_
  show A2 m d (ix2 (⟨min (10 * (s.val % 6656)) 65530, _⟩ : Fin 65536) k) = _
  congr 2
  exact Fin.ext (by show min (10 * (s.val % 6656)) 65530 = 10 * s.val; omega)

/-- The kernel's share of a label pair. -/
theorem fiftieth : Named.named (F := Ideal) κ "inv_l" (φ := .f32) 1017370378#32 = ((1 / 50 : ℝ) : EReal) :=
  IdealRules.named_const.ideal_named_scalar κ "inv_l" _ _ rfl

variable (V : Valuation Cert.ReferenceIdeal.τ Cert.ReferenceIdeal.sig (Elt Ideal))

/-- The reference starts from the same arguments. -/
structure Alike : Prop where
  a0 : V (Proc.devRef .tc Cert.ReferenceIdeal.main_arg0) = A0 m d
  a1 : V (Proc.devRef .tc Cert.ReferenceIdeal.main_arg1) = A1 m d
  a2 : V (Proc.devRef .tc Cert.ReferenceIdeal.main_arg2) = A2 m d
  a3 : V (Proc.devRef .tc Cert.ReferenceIdeal.main_arg3) = A3 m d
  a4 : V (Proc.devRef .tc Cert.ReferenceIdeal.main_arg4) = A4 m d
  a5 : V (Proc.devRef .tc Cert.ReferenceIdeal.main_arg5) = A5 m d

variable (h : Alike m d V) (hpre : Cert.Pre_labels_apart_from_zero.fn (F := Ideal) (A0 m d) (A1 m d) (A2 m d) (A3 m d) (A4 m d) (A5 m d) = fun _ => 1#1)

include h hpre in
/-- The positives are the same. -/
theorem near_same (b : Fin 128) (s : ℕ) : near (ins m d) b s ↔ nearR V b s := by
  obtain ⟨p1, p2, p3⟩ := pre_read _ _ _ _ _ _ hpre
  unfold near nearR
  refine exists_congr fun hs => ?_
  unfold alike
  rw [fiftieth, lit_fifty, Ideal.div_coe (by norm_num), h.a1, h.a5]
  simp only [xl_lo, xl_hi, labs_lo, labs_hi]
  have e : ∀ l : Fin 50, pairK (A1 m d (ix3 b l 0)) (A1 m d (ix3 b l 1)) (A5 m d (ix3 (⟨10 * s, by omega⟩ : Fin 65536) l 0)) (A5 m d (ix3 (⟨10 * s, by omega⟩ : Fin 65536) l 1))
      = pairR (A1 m d (ix3 b l 0)) (A1 m d (ix3 b l 1)) (A5 m d (ix3 (⟨10 * s, by omega⟩ : Fin 65536) l 0)) (A5 m d (ix3 (⟨10 * s, by omega⟩ : Fin 65536) l 1)) := by
    intro l
    have q0 := p1 ⟨s, hs⟩ l 0
    have q1 := p1 ⟨s, hs⟩ l 1
    have q3 := p3 ⟨s, hs⟩ l
    have q2 := p2 b l
    dsimp only at q0 q1 q3
    generalize A5 m d (ix3 (⟨10 * s, by omega⟩ : Fin 65536) l 0) = y0 at q0 q3 ⊢
    generalize A5 m d (ix3 (⟨10 * s, by omega⟩ : Fin 65536) l 1) = y1 at q1 q3 ⊢
    lift y0 to ℝ using q0
    lift y1 to ℝ using q1
    exact pair_same _ _ y0 y1 q2 q3
  simp only [e]

include h in
/-- So are the losses. -/
theorem loss_same (b : Fin 128) (s : Fin 6554) : loss (ins m d) b s.val = lossR V b s := by
  unfold loss lossR rowR row
  rw [h.a0, h.a2, h.a3, h.a4]
  simp only [rows_at]
  rfl

include h hpre in
/-- So is the mean. -/
theorem mean_same (J : ℕ → FVec Ideal S2560x100 .f32) : (ins m d).mean J (ix2 0 0) = meanR V := by
  obtain ⟨p1, -, -⟩ := pre_read _ _ _ _ _ _ hpre
  have hl : RealLabels (ins m d) := fun s c => by rw [labs_at]; exact p1 s _ _
  rw [mean_at (ins m d) J hl]
  unfold meanR
  have e1 : ∀ b : Fin 128, (∑ s : Fin 6554, if early (near (ins m d) b) s.val then loss (ins m d) b s.val else 0) = ∑ s : Fin 6554, if early (nearR V b) s.val then lossR V b s else 0 :=
    fun b => Finset.sum_congr rfl fun s _ => if_congr (early_congr (near_same m d V h hpre b) s.val) (loss_same m d V h b s) rfl
  have e2 : ∀ b : Fin 128, (∑ s : Fin 6554, if early (near (ins m d) b) s.val then (1 : EReal) else 0) = ∑ s : Fin 6554, if early (nearR V b) s.val then (1 : EReal) else 0 :=
    fun b => Finset.sum_congr rfl fun s _ => if_congr (early_congr (near_same m d V h hpre b) s.val) rfl rfl
  simp only [e1, e2]

end Cert.Proof.Loss

end
-- ==== Proof.lean ====
/-
  The certificate: the loss of the whole kernel, the SparseCore's gather and the TensorCore's loss. The kernel over the
  extended reals differs from the kernel at the bits in the name of one constant, so one run gives the frames of both
  (Proof/Main.lean). The loss that either program ends with is one sum over the samples (Proof/Same.lean).

  From the bottom up. The gather: Proof/Words.lean, the counters that the loop carries; Proof/Steps.lean, the views and
  what one trip moves; Proof/Trips.lean and Proof/Body.lean, the pipeline's loop by an invariant; Proof/Split.lean, the
  arrays dealt to the SparseCores and their subcores; Proof/Tile.lean, what one subcore does; Proof/Launch.lean, the
  host's arrays around the two calls; Proof/Picked.lean, the rows gathered. The loss: Proof/LossBody.lean, one grid
  point; Proof/LossRegion.lean, the grid; Proof/Main.lean, the whole program's run. Its value: Proof/Maths.lean, the
  facts about numbers; Proof/LossAt.lean, the body's values at an index; Proof/LossValue.lean, the kernel's mean;
  Proof/RefValue.lean, the reference's; Proof/Pre.lean, the precondition; Proof/Same.lean, the two means.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Main
public import proofs.«01_k».proof.Proof.Same
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_labels_apart_from_zero.Gen.facts

/-- At the bits a named constant is the word that the kernel has. -/
@[instance_reducible] def bitsNamed : Named Bits := ⟨fun _ _ {φ} b => Scalar.ofBits φ b⟩

/-- The kernel over the extended reals ends without fault, leaves its arguments unchanged and every semaphore at zero. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Gather.run_main (F := Ideal) m ρ)

theorem frame_kernelIdeal_pre : Cert.quiescent_KernelIdeal_pre_labels_apart_from_zero := fun m ρ _ => frame_kernelIdeal m ρ trivial

attribute [local instance] bitsNamed in
/-- The two kernels' bodies are the same at the bits. -/
theorem bodies_bits : Cert.Kernel.defs₀ (F := Bits) = Cert.KernelIdeal.defs₀ (F := Bits) := by
  funext p l a
  match p, l, a with
  | .scVector _ _, 0, _ => rfl
  | .scVector _ _, 1, _ => rfl
  | .tc, 0, _ => rfl
  | .tc, 1, (_, _) => rfl
  | .scScalar _, 0, _ => rfl
  | .scScalar _, 1, _ => rfl

attribute [local instance] bitsNamed in
theorem defs_bits : Cert.Kernel.defs (F := Bits) = Cert.KernelIdeal.defs (F := Bits) :=
  congrArg (fun D => Cert.KernelIdeal.sc.defs (Pipeline.defs (Cert.KernelIdeal.pcfgs (F := Bits)) D)) bodies_bits

attribute [local instance] bitsNamed in
/-- So does the kernel at the bits: the same run. -/
theorem frame_kernel : Cert.quiescent_Kernel := fun m ρ _ => by
  rw [defs_bits]
  exact (θ_run (Cert.KernelIdeal.defs (F := Bits)) _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Gather.run_main (F := Bits) m ρ)

/-- The reference over the extended reals ends without fault and leaves its arguments unchanged; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Loss.ref_run m ρ)

theorem frame_referenceIdeal_pre : Cert.quiescent_ReferenceIdeal_pre_labels_apart_from_zero := fun m ρ _ => frame_referenceIdeal m ρ trivial

/-- The constant named is the fiftieth. -/
theorem preserves : Cert.preserves_Kernel_KernelIdeal :=
  IdealRules.named_const.statement Cert.KernelIdeal.κ "inv_l" .f32 0x3CA3D70A#32 ((1 / 50 : ℝ) : EReal) rfl

/-- Over the extended reals, kernel and reference end with the same loss. -/
theorem algebraic : Cert.algebraic_KernelIdeal_ReferenceIdeal_pre_labels_apart_from_zero := fun m ρ m' ρ' hpre hm =>
  ⟨fun c => fun _ => Loss.meanR (StableHlo.launchContents m' c),
    (θ_run Cert.KernelIdeal.defs _ _).mono
      (fun r h c => by
        obtain ⟨k0, k1, k2, k3, k4, k5, J, k⟩ := h.1 c
        refine ⟨?_, k0, k1, k2, k3, k4, k5⟩
        refine k.trans ((Gather.V5_v12 m c J).trans ?_)
        obtain ⟨m0, m1, m2, m3, m4, m5⟩ := hm c
        have e := Loss.mean_same m c (StableHlo.launchContents m' c) ⟨m0, m1, m2, m3, m4, m5⟩ (hpre c) J
        funext j
        refine Eq.trans ?_ e
        show (Gather.ins m c).mean J _ = _
        congr 1
        funext (a : Fin 2)
        match a with
        | ⟨0, _⟩ => exact Subsingleton.elim (α := Fin 1) _ _
        | ⟨1, _⟩ => exact Subsingleton.elim (α := Fin 1) _ _)
      (Gather.run_main (F := Ideal) m ρ),
    (θ_run Cert.ReferenceIdeal.defs _ _).mono (fun _ h c => h c) (Loss.ref_run m' ρ')⟩

/-- All the claims together. -/
theorem claim : Cert.Claim :=
  ⟨Cert.Kernel.Gen.facts, Cert.KernelIdeal.Gen.facts, Cert.ReferenceIdeal.Gen.facts, Cert.Pre_labels_apart_from_zero.Gen.facts,
    frame_kernel, frame_kernelIdeal, frame_kernelIdeal_pre, frame_referenceIdeal, frame_referenceIdeal_pre, preserves, algebraic⟩

end Cert.Proof

end
